-- ==== Defs.lean ====
def Pre_KernelIdeal [hPre_grouped : Cert.Pre_grouped.Facts] (m : (ℓ : Loc Cert.KernelIdeal.nD Cert.KernelIdeal.τ Cert.KernelIdeal.sig) → Buf (Elt Ideal) ℓ) : Prop :=
  ∀ c : Dev Cert.KernelIdeal.nD,
    (Cert.Pre_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_KernelIdeal [hKernelIdeal : Cert.KernelIdeal.Facts] [hPre_grouped : Cert.Pre_grouped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v27_0)) (v1 : (c : Dev Cert.Kernel3Ideal.nD) → Buf (Elt Ideal) ((c.tc : Thread Cert.Kernel3Ideal.nD Cert.Kernel3Ideal.τ).loc Cert.Kernel3Ideal.main_v27_1)) (v2 : (c : Dev Cert.Kernel3Ideal.nD) → Buf (Elt Ideal) ((c.tc : Thread Cert.Kernel3Ideal.nD Cert.Kernel3Ideal.τ).loc Cert.Kernel3Ideal.main_v27_2)) (v3 : (c : Dev Cert.Kernel3Ideal.nD) → Buf (Elt Ideal) ((c.tc : Thread Cert.Kernel3Ideal.nD Cert.Kernel3Ideal.τ).loc Cert.Kernel3Ideal.main_v27_3)) (v4 : (c : Dev Cert.Kernel3Ideal.nD) → Buf (Elt Ideal) ((c.tc : Thread Cert.Kernel3Ideal.nD Cert.Kernel3Ideal.τ).loc Cert.Kernel3Ideal.main_v27_4)) (v5 : (c : Dev Cert.Kernel3Ideal.nD) → Buf (Elt Ideal) ((c.tc : Thread Cert.Kernel3Ideal.nD Cert.Kernel3Ideal.τ).loc Cert.Kernel3Ideal.main_v27_5)) (v6 : (c : Dev Cert.Kernel3Ideal.nD) → Buf (Elt Ideal) ((c.tc : Thread Cert.Kernel3Ideal.nD Cert.Kernel3Ideal.τ).loc Cert.Kernel3Ideal.main_v27_6)) (v7 : (c : Dev Cert.Kernel3Ideal.nD) → Buf (Elt Ideal) ((c.tc : Thread Cert.Kernel3Ideal.nD Cert.Kernel3Ideal.τ).loc Cert.Kernel3Ideal.main_v27_7)) (v8 : (c : Dev Cert.Kernel3Ideal.nD) → Buf (Elt Ideal) ((c.tc : Thread Cert.Kernel3Ideal.nD Cert.Kernel3Ideal.τ).loc Cert.Kernel3Ideal.main_v27_8)) (v9 : (c : Dev Cert.Kernel3Ideal.nD) → Buf (Elt Ideal) ((c.tc : Thread Cert.Kernel3Ideal.nD Cert.Kernel3Ideal.τ).loc Cert.Kernel3Ideal.main_v27_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27_0) = v0 c
          ∧ r.2.mem ((c.tc : Thread Cert.Kernel3Ideal.nD Cert.Kernel3Ideal.τ).loc Cert.Kernel3Ideal.main_v27_1) = v1 c
          ∧ r.2.mem ((c.tc : Thread Cert.Kernel3Ideal.nD Cert.Kernel3Ideal.τ).loc Cert.Kernel3Ideal.main_v27_2) = v2 c
          ∧ r.2.mem ((c.tc : Thread Cert.Kernel3Ideal.nD Cert.Kernel3Ideal.τ).loc Cert.Kernel3Ideal.main_v27_3) = v3 c
          ∧ r.2.mem ((c.tc : Thread Cert.Kernel3Ideal.nD Cert.Kernel3Ideal.τ).loc Cert.Kernel3Ideal.main_v27_4) = v4 c
          ∧ r.2.mem ((c.tc : Thread Cert.Kernel3Ideal.nD Cert.Kernel3Ideal.τ).loc Cert.Kernel3Ideal.main_v27_5) = v5 c
          ∧ r.2.mem ((c.tc : Thread Cert.Kernel3Ideal.nD Cert.Kernel3Ideal.τ).loc Cert.Kernel3Ideal.main_v27_6) = v6 c
          ∧ r.2.mem ((c.tc : Thread Cert.Kernel3Ideal.nD Cert.Kernel3Ideal.τ).loc Cert.Kernel3Ideal.main_v27_7) = v7 c
          ∧ r.2.mem ((c.tc : Thread Cert.Kernel3Ideal.nD Cert.Kernel3Ideal.τ).loc Cert.Kernel3Ideal.main_v27_8) = v8 c
          ∧ r.2.mem ((c.tc : Thread Cert.Kernel3Ideal.nD Cert.Kernel3Ideal.τ).loc Cert.Kernel3Ideal.main_v27_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v83) = v0 c
          ∧ r.2.mem ((c.tc : Thread Cert.Reference3Ideal.nD Cert.Reference3Ideal.τ).loc Cert.Reference3Ideal.main_v87) = v1 c
          ∧ r.2.mem ((c.tc : Thread Cert.Reference3Ideal.nD Cert.Reference3Ideal.τ).loc Cert.Reference3Ideal.main_v90) = v2 c
          ∧ r.2.mem ((c.tc : Thread Cert.Reference3Ideal.nD Cert.Reference3Ideal.τ).loc Cert.Reference3Ideal.main_v91) = v3 c
          ∧ r.2.mem ((c.tc : Thread Cert.Reference3Ideal.nD Cert.Reference3Ideal.τ).loc Cert.Reference3Ideal.main_v92) = v4 c
          ∧ r.2.mem ((c.tc : Thread Cert.Reference3Ideal.nD Cert.Reference3Ideal.τ).loc Cert.Reference3Ideal.main_v93) = v5 c
          ∧ r.2.mem ((c.tc : Thread Cert.Reference3Ideal.nD Cert.Reference3Ideal.τ).loc Cert.Reference3Ideal.main_v107) = v6 c
          ∧ r.2.mem ((c.tc : Thread Cert.Reference3Ideal.nD Cert.Reference3Ideal.τ).loc Cert.Reference3Ideal.main_v108) = v7 c
          ∧ r.2.mem ((c.tc : Thread Cert.Reference3Ideal.nD Cert.Reference3Ideal.τ).loc Cert.Reference3Ideal.main_v115) = v8 c
          ∧ r.2.mem ((c.tc : Thread Cert.Reference3Ideal.nD Cert.Reference3Ideal.τ).loc Cert.Reference3Ideal.main_v122) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_grouped : Cert.Pre_grouped.Facts) (hPre_routed : Cert.Pre_routed.Facts),
    quiescent_KernelIdeal (hKernelIdeal := hKernelIdeal) (hPre_grouped := hPre_grouped)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ algebraic_KernelIdeal_ReferenceIdeal_pre_routed (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_grouped.lean ====
abbrev S32768x1024 : Shape := ⟨2, ![32768, 1024]⟩
abbrev S32768x128 : Shape := ⟨2, ![32768, 128]⟩
abbrev S8x32768 : Shape := ⟨2, ![8, 32768]⟩
abbrev S32x1024x256 : Shape := ⟨3, ![32, 1024, 256]⟩
abbrev S32x256x1024 : Shape := ⟨3, ![32, 256, 1024]⟩
abbrev S1x1024 : Shape := ⟨2, ![1, 1024]⟩
abbrev S_ : Shape := ⟨0, ![]⟩
abbrev S1x32768 : Shape := ⟨2, ![1, 32768]⟩

class Facts : Prop where
  bcast_S_S8x32768 : S_.BroadcastsInDim S8x32768 (![] : Fin 0 → Fin S8x32768.rank)
  slices_S8x32768_S1x32768_0_0 : S8x32768.Slices ![0, 0] S1x32768
  slices_S8x32768_S1x32768_1_0 : S8x32768.Slices ![1, 0] S1x32768
  slices_S8x32768_S1x32768_2_0 : S8x32768.Slices ![2, 0] S1x32768
  slices_S8x32768_S1x32768_3_0 : S8x32768.Slices ![3, 0] S1x32768

variable [Facts]

def fn_part1 {F : FTy → Type} [FloatOps F] (main_v1 : IVec S8x32768 1) (main_v3 : IVec S8x32768 1) (main_v18 : IVec S1x32768 1) (main_v21 : IVec S1x32768 1) : IVec S1x32768 1 :=
  let main_v22 : IVec S1x32768 1 := (extractStridedSlice S1x32768 ![1, 0] · slices_S8x32768_S1x32768_1_0) main_v3
  let main_v23 : IVec S1x32768 1 := andi main_v21 main_v22
  let main_v24 : IVec S1x32768 1 := (extractStridedSlice S1x32768 ![3, 0] · slices_S8x32768_S1x32768_3_0) main_v3
  let main_v25 : IVec S1x32768 1 := andi main_v23 main_v24
  let main_v26 : IVec S1x32768 1 := ori main_v18 main_v25
  let main_v27 : IVec S1x32768 1 := (extractStridedSlice S1x32768 ![3, 0] · slices_S8x32768_S1x32768_3_0) main_v1
  let main_v28 : IVec S1x32768 1 := (extractStridedSlice S1x32768 ![0, 0] · slices_S8x32768_S1x32768_0_0) main_v3
  let main_v29 : IVec S1x32768 1 := andi main_v27 main_v28
  let main_v30 : IVec S1x32768 1 := (extractStridedSlice S1x32768 ![1, 0] · slices_S8x32768_S1x32768_1_0) main_v3
  let main_v31 : IVec S1x32768 1 := andi main_v29 main_v30
  let main_v32 : IVec S1x32768 1 := (extractStridedSlice S1x32768 ![2, 0] · slices_S8x32768_S1x32768_2_0) main_v3
  let main_v33 : IVec S1x32768 1 := andi main_v31 main_v32
  let main_v34 : IVec S1x32768 1 := ori main_v26 main_v33
  main_v34

def fn {F : FTy → Type} [FloatOps F] (main_arg0 : FVec F S32768x1024 .f32) (main_arg1 : FVec F S32768x1024 .bf16) (main_arg2 : FVec F S32768x128 .f32) (main_arg3 : FVec F S8x32768 .f32) (main_arg4 : FVec F S32x1024x256 .bf16) (main_arg5 : FVec F S32x1024x256 .bf16) (main_arg6 : FVec F S32x256x1024 .bf16) (main_arg7 : FVec F S1x1024 .f32) : IVec S1x32768 1 :=
  let main_cst : FVec F S_ .f32 := constant S_ .f32 0x3F800000#32
  let main_v0 : FVec F S8x32768 .f32 := broadcastInDim S8x32768 ![] bcast_S_S8x32768 main_cst
  let main_v1 : IVec S8x32768 1 := cmpf .oeq main_arg3 main_v0
  let main_cst_0 : FVec F S_ .f32 := constant S_ .f32 0x00000000#32
  let main_v2 : FVec F S8x32768 .f32 := broadcastInDim S8x32768 ![] bcast_S_S8x32768 main_cst_0
  let main_v3 : IVec S8x32768 1 := cmpf .oeq main_arg3 main_v2
  let main_v4 : IVec S1x32768 1 := (extractStridedSlice S1x32768 ![0, 0] · slices_S8x32768_S1x32768_0_0) main_v1
  let main_v5 : IVec S1x32768 1 := (extractStridedSlice S1x32768 ![1, 0] · slices_S8x32768_S1x32768_1_0) main_v3
  let main_v6 : IVec S1x32768 1 := andi main_v4 main_v5
  let main_v7 : IVec S1x32768 1 := (extractStridedSlice S1x32768 ![2, 0] · slices_S8x32768_S1x32768_2_0) main_v3
  let main_v8 : IVec S1x32768 1 := andi main_v6 main_v7
  let main_v9 : IVec S1x32768 1 := (extractStridedSlice S1x32768 ![3, 0] · slices_S8x32768_S1x32768_3_0) main_v3
  let main_v10 : IVec S1x32768 1 := andi main_v8 main_v9
  let main_v11 : IVec S1x32768 1 := (extractStridedSlice S1x32768 ![1, 0] · slices_S8x32768_S1x32768_1_0) main_v1
  let main_v12 : IVec S1x32768 1 := (extractStridedSlice S1x32768 ![0, 0] · slices_S8x32768_S1x32768_0_0) main_v3
  let main_v13 : IVec S1x32768 1 := andi main_v11 main_v12
  let main_v14 : IVec S1x32768 1 := (extractStridedSlice S1x32768 ![2, 0] · slices_S8x32768_S1x32768_2_0) main_v3
  let main_v15 : IVec S1x32768 1 := andi main_v13 main_v14
  let main_v16 : IVec S1x32768 1 := (extractStridedSlice S1x32768 ![3, 0] · slices_S8x32768_S1x32768_3_0) main_v3
  let main_v17 : IVec S1x32768 1 := andi main_v15 main_v16
  let main_v18 : IVec S1x32768 1 := ori main_v10 main_v17
  let main_v19 : IVec S1x32768 1 := (extractStridedSlice S1x32768 ![2, 0] · slices_S8x32768_S1x32768_2_0) main_v1
  let main_v20 : IVec S1x32768 1 := (extractStridedSlice S1x32768 ![0, 0] · slices_S8x32768_S1x32768_0_0) main_v3
  let main_v21 : IVec S1x32768 1 := andi main_v19 main_v20
  fn_part1 (F := F) main_v1 main_v3 main_v18 main_v21
-- ==== Pre_routed.lean ====
abbrev S32768x1024 : Shape := ⟨2, ![32768, 1024]⟩
abbrev S32768x128 : Shape := ⟨2, ![32768, 128]⟩
abbrev S8x32768 : Shape := ⟨2, ![8, 32768]⟩
abbrev S32x1024x256 : Shape := ⟨3, ![32, 1024, 256]⟩
abbrev S32x256x1024 : Shape := ⟨3, ![32, 256, 1024]⟩
abbrev S1x1024 : Shape := ⟨2, ![1, 1024]⟩
abbrev S_ : Shape := ⟨0, ![]⟩
abbrev S1x32768 : Shape := ⟨2, ![1, 32768]⟩
abbrev S128x32768 : Shape := ⟨2, ![128, 32768]⟩

class Facts : Prop where
  bcast_S_S8x32768 : S_.BroadcastsInDim S8x32768 (![] : Fin 0 → Fin S8x32768.rank)
  slices_S8x32768_S1x32768_0_0 : S8x32768.Slices ![0, 0] S1x32768
  slices_S8x32768_S1x32768_1_0 : S8x32768.Slices ![1, 0] S1x32768
  slices_S8x32768_S1x32768_2_0 : S8x32768.Slices ![2, 0] S1x32768
  slices_S8x32768_S1x32768_3_0 : S8x32768.Slices ![3, 0] S1x32768
  transposes_S32768x128_S128x32768_1_0 : S32768x128.Transposes [1, 0] S128x32768
  slices_S128x32768_S8x32768_0_0 : S128x32768.Slices ![0, 0] S8x32768
  bcast_S1x32768_S8x32768_0_1 : S1x32768.BroadcastsInDim S8x32768 (![0, 1] : Fin 2 → Fin S8x32768.rank)
  bcast_S_S1x32768 : S_.BroadcastsInDim S1x32768 (![] : Fin 0 → Fin S1x32768.rank)
  slices_S128x32768_S8x32768_8_0 : S128x32768.Slices ![8, 0] S8x32768
  slices_S128x32768_S8x32768_16_0 : S128x32768.Slices ![16, 0] S8x32768
  slices_S128x32768_S8x32768_24_0 : S128x32768.Slices ![24, 0] S8x32768

variable [Facts]

def fn_part4 {F : FTy → Type} [FloatOps F] (main_arg3 : FVec F S8x32768 .f32) (main_v35 : FVec F S128x32768 .f32) (main_v81 : IVec S8x32768 1) : IVec S8x32768 1 :=
  let main_v82 : FVec F S8x32768 .f32 := (extractStridedSlice S8x32768 ![24, 0] · slices_S128x32768_S8x32768_24_0) main_v35
  let main_cst_13 : FVec F S_ .f32 := constant S_ .f32 0x00000000#32
  let main_v83 : FVec F S8x32768 .f32 := broadcastInDim S8x32768 ![] bcast_S_S8x32768 main_cst_13
  let main_v84 : IVec S8x32768 1 := cmpf .oge main_v82 main_v83
  let main_v85 : IVec S8x32768 1 := andi main_v81 main_v84
  let main_cst_14 : FVec F S_ .f32 := constant S_ .f32 0x7F800000#32
  let main_v86 : FVec F S8x32768 .f32 := broadcastInDim S8x32768 ![] bcast_S_S8x32768 main_cst_14
  let main_v87 : IVec S8x32768 1 := cmpf .olt main_v82 main_v86
  let main_v88 : IVec S8x32768 1 := andi main_v85 main_v87
  let main_cst_15 : FVec F S_ .f32 := constant S_ .f32 0x00000000#32
  let main_v89 : FVec F S8x32768 .f32 := broadcastInDim S8x32768 ![] bcast_S_S8x32768 main_cst_15
  let main_v90 : IVec S8x32768 1 := cmpf .oeq main_v82 main_v89
  let main_v91 : FVec F S1x32768 .f32 := (extractStridedSlice S1x32768 ![3, 0] · slices_S8x32768_S1x32768_3_0) main_arg3
  let main_cst_16 : FVec F S_ .f32 := constant S_ .f32 0x3F800000#32
  let main_v92 : FVec F S1x32768 .f32 := broadcastInDim S1x32768 ![] bcast_S_S1x32768 main_cst_16
  let main_v93 : IVec S1x32768 1 := cmpf .oeq main_v91 main_v92
  let main_v94 : IVec S8x32768 1 := broadcastInDim S8x32768 ![0, 1] bcast_S1x32768_S8x32768_0_1 main_v93
  let main_v95 : IVec S8x32768 1 := ori main_v90 main_v94
  let main_v96 : IVec S8x32768 1 := andi main_v88 main_v95
  main_v96

def fn_part3 {F : FTy → Type} [FloatOps F] (main_arg3 : FVec F S8x32768 .f32) (main_v35 : FVec F S128x32768 .f32) (main_v58 : IVec S8x32768 1) (main_v60 : IVec S8x32768 1) (main_v61 : FVec F S1x32768 .f32) (main_cst_8 : FVec F S_ .f32) : IVec S8x32768 1 :=
  let main_v62 : FVec F S1x32768 .f32 := broadcastInDim S1x32768 ![] bcast_S_S1x32768 main_cst_8
  let main_v63 : IVec S1x32768 1 := cmpf .oeq main_v61 main_v62
  let main_v64 : IVec S8x32768 1 := broadcastInDim S8x32768 ![0, 1] bcast_S1x32768_S8x32768_0_1 main_v63
  let main_v65 : IVec S8x32768 1 := ori main_v60 main_v64
  let main_v66 : IVec S8x32768 1 := andi main_v58 main_v65
  let main_v67 : FVec F S8x32768 .f32 := (extractStridedSlice S8x32768 ![16, 0] · slices_S128x32768_S8x32768_16_0) main_v35
  let main_cst_9 : FVec F S_ .f32 := constant S_ .f32 0x00000000#32
  let main_v68 : FVec F S8x32768 .f32 := broadcastInDim S8x32768 ![] bcast_S_S8x32768 main_cst_9
  let main_v69 : IVec S8x32768 1 := cmpf .oge main_v67 main_v68
  let main_v70 : IVec S8x32768 1 := andi main_v66 main_v69
  let main_cst_10 : FVec F S_ .f32 := constant S_ .f32 0x7F800000#32
  let main_v71 : FVec F S8x32768 .f32 := broadcastInDim S8x32768 ![] bcast_S_S8x32768 main_cst_10
  let main_v72 : IVec S8x32768 1 := cmpf .olt main_v67 main_v71
  let main_v73 : IVec S8x32768 1 := andi main_v70 main_v72
  let main_cst_11 : FVec F S_ .f32 := constant S_ .f32 0x00000000#32
  let main_v74 : FVec F S8x32768 .f32 := broadcastInDim S8x32768 ![] bcast_S_S8x32768 main_cst_11
  let main_v75 : IVec S8x32768 1 := cmpf .oeq main_v67 main_v74
  let main_v76 : FVec F S1x32768 .f32 := (extractStridedSlice S1x32768 ![2, 0] · slices_S8x32768_S1x32768_2_0) main_arg3
  let main_cst_12 : FVec F S_ .f32 := constant S_ .f32 0x3F800000#32
  let main_v77 : FVec F S1x32768 .f32 := broadcastInDim S1x32768 ![] bcast_S_S1x32768 main_cst_12
  let main_v78 : IVec S1x32768 1 := cmpf .oeq main_v76 main_v77
  let main_v79 : IVec S8x32768 1 := broadcastInDim S8x32768 ![0, 1] bcast_S1x32768_S8x32768_0_1 main_v78
  let main_v80 : IVec S8x32768 1 := ori main_v75 main_v79
  let main_v81 : IVec S8x32768 1 := andi main_v73 main_v80
  fn_part4 (F := F) main_arg3 main_v35 main_v81

def fn_part2 {F : FTy → Type} [FloatOps F] (main_arg3 : FVec F S8x32768 .f32) (main_v35 : FVec F S128x32768 .f32) (main_v36 : FVec F S8x32768 .f32) (main_v43 : IVec S8x32768 1) : IVec S8x32768 1 :=
  let main_cst_3 : FVec F S_ .f32 := constant S_ .f32 0x00000000#32
  let main_v44 : FVec F S8x32768 .f32 := broadcastInDim S8x32768 ![] bcast_S_S8x32768 main_cst_3
  let main_v45 : IVec S8x32768 1 := cmpf .oeq main_v36 main_v44
  let main_v46 : FVec F S1x32768 .f32 := (extractStridedSlice S1x32768 ![0, 0] · slices_S8x32768_S1x32768_0_0) main_arg3
  let main_cst_4 : FVec F S_ .f32 := constant S_ .f32 0x3F800000#32
  let main_v47 : FVec F S1x32768 .f32 := broadcastInDim S1x32768 ![] bcast_S_S1x32768 main_cst_4
  let main_v48 : IVec S1x32768 1 := cmpf .oeq main_v46 main_v47
  let main_v49 : IVec S8x32768 1 := broadcastInDim S8x32768 ![0, 1] bcast_S1x32768_S8x32768_0_1 main_v48
  let main_v50 : IVec S8x32768 1 := ori main_v45 main_v49
  let main_v51 : IVec S8x32768 1 := andi main_v43 main_v50
  let main_v52 : FVec F S8x32768 .f32 := (extractStridedSlice S8x32768 ![8, 0] · slices_S128x32768_S8x32768_8_0) main_v35
  let main_cst_5 : FVec F S_ .f32 := constant S_ .f32 0x00000000#32
  let main_v53 : FVec F S8x32768 .f32 := broadcastInDim S8x32768 ![] bcast_S_S8x32768 main_cst_5
  let main_v54 : IVec S8x32768 1 := cmpf .oge main_v52 main_v53
  let main_v55 : IVec S8x32768 1 := andi main_v51 main_v54
  let main_cst_6 : FVec F S_ .f32 := constant S_ .f32 0x7F800000#32
  let main_v56 : FVec F S8x32768 .f32 := broadcastInDim S8x32768 ![] bcast_S_S8x32768 main_cst_6
  let main_v57 : IVec S8x32768 1 := cmpf .olt main_v52 main_v56
  let main_v58 : IVec S8x32768 1 := andi main_v55 main_v57
  let main_cst_7 : FVec F S_ .f32 := constant S_ .f32 0x00000000#32
  let main_v59 : FVec F S8x32768 .f32 := broadcastInDim S8x32768 ![] bcast_S_S8x32768 main_cst_7
  let main_v60 : IVec S8x32768 1 := cmpf .oeq main_v52 main_v59
  let main_v61 : FVec F S1x32768 .f32 := (extractStridedSlice S1x32768 ![1, 0] · slices_S8x32768_S1x32768_1_0) main_arg3
  let main_cst_8 : FVec F S_ .f32 := constant S_ .f32 0x3F800000#32
  fn_part3 (F := F) main_arg3 main_v35 main_v58 main_v60 main_v61 main_cst_8

def fn_part1 {F : FTy → Type} [FloatOps F] (main_arg2 : FVec F S32768x128 .f32) (main_arg3 : FVec F S8x32768 .f32) (main_v1 : IVec S8x32768 1) (main_v3 : IVec S8x32768 1) (main_v18 : IVec S1x32768 1) (main_v21 : IVec S1x32768 1) : IVec S8x32768 1 :=
  let main_v22 : IVec S1x32768 1 := (extractStridedSlice S1x32768 ![1, 0] · slices_S8x32768_S1x32768_1_0) main_v3
  let main_v23 : IVec S1x32768 1 := andi main_v21 main_v22
  let main_v24 : IVec S1x32768 1 := (extractStridedSlice S1x32768 ![3, 0] · slices_S8x32768_S1x32768_3_0) main_v3
  let main_v25 : IVec S1x32768 1 := andi main_v23 main_v24
  let main_v26 : IVec S1x32768 1 := ori main_v18 main_v25
  let main_v27 : IVec S1x32768 1 := (extractStridedSlice S1x32768 ![3, 0] · slices_S8x32768_S1x32768_3_0) main_v1
  let main_v28 : IVec S1x32768 1 := (extractStridedSlice S1x32768 ![0, 0] · slices_S8x32768_S1x32768_0_0) main_v3
  let main_v29 : IVec S1x32768 1 := andi main_v27 main_v28
  let main_v30 : IVec S1x32768 1 := (extractStridedSlice S1x32768 ![1, 0] · slices_S8x32768_S1x32768_1_0) main_v3
  let main_v31 : IVec S1x32768 1 := andi main_v29 main_v30
  let main_v32 : IVec S1x32768 1 := (extractStridedSlice S1x32768 ![2, 0] · slices_S8x32768_S1x32768_2_0) main_v3
  let main_v33 : IVec S1x32768 1 := andi main_v31 main_v32
  let main_v34 : IVec S1x32768 1 := ori main_v26 main_v33
  let main_v35 : FVec F S128x32768 .f32 := (transpose S128x32768 [1, 0] · transposes_S32768x128_S128x32768_1_0) main_arg2
  let main_v36 : FVec F S8x32768 .f32 := (extractStridedSlice S8x32768 ![0, 0] · slices_S128x32768_S8x32768_0_0) main_v35
  let main_cst_1 : FVec F S_ .f32 := constant S_ .f32 0x00000000#32
  let main_v37 : FVec F S8x32768 .f32 := broadcastInDim S8x32768 ![] bcast_S_S8x32768 main_cst_1
  let main_v38 : IVec S8x32768 1 := cmpf .oge main_v36 main_v37
  let main_v39 : IVec S8x32768 1 := broadcastInDim S8x32768 ![0, 1] bcast_S1x32768_S8x32768_0_1 main_v34
  let main_v40 : IVec S8x32768 1 := andi main_v39 main_v38
  let main_cst_2 : FVec F S_ .f32 := constant S_ .f32 0x7F800000#32
  let main_v41 : FVec F S8x32768 .f32 := broadcastInDim S8x32768 ![] bcast_S_S8x32768 main_cst_2
  let main_v42 : IVec S8x32768 1 := cmpf .olt main_v36 main_v41
  let main_v43 : IVec S8x32768 1 := andi main_v40 main_v42
  fn_part2 (F := F) main_arg3 main_v35 main_v36 main_v43

def fn {F : FTy → Type} [FloatOps F] (main_arg0 : FVec F S32768x1024 .f32) (main_arg1 : FVec F S32768x1024 .bf16) (main_arg2 : FVec F S32768x128 .f32) (main_arg3 : FVec F S8x32768 .f32) (main_arg4 : FVec F S32x1024x256 .bf16) (main_arg5 : FVec F S32x1024x256 .bf16) (main_arg6 : FVec F S32x256x1024 .bf16) (main_arg7 : FVec F S1x1024 .f32) : IVec S8x32768 1 :=
  let main_cst : FVec F S_ .f32 := constant S_ .f32 0x3F800000#32
  let main_v0 : FVec F S8x32768 .f32 := broadcastInDim S8x32768 ![] bcast_S_S8x32768 main_cst
  let main_v1 : IVec S8x32768 1 := cmpf .oeq main_arg3 main_v0
  let main_cst_0 : FVec F S_ .f32 := constant S_ .f32 0x00000000#32
  let main_v2 : FVec F S8x32768 .f32 := broadcastInDim S8x32768 ![] bcast_S_S8x32768 main_cst_0
  let main_v3 : IVec S8x32768 1 := cmpf .oeq main_arg3 main_v2
  let main_v4 : IVec S1x32768 1 := (extractStridedSlice S1x32768 ![0, 0] · slices_S8x32768_S1x32768_0_0) main_v1
  let main_v5 : IVec S1x32768 1 := (extractStridedSlice S1x32768 ![1, 0] · slices_S8x32768_S1x32768_1_0) main_v3
  let main_v6 : IVec S1x32768 1 := andi main_v4 main_v5
  let main_v7 : IVec S1x32768 1 := (extractStridedSlice S1x32768 ![2, 0] · slices_S8x32768_S1x32768_2_0) main_v3
  let main_v8 : IVec S1x32768 1 := andi main_v6 main_v7
  let main_v9 : IVec S1x32768 1 := (extractStridedSlice S1x32768 ![3, 0] · slices_S8x32768_S1x32768_3_0) main_v3
  let main_v10 : IVec S1x32768 1 := andi main_v8 main_v9
  let main_v11 : IVec S1x32768 1 := (extractStridedSlice S1x32768 ![1, 0] · slices_S8x32768_S1x32768_1_0) main_v1
  let main_v12 : IVec S1x32768 1 := (extractStridedSlice S1x32768 ![0, 0] · slices_S8x32768_S1x32768_0_0) main_v3
  let main_v13 : IVec S1x32768 1 := andi main_v11 main_v12
  let main_v14 : IVec S1x32768 1 := (extractStridedSlice S1x32768 ![2, 0] · slices_S8x32768_S1x32768_2_0) main_v3
  let main_v15 : IVec S1x32768 1 := andi main_v13 main_v14
  let main_v16 : IVec S1x32768 1 := (extractStridedSlice S1x32768 ![3, 0] · slices_S8x32768_S1x32768_3_0) main_v3
  let main_v17 : IVec S1x32768 1 := andi main_v15 main_v16
  let main_v18 : IVec S1x32768 1 := ori main_v10 main_v17
  let main_v19 : IVec S1x32768 1 := (extractStridedSlice S1x32768 ![2, 0] · slices_S8x32768_S1x32768_2_0) main_v1
  let main_v20 : IVec S1x32768 1 := (extractStridedSlice S1x32768 ![0, 0] · slices_S8x32768_S1x32768_0_0) main_v3
  let main_v21 : IVec S1x32768 1 := andi main_v19 main_v20
  fn_part1 (F := F) main_arg2 main_arg3 main_v1 main_v3 main_v18 main_v21
-- ==== KernelIdeal.lean ====
abbrev S32768x1024 : Shape := ⟨2, ![32768, 1024]⟩
abbrev S32768x128 : Shape := ⟨2, ![32768, 128]⟩
abbrev S8x32768 : Shape := ⟨2, ![8, 32768]⟩
abbrev S32x1024x256 : Shape := ⟨3, ![32, 1024, 256]⟩
abbrev S32x256x1024 : Shape := ⟨3, ![32, 256, 1024]⟩
abbrev S1x1024 : Shape := ⟨2, ![1, 1024]⟩
abbrev S1024 : Shape := ⟨1, ![1024]⟩
abbrev S1024x1 : Shape := ⟨2, ![1024, 1]⟩
abbrev S1024x1024 : Shape := ⟨2, ![1024, 1024]⟩
abbrev S1024x128 : Shape := ⟨2, ![1024, 128]⟩
abbrev S8x1024 : Shape := ⟨2, ![8, 1024]⟩
abbrev S4x1024x256 : Shape := ⟨3, ![4, 1024, 256]⟩
abbrev S4x256x1024 : Shape := ⟨3, ![4, 256, 1024]⟩
abbrev S8 : Shape := ⟨1, ![8]⟩
abbrev S1x1x1024 : Shape := ⟨3, ![1, 1, 1024]⟩
abbrev S1 : Shape := ⟨1, ![1]⟩
abbrev S1x1x1 : Shape := ⟨3, ![1, 1, 1]⟩
abbrev S256x1024 : Shape := ⟨2, ![256, 1024]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩
abbrev S1x1024x256 : Shape := ⟨3, ![1, 1024, 256]⟩
abbrev S1024x256 : Shape := ⟨2, ![1024, 256]⟩
abbrev S128x256 : Shape := ⟨2, ![128, 256]⟩
abbrev S1x256x1024 : Shape := ⟨3, ![1, 256, 1024]⟩
abbrev S1024x8 : Shape := ⟨2, ![1024, 8]⟩
abbrev S256x1 : Shape := ⟨2, ![256, 1]⟩
abbrev S256 : Shape := ⟨1, ![256]⟩

abbrev nBuf : Space → Nat
  | .hbm => 17
  | .vmem => 23
  | .smem => 1
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x128, .f32⟩
  | .hbm, ⟨3, _⟩ => ⟨S8x32768, .f32⟩
  | .hbm, ⟨4, _⟩ => ⟨S32x1024x256, .bf16⟩
  | .hbm, ⟨5, _⟩ => ⟨S32x1024x256, .bf16⟩
  | .hbm, ⟨6, _⟩ => ⟨S32x256x1024, .bf16⟩
  | .hbm, ⟨7, _⟩ => ⟨S1x1024, .f32⟩
  | .hbm, ⟨8, _⟩ => ⟨S1024, .i32⟩
  | .hbm, ⟨9, _⟩ => ⟨S1024x1, .i32⟩
  | .hbm, ⟨10, _⟩ => ⟨S1024, .i32⟩
  | .hbm, ⟨11, _⟩ => ⟨S1x1024, .i32⟩
  | .hbm, ⟨12, _⟩ => ⟨S1024x1024, .i32⟩
  | .hbm, ⟨13, _⟩ => ⟨S1024x1024, .i32⟩
  | .hbm, ⟨14, _⟩ => ⟨S1024x1024, .i1⟩
  | .hbm, ⟨15, _⟩ => ⟨S1024x1024, .bf16⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S8x1024, .f32⟩
  | .local _ .vmem, ⟨7, _⟩ => ⟨S8x1024, .f32⟩
  | .local _ .vmem, ⟨8, _⟩ => ⟨S1024x1024, .bf16⟩
  | .local _ .vmem, ⟨9, _⟩ => ⟨S4x1024x256, .bf16⟩
  | .local _ .vmem, ⟨10, _⟩ => ⟨S4x1024x256, .bf16⟩
  | .local _ .vmem, ⟨11, _⟩ => ⟨S4x1024x256, .bf16⟩
  | .local _ .vmem, ⟨12, _⟩ => ⟨S4x1024x256, .bf16⟩
  | .local _ .vmem, ⟨13, _⟩ => ⟨S4x256x1024, .bf16⟩
  | .local _ .vmem, ⟨14, _⟩ => ⟨S4x256x1024, .bf16⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1x1024, .f32⟩
  | .local _ .vmem, ⟨20, _⟩ => ⟨S1024x1024, .bf16⟩
  | .local _ .vmem, ⟨21, _⟩ => ⟨S1024x128, .f32⟩
  | .local _ .vmem, ⟨22, _⟩ => ⟨S1024x1024, .f32⟩
  | .local _ .smem, ⟨0, _⟩ => ⟨S8, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 8], ![false, false]⟩

def k0_off1 (i : grid0.Coords) : Fin 1 → Nat :=
  let arg1 : BitVec 32 := BitVec.ofNat 32 (i 1).val
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let v20 : Index := Scalar.indexCast v19
  ![v20.toNat]
def k0_off2 (i : grid0.Coords) : Fin 1 → Nat :=
  let c4_i32 : BitVec 32 := 4#32
  let arg1 : BitVec 32 := BitVec.ofNat 32 (i 1).val
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let v22 : BitVec 32 := Scalar.addi c4_i32 v19
  let v23 : Index := Scalar.indexCast v22
  ![v23.toNat]
@[reducible] def k0_t1_loop (v21 : BitVec 32) (v24 : BitVec 32) : Scf.Loop 32 :=
  let v25 : BitVec 32 := Scalar.subi v24 v21
  let c1_i32_7 : BitVec 32 := 1#32
  let v27 : BitVec 32 := Scalar.divsi v25 c1_i32_7
  let v28 : BitVec 32 := Scalar.muli v27 c1_i32_7
  let v29 : BitVec 32 := Scalar.addi v21 v28
  let c1_i32_8 : BitVec 32 := 1#32
  ⟨v21, v29, c1_i32_8⟩

def k0_mult1 (v21 : BitVec 32) (v24 : BitVec 32) (k0_t1 : Fin (k0_t1_loop v21 v24).trips) : BitVec 32 :=
  let c1_i32_8 : BitVec 32 := 1#32
  let arg18 : BitVec 32 := Scf.iv v21 c1_i32_8 k0_t1
  let c128_i32 : BitVec 32 := 128#32
  let v33 : BitVec 32 := Scalar.muli arg18 c128_i32
  v33
def k0_off3 (v21 : BitVec 32) (v24 : BitVec 32) (k0_t1 : Fin (k0_t1_loop v21 v24).trips) : Fin 2 → Nat :=
  let c1_i32_8 : BitVec 32 := 1#32
  let arg18 : BitVec 32 := Scf.iv v21 c1_i32_8 k0_t1
  let c128_i32 : BitVec 32 := 128#32
  let v33 : BitVec 32 := Scalar.muli arg18 c128_i32
  let v34 : BitVec 32 := v33
  let v35 : Index := Scalar.indexCast v34
  let c0 : Index := 0#32
  ![v35.toNat, 0]
def k0_off4 (v21 : BitVec 32) (v24 : BitVec 32) (k0_t1 : Fin (k0_t1_loop v21 v24).trips) : Fin 2 → Nat :=
  let c1_i32_8 : BitVec 32 := 1#32
  let arg18 : BitVec 32 := Scf.iv v21 c1_i32_8 k0_t1
  let c128_i32 : BitVec 32 := 128#32
  let v33 : BitVec 32 := Scalar.muli arg18 c128_i32
  let v34 : BitVec 32 := v33
  let v37 : Index := Scalar.indexCast v34
  let c0_11 : Index := 0#32
  ![v37.toNat, 0]
@[reducible] def k0_t2_loop (v21 : BitVec 32) (v24 : BitVec 32) : Scf.Loop 32 :=
  let v25 : BitVec 32 := Scalar.subi v24 v21
  let c1_i32_7 : BitVec 32 := 1#32
  let v27 : BitVec 32 := Scalar.divsi v25 c1_i32_7
  let v28 : BitVec 32 := Scalar.muli v27 c1_i32_7
  let v29 : BitVec 32 := Scalar.addi v21 v28
  let v26 : BitVec 32 := Scalar.addi v21 v25
  let c1_i32_9 : BitVec 32 := 1#32
  ⟨v29, v26, c1_i32_9⟩
def k0_mult2 (v21 : BitVec 32) (v24 : BitVec 32) (k0_t2 : Fin (k0_t2_loop v21 v24).trips) : BitVec 32 :=
  let v25 : BitVec 32 := Scalar.subi v24 v21
  let c1_i32_7 : BitVec 32 := 1#32
  let v27 : BitVec 32 := Scalar.divsi v25 c1_i32_7
  let v28 : BitVec 32 := Scalar.muli v27 c1_i32_7
  let v29 : BitVec 32 := Scalar.addi v21 v28
  let c1_i32_9 : BitVec 32 := 1#32
  let arg18 : BitVec 32 := Scf.iv v29 c1_i32_9 k0_t2
  let c128_i32 : BitVec 32 := 128#32
  let v33 : BitVec 32 := Scalar.muli arg18 c128_i32
  v33
def k0_off5 (v21 : BitVec 32) (v24 : BitVec 32) (k0_t2 : Fin (k0_t2_loop v21 v24).trips) : Fin 2 → Nat :=
  let v25 : BitVec 32 := Scalar.subi v24 v21
  let c1_i32_7 : BitVec 32 := 1#32
  let v27 : BitVec 32 := Scalar.divsi v25 c1_i32_7
  let v28 : BitVec 32 := Scalar.muli v27 c1_i32_7
  let v29 : BitVec 32 := Scalar.addi v21 v28
  let c1_i32_9 : BitVec 32 := 1#32
  let arg18 : BitVec 32 := Scf.iv v29 c1_i32_9 k0_t2
  let c128_i32 : BitVec 32 := 128#32
  let v33 : BitVec 32 := Scalar.muli arg18 c128_i32
  let v34 : BitVec 32 := v33
  let v35 : Index := Scalar.indexCast v34
  let c0 : Index := 0#32
  ![v35.toNat, 0]
def k0_off6 (v21 : BitVec 32) (v24 : BitVec 32) (k0_t2 : Fin (k0_t2_loop v21 v24).trips) : Fin 2 → Nat :=
  let v25 : BitVec 32 := Scalar.subi v24 v21
  let c1_i32_7 : BitVec 32 := 1#32
  let v27 : BitVec 32 := Scalar.divsi v25 c1_i32_7
  let v28 : BitVec 32 := Scalar.muli v27 c1_i32_7
  let v29 : BitVec 32 := Scalar.addi v21 v28
  let c1_i32_9 : BitVec 32 := 1#32
  let arg18 : BitVec 32 := Scf.iv v29 c1_i32_9 k0_t2
  let c128_i32 : BitVec 32 := 128#32
  let v33 : BitVec 32 := Scalar.muli arg18 c128_i32
  let v34 : BitVec 32 := v33
  let v37 : Index := Scalar.indexCast v34
  let c0_11 : Index := 0#32
  ![v37.toNat, 0]

def k0_chk1 (v21 : BitVec 32) (v24 : BitVec 32) : Prop :=
  ((k0_t1_loop v21 v24).OK) ∧
  (∀ k0_t1 : Fin (k0_t1_loop v21 v24).trips, 128 ∣ (k0_mult1 v21 v24 k0_t1).toNat) ∧
  (∀ k0_t1 : Fin (k0_t1_loop v21 v24).trips, ∀ a, (k0_off3 v21 v24 k0_t1) a + S128x1024.size a ≤ S1024x1024.size a) ∧
  (∀ k0_t1 : Fin (k0_t1_loop v21 v24).trips, ∀ a, (k0_off4 v21 v24 k0_t1) a + S128x128.size a ≤ S1024x128.size a) ∧
  ((k0_t2_loop v21 v24).OK) ∧
  (∀ k0_t2 : Fin (k0_t2_loop v21 v24).trips, 128 ∣ (k0_mult2 v21 v24 k0_t2).toNat) ∧
  (∀ k0_t2 : Fin (k0_t2_loop v21 v24).trips, ∀ a, (k0_off5 v21 v24 k0_t2) a + S128x1024.size a ≤ S1024x1024.size a) ∧
  (∀ k0_t2 : Fin (k0_t2_loop v21 v24).trips, ∀ a, (k0_off6 v21 v24 k0_t2) a + S128x128.size a ≤ S1024x128.size a)
theorem k0_t1_ok : ∀ (v21 : BitVec 32) (v24 : BitVec 32) (k0_hw1 : k0_chk1 v21 v24), (k0_t1_loop v21 v24).OK := fun v21 v24 k0_hw1 => k0_hw1.1
theorem k0_mult1_dvd : ∀ (v21 : BitVec 32) (v24 : BitVec 32) (k0_hw1 : k0_chk1 v21 v24) (k0_t1 : Fin (k0_t1_loop v21 v24).trips), 128 ∣ (k0_mult1 v21 v24 k0_t1).toNat := fun v21 v24 k0_hw1 k0_t1 => k0_hw1.2.1 k0_t1
theorem k0_off3_inb : ∀ (v21 : BitVec 32) (v24 : BitVec 32) (k0_hw1 : k0_chk1 v21 v24) (k0_t1 : Fin (k0_t1_loop v21 v24).trips), ∀ a, (k0_off3 v21 v24 k0_t1) a + S128x1024.size a ≤ S1024x1024.size a := fun v21 v24 k0_hw1 k0_t1 => k0_hw1.2.2.1 k0_t1
theorem k0_off4_inb : ∀ (v21 : BitVec 32) (v24 : BitVec 32) (k0_hw1 : k0_chk1 v21 v24) (k0_t1 : Fin (k0_t1_loop v21 v24).trips), ∀ a, (k0_off4 v21 v24 k0_t1) a + S128x128.size a ≤ S1024x128.size a := fun v21 v24 k0_hw1 k0_t1 => k0_hw1.2.2.2.1 k0_t1
theorem k0_t2_ok : ∀ (v21 : BitVec 32) (v24 : BitVec 32) (k0_hw1 : k0_chk1 v21 v24), (k0_t2_loop v21 v24).OK := fun v21 v24 k0_hw1 => k0_hw1.2.2.2.2.1
theorem k0_mult2_dvd : ∀ (v21 : BitVec 32) (v24 : BitVec 32) (k0_hw1 : k0_chk1 v21 v24) (k0_t2 : Fin (k0_t2_loop v21 v24).trips), 128 ∣ (k0_mult2 v21 v24 k0_t2).toNat := fun v21 v24 k0_hw1 k0_t2 => k0_hw1.2.2.2.2.2.1 k0_t2
theorem k0_off5_inb : ∀ (v21 : BitVec 32) (v24 : BitVec 32) (k0_hw1 : k0_chk1 v21 v24) (k0_t2 : Fin (k0_t2_loop v21 v24).trips), ∀ a, (k0_off5 v21 v24 k0_t2) a + S128x1024.size a ≤ S1024x1024.size a := fun v21 v24 k0_hw1 k0_t2 => k0_hw1.2.2.2.2.2.2.1 k0_t2
theorem k0_off6_inb : ∀ (v21 : BitVec 32) (v24 : BitVec 32) (k0_hw1 : k0_chk1 v21 v24) (k0_t2 : Fin (k0_t2_loop v21 v24).trips), ∀ a, (k0_off6 v21 v24 k0_t2) a + S128x128.size a ≤ S1024x128.size a := fun v21 v24 k0_hw1 k0_t2 => k0_hw1.2.2.2.2.2.2.2 k0_t2

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_10 : BitVec 32 := 0#32
  let v32 : BitVec 1 := Scalar.cmpi .ne v31 c0_i32_10
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S32768x1024 : Shape := ⟨2, ![32768, 1024]⟩
abbrev S32768x128 : Shape := ⟨2, ![32768, 128]⟩
abbrev S8x32768 : Shape := ⟨2, ![8, 32768]⟩
abbrev S32x1024x256 : Shape := ⟨3, ![32, 1024, 256]⟩
abbrev S32x256x1024 : Shape := ⟨3, ![32, 256, 1024]⟩
abbrev S1x1024 : Shape := ⟨2, ![1, 1024]⟩
abbrev S32x256x32768 : Shape := ⟨3, ![32, 256, 32768]⟩
abbrev S32x32768x256 : Shape := ⟨3, ![32, 32768, 256]⟩
abbrev S_ : Shape := ⟨0, ![]⟩
abbrev S32x32768x1024 : Shape := ⟨3, ![32, 32768, 1024]⟩
abbrev S32768x32 : Shape := ⟨2, ![32768, 32]⟩
abbrev S32x32768 : Shape := ⟨2, ![32, 32768]⟩
abbrev S32x32768x1 : Shape := ⟨3, ![32, 32768, 1]⟩
abbrev S32768 : Shape := ⟨1, ![32768]⟩
abbrev S32768x1 : Shape := ⟨2, ![32768, 1]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x128, .f32⟩
  | .hbm, ⟨3, _⟩ => ⟨S8x32768, .f32⟩
  | .hbm, ⟨4, _⟩ => ⟨S32x1024x256, .bf16⟩
  | .hbm, ⟨5, _⟩ => ⟨S32x1024x256, .bf16⟩
  | .hbm, ⟨6, _⟩ => ⟨S32x256x1024, .bf16⟩
  | .hbm, ⟨7, _⟩ => ⟨S1x1024, .f32⟩
  | .hbm, ⟨8, _⟩ => ⟨S32768x1024, .f32⟩
  | .hbm, ⟨9, _⟩ => ⟨S32x1024x256, .f32⟩
  | .hbm, ⟨10, _⟩ => ⟨S32x256x32768, .f32⟩
  | .hbm, ⟨11, _⟩ => ⟨S32x32768x256, .f32⟩
  | .hbm, ⟨12, _⟩ => ⟨S32x1024x256, .f32⟩
  | .hbm, ⟨13, _⟩ => ⟨S32x256x32768, .f32⟩
  | .hbm, ⟨14, _⟩ => ⟨S32x32768x256, .f32⟩
  | .hbm, ⟨15, _⟩ => ⟨S32x32768x256, .f32⟩
  | .hbm, ⟨16, _⟩ => ⟨S32x32768x256, .f32⟩
  | .hbm, ⟨17, _⟩ => ⟨S_, .f32⟩
  | .hbm, ⟨18, _⟩ => ⟨S32x32768x256, .f32⟩
  | .hbm, ⟨19, _⟩ => ⟨S32x32768x256, .f32⟩
  | .hbm, ⟨20, _⟩ => ⟨S_, .f32⟩
  | .hbm, ⟨21, _⟩ => ⟨S32x32768x256, .f32⟩
  | .hbm, ⟨22, _⟩ => ⟨S32x32768x256, .f32⟩
  | .hbm, ⟨23, _⟩ => ⟨S32x32768x256, .f32⟩
  | .hbm, ⟨24, _⟩ => ⟨S32x32768x256, .f32⟩
  | .hbm, ⟨25, _⟩ => ⟨S32x256x1024, .f32⟩
  | .hbm, ⟨26, _⟩ => ⟨S32x32768x1024, .f32⟩
  | .hbm, ⟨27, _⟩ => ⟨S32768x32, .f32⟩
  | .hbm, ⟨28, _⟩ => ⟨S32x32768, .f32⟩
  | .hbm, ⟨29, _⟩ => ⟨S32x32768x1, .f32⟩
  | .hbm, ⟨30, _⟩ => ⟨S32x32768x1024, .f32⟩
  | .hbm, ⟨31, _⟩ => ⟨S32x32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Kernel2.lean ====
abbrev S32768x1024 : Shape := ⟨2, ![32768, 1024]⟩
abbrev S128x262144 : Shape := ⟨2, ![128, 262144]⟩
abbrev S32768x512 : Shape := ⟨2, ![32768, 512]⟩
abbrev S8x64x128 : Shape := ⟨3, ![8, 64, 128]⟩
abbrev S512x1024 : Shape := ⟨2, ![512, 1024]⟩
abbrev S4x128x128 : Shape := ⟨3, ![4, 128, 128]⟩
abbrev S4x128 : Shape := ⟨2, ![4, 128]⟩
abbrev S1024x1024 : Shape := ⟨2, ![1024, 1024]⟩
abbrev S1x1024 : Shape := ⟨2, ![1, 1024]⟩
abbrev S2x1024x128 : Shape := ⟨3, ![2, 1024, 128]⟩
abbrev S1x128 : Shape := ⟨2, ![1, 128]⟩
abbrev S_ : Shape := ⟨0, ![]⟩
abbrev S128x128 : Shape := ⟨2, ![128, 128]⟩
abbrev S1x128x128 : Shape := ⟨3, ![1, 128, 128]⟩
abbrev S4x128x1 : Shape := ⟨3, ![4, 128, 1]⟩
abbrev S32768x128 : Shape := ⟨2, ![32768, 128]⟩
abbrev S8x32768 : Shape := ⟨2, ![8, 32768]⟩
abbrev S128x4096 : Shape := ⟨2, ![128, 4096]⟩
abbrev S512x512 : Shape := ⟨2, ![512, 512]⟩
abbrev S512x128 : Shape := ⟨2, ![512, 128]⟩
abbrev S8x512 : Shape := ⟨2, ![8, 512]⟩
abbrev S1x64x128 : Shape := ⟨3, ![1, 64, 128]⟩
abbrev S64x128 : Shape := ⟨2, ![64, 128]⟩
abbrev S128x256 : Shape := ⟨2, ![128, 256]⟩
abbrev S64x256 : Shape := ⟨2, ![64, 256]⟩
abbrev S512x256 : Shape := ⟨2, ![512, 256]⟩
abbrev S128x512 : Shape := ⟨2, ![128, 512]⟩
abbrev S512 : Shape := ⟨1, ![512]⟩
abbrev S512x1 : Shape := ⟨2, ![512, 1]⟩
abbrev S1x1024x128 : Shape := ⟨3, ![1, 1024, 128]⟩
abbrev S1024x128 : Shape := ⟨2, ![1024, 128]⟩

abbrev nBuf : Space → Nat
  | .hbm => 39
  | .vmem => 29
  | .smem => 0
  | _ => 0

abbrev bufTy : (tb : Table) → Fin (tcTables nBuf tb) → BufTy
  | .hbm, ⟨0, _⟩ => ⟨S32768x1024, .f32⟩
  | .hbm, ⟨1, _⟩ => ⟨S128x262144, .bf16⟩
  | .hbm, ⟨2, _⟩ => ⟨S32768x512, .bf16⟩
  | .hbm, ⟨3, _⟩ => ⟨S32768x512, .bf16⟩
  | .hbm, ⟨4, _⟩ => ⟨S32768x1024, .bf16⟩
  | .hbm, ⟨5, _⟩ => ⟨S32768x1024, .bf16⟩
  | .hbm, ⟨6, _⟩ => ⟨S8x64x128, .bf16⟩
  | .hbm, ⟨7, _⟩ => ⟨S512x1024, .bf16⟩
  | .hbm, ⟨8, _⟩ => ⟨S4x128x128, .f32⟩
  | .hbm, ⟨9, _⟩ => ⟨S4x128, .f32⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S2x1024x128, .bf16⟩
  | .hbm, ⟨14, _⟩ => ⟨S1x128, .f32⟩
  | .hbm, ⟨15, _⟩ => ⟨S_, .i1⟩
  | .hbm, ⟨16, _⟩ => ⟨S128x128, .i1⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S128x128, .i1⟩
  | .hbm, ⟨23, _⟩ => ⟨S_, .i1⟩
  | .hbm, ⟨24, _⟩ => ⟨S128x128, .i1⟩
  | .hbm, ⟨25, _⟩ => ⟨S128x128, .i1⟩
  | .hbm, ⟨26, _⟩ => ⟨S1x128x128, .i1⟩
  | .hbm, ⟨27, _⟩ => ⟨S_, .f32⟩
  | .hbm, ⟨28, _⟩ => ⟨S_, .f32⟩
  | .hbm, ⟨29, _⟩ => ⟨S4x128x128, .i1⟩
  | .hbm, ⟨30, _⟩ => ⟨S4x128x128, .f32⟩
  | .hbm, ⟨31, _⟩ => ⟨S4x128x128, .f32⟩
  | .hbm, ⟨32, _⟩ => ⟨S4x128x128, .bf16⟩
  | .hbm, ⟨33, _⟩ => ⟨S4x128x1, .f32⟩
  | .hbm, ⟨34, _⟩ => ⟨S4x128x128, .f32⟩
  | .hbm, ⟨35, _⟩ => ⟨S32768x1024, .f32⟩
  | .hbm, ⟨36, _⟩ => ⟨S32768x1024, .bf16⟩
  | .hbm, ⟨37, _⟩ => ⟨S32768x128, .f32⟩
  | .hbm, ⟨38, _⟩ => ⟨S8x32768, .f32⟩
  | .local _ .vmem, ⟨0, _⟩ => ⟨S512x1024, .f32⟩
  | .local _ .vmem, ⟨1, _⟩ => ⟨S512x1024, .f32⟩
  | .local _ .vmem, ⟨2, _⟩ => ⟨S128x4096, .bf16⟩
  | .local _ .vmem, ⟨3, _⟩ => ⟨S128x4096, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S8x64x128, .bf16⟩
  | .local _ .vmem, ⟨13, _⟩ => ⟨S512x1024, .bf16⟩
  | .local _ .vmem, ⟨14, _⟩ => ⟨S4x128x128, .bf16⟩
  | .local _ .vmem, ⟨15, _⟩ => ⟨S4x128x128, .f32⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S2x1024x128, .bf16⟩
  | .local _ .vmem, ⟨20, _⟩ => ⟨S1x128, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S512x128, .f32⟩
  | .local _ .vmem, ⟨26, _⟩ => ⟨S512x128, .f32⟩
  | .local _ .vmem, ⟨27, _⟩ => ⟨S8x512, .f32⟩
  | .local _ .vmem, ⟨28, _⟩ => ⟨S8x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7_0 : Ref sig .tc := ⟨.hbm, 35, rfl⟩
abbrev main_v7_1 : Ref sig .tc := ⟨.hbm, 36, rfl⟩
abbrev main_v7_2 : Ref sig .tc := ⟨.hbm, 37, rfl⟩
abbrev main_v7_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S32768x1024 : Shape := ⟨2, ![32768, 1024]⟩
abbrev S128x262144 : Shape := ⟨2, ![128, 262144]⟩
abbrev S32768x512 : Shape := ⟨2, ![32768, 512]⟩
abbrev S8x64x128 : Shape := ⟨3, ![8, 64, 128]⟩
abbrev S512x1024 : Shape := ⟨2, ![512, 1024]⟩
abbrev S4x128x128 : Shape := ⟨3, ![4, 128, 128]⟩
abbrev S4x128 : Shape := ⟨2, ![4, 128]⟩
abbrev S1024x1024 : Shape := ⟨2, ![1024, 1024]⟩
abbrev S1x1024 : Shape := ⟨2, ![1, 1024]⟩
abbrev S2x1024x128 : Shape := ⟨3, ![2, 1024, 128]⟩
abbrev S1x128 : Shape := ⟨2, ![1, 128]⟩
abbrev S128x128x8x256 : Shape := ⟨4, ![128, 128, 8, 256]⟩
abbrev S128x256x8x128 : Shape := ⟨4, ![128, 256, 8, 128]⟩
abbrev S32768x8x128 : Shape := ⟨3, ![32768, 8, 128]⟩
abbrev S8x64x32768 : Shape := ⟨3, ![8, 64, 32768]⟩
abbrev S32768x8x64 : Shape := ⟨3, ![32768, 8, 64]⟩
abbrev S256x128x4x128 : Shape := ⟨4, ![256, 128, 4, 128]⟩
abbrev S_ : Shape := ⟨0, ![]⟩
abbrev S128x128 : Shape := ⟨2, ![128, 128]⟩
abbrev S1x128x128 : Shape := ⟨3, ![1, 128, 128]⟩
abbrev S4x256x128x128 : Shape := ⟨4, ![4, 256, 128, 128]⟩
abbrev S128x4 : Shape := ⟨2, ![128, 4]⟩
abbrev S1x128x4x1 : Shape := ⟨4, ![1, 128, 4, 1]⟩
abbrev S32768 : Shape := ⟨1, ![32768]⟩
abbrev S32768x1 : Shape := ⟨2, ![32768, 1]⟩

abbrev nBuf : Space → Nat
  | .hbm => 79
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S128x262144, .bf16⟩
  | .hbm, ⟨2, _⟩ => ⟨S32768x512, .bf16⟩
  | .hbm, ⟨3, _⟩ => ⟨S32768x512, .bf16⟩
  | .hbm, ⟨4, _⟩ => ⟨S32768x1024, .bf16⟩
  | .hbm, ⟨5, _⟩ => ⟨S32768x1024, .bf16⟩
  | .hbm, ⟨6, _⟩ => ⟨S8x64x128, .bf16⟩
  | .hbm, ⟨7, _⟩ => ⟨S512x1024, .bf16⟩
  | .hbm, ⟨8, _⟩ => ⟨S4x128x128, .f32⟩
  | .hbm, ⟨9, _⟩ => ⟨S4x128, .f32⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S2x1024x128, .bf16⟩
  | .hbm, ⟨14, _⟩ => ⟨S1x128, .f32⟩
  | .hbm, ⟨15, _⟩ => ⟨S128x128x8x256, .bf16⟩
  | .hbm, ⟨16, _⟩ => ⟨S128x256x8x128, .bf16⟩
  | .hbm, ⟨17, _⟩ => ⟨S32768x8x128, .bf16⟩
  | .hbm, ⟨18, _⟩ => ⟨S32768x8x128, .f32⟩
  | .hbm, ⟨19, _⟩ => ⟨S8x64x128, .f32⟩
  | .hbm, ⟨20, _⟩ => ⟨S8x64x32768, .f32⟩
  | .hbm, ⟨21, _⟩ => ⟨S32768x8x64, .f32⟩
  | .hbm, ⟨22, _⟩ => ⟨S32768x512, .f32⟩
  | .hbm, ⟨23, _⟩ => ⟨S512x1024, .f32⟩
  | .hbm, ⟨24, _⟩ => ⟨S32768x1024, .f32⟩
  | .hbm, ⟨25, _⟩ => ⟨S32768x512, .f32⟩
  | .hbm, ⟨26, _⟩ => ⟨S256x128x4x128, .f32⟩
  | .hbm, ⟨27, _⟩ => ⟨S_, .i1⟩
  | .hbm, ⟨28, _⟩ => ⟨S128x128, .i1⟩
  | .hbm, ⟨29, _⟩ => ⟨S128x128, .i32⟩
  | .hbm, ⟨30, _⟩ => ⟨S_, .i32⟩
  | .hbm, ⟨31, _⟩ => ⟨S128x128, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S_, .i1⟩
  | .hbm, ⟨36, _⟩ => ⟨S128x128, .i1⟩
  | .hbm, ⟨37, _⟩ => ⟨S128x128, .i1⟩
  | .hbm, ⟨38, _⟩ => ⟨S1x128x128, .i1⟩
  | .hbm, ⟨39, _⟩ => ⟨S_, .f32⟩
  | .hbm, ⟨40, _⟩ => ⟨S_, .f32⟩
  | .hbm, ⟨41, _⟩ => ⟨S4x128x128, .i1⟩
  | .hbm, ⟨42, _⟩ => ⟨S4x128x128, .f32⟩
  | .hbm, ⟨43, _⟩ => ⟨S4x128x128, .f32⟩
  | .hbm, ⟨44, _⟩ => ⟨S4x256x128x128, .f32⟩
  | .hbm, ⟨45, _⟩ => ⟨S256x128x4x128, .f32⟩
  | .hbm, ⟨46, _⟩ => ⟨S128x4, .f32⟩
  | .hbm, ⟨47, _⟩ => ⟨S1x128x4x1, .f32⟩
  | .hbm, ⟨48, _⟩ => ⟨S256x128x4x128, .f32⟩
  | .hbm, ⟨49, _⟩ => ⟨S256x128x4x128, .f32⟩
  | .hbm, ⟨50, _⟩ => ⟨S32768x512, .f32⟩
  | .hbm, ⟨51, _⟩ => ⟨S32768x512, .f32⟩
  | .hbm, ⟨52, _⟩ => ⟨S32768x512, .f32⟩
  | .hbm, ⟨53, _⟩ => ⟨S512x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S1024x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768, .f32⟩
  | .hbm, ⟨66, _⟩ => ⟨S32768x1, .f32⟩
  | .hbm, ⟨67, _⟩ => ⟨S_, .f32⟩
  | .hbm, ⟨68, _⟩ => ⟨S32768x1, .f32⟩
  | .hbm, ⟨69, _⟩ => ⟨S32768x1, .f32⟩
  | .hbm, ⟨70, _⟩ => ⟨S_, .f32⟩
  | .hbm, ⟨71, _⟩ => ⟨S32768x1, .f32⟩
  | .hbm, ⟨72, _⟩ => ⟨S32768x1, .f32⟩
  | .hbm, ⟨73, _⟩ => ⟨S32768x1, .f32⟩
  | .hbm, ⟨74, _⟩ => ⟨S32768x1024, .f32⟩
  | .hbm, ⟨75, _⟩ => ⟨S32768x1024, .f32⟩
  | .hbm, ⟨76, _⟩ => ⟨S32768x1024, .f32⟩
  | .hbm, ⟨77, _⟩ => ⟨S32768x1024, .f32⟩
  | .hbm, ⟨78, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_0 : Ref sig .tc := ⟨.hbm, 35, rfl⟩
abbrev main_call0_v5 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_0 : Ref sig .tc := ⟨.hbm, 64, rfl⟩
abbrev main_v36 : Ref sig .tc := ⟨.hbm, 65, rfl⟩
abbrev main_v37 : Ref sig .tc := ⟨.hbm, 66, rfl⟩
abbrev main_cst_1 : Ref sig .tc := ⟨.hbm, 67, rfl⟩
abbrev main_v38 : Ref sig .tc := ⟨.hbm, 68, rfl⟩
abbrev main_v39 : Ref sig .tc := ⟨.hbm, 69, rfl⟩
abbrev main_cst_2 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩

abbrev nD : Nat := 1
abbrev τ : Topo := Topo.v7x

variable {F : FTy → Type} [FloatOps F]
-- ==== Kernel3.lean ====
abbrev S32768x1024 : Shape := ⟨2, ![32768, 1024]⟩
abbrev S1x1024 : Shape := ⟨2, ![1, 1024]⟩
abbrev S1024x4296 : Shape := ⟨2, ![1024, 4296]⟩
abbrev S1x128 : Shape := ⟨2, ![1, 128]⟩
abbrev S128x8x64 : Shape := ⟨3, ![128, 8, 64]⟩
abbrev S1x512 : Shape := ⟨2, ![1, 512]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1024 : Shape := ⟨2, ![1024, 1024]⟩
abbrev S1024x1160 : Shape := ⟨2, ![1024, 1160]⟩
abbrev S1160x1024 : Shape := ⟨2, ![1160, 1024]⟩
abbrev S8x128x64 : Shape := ⟨3, ![8, 128, 64]⟩
abbrev S8x8 : Shape := ⟨2, ![8, 8]⟩
abbrev S_ : Shape := ⟨0, ![]⟩
abbrev S8x1x8x1 : Shape := ⟨4, ![8, 1, 8, 1]⟩
abbrev S8x128x1x64 : Shape := ⟨4, ![8, 128, 1, 64]⟩
abbrev S8x128x8x64 : Shape := ⟨4, ![8, 128, 8, 64]⟩
abbrev S128x1 : Shape := ⟨2, ![128, 1]⟩
abbrev S128x262144 : Shape := ⟨2, ![128, 262144]⟩
abbrev S64x262144 : Shape := ⟨2, ![64, 262144]⟩
abbrev S1x262144 : Shape := ⟨2, ![1, 262144]⟩
abbrev S144x32768 : Shape := ⟨2, ![144, 32768]⟩
abbrev S32768x128 : Shape := ⟨2, ![32768, 128]⟩
abbrev S32768x64 : Shape := ⟨2, ![32768, 64]⟩
abbrev S32768x512 : Shape := ⟨2, ![32768, 512]⟩
abbrev S512x1024 : Shape := ⟨2, ![512, 1024]⟩
abbrev S128x4096 : Shape := ⟨2, ![128, 4096]⟩
abbrev S64x4096 : Shape := ⟨2, ![64, 4096]⟩
abbrev S1x4096 : Shape := ⟨2, ![1, 4096]⟩
abbrev S144x512 : Shape := ⟨2, ![144, 512]⟩
abbrev S512x128 : Shape := ⟨2, ![512, 128]⟩
abbrev S512x64 : Shape := ⟨2, ![512, 64]⟩
abbrev S512x512 : Shape := ⟨2, ![512, 512]⟩
abbrev S512 : Shape := ⟨1, ![512]⟩
abbrev S512x1 : Shape := ⟨2, ![512, 1]⟩
abbrev S1160x512 : Shape := ⟨2, ![1160, 512]⟩
abbrev S128x512 : Shape := ⟨2, ![128, 512]⟩
abbrev S8x512 : Shape := ⟨2, ![8, 512]⟩
abbrev S128x256 : Shape := ⟨2, ![128, 256]⟩
abbrev S64x256 : Shape := ⟨2, ![64, 256]⟩
abbrev S1x256 : Shape := ⟨2, ![1, 256]⟩
abbrev S15x512 : Shape := ⟨2, ![15, 512]⟩

abbrev nBuf : Space → Nat
  | .hbm => 45
  | .vmem => 35
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x4296, .f32⟩
  | .hbm, ⟨3, _⟩ => ⟨S1x128, .f32⟩
  | .hbm, ⟨4, _⟩ => ⟨S128x8x64, .f32⟩
  | .hbm, ⟨5, _⟩ => ⟨S1x512, .f32⟩
  | .hbm, ⟨6, _⟩ => ⟨S1x512, .f32⟩
  | .hbm, ⟨7, _⟩ => ⟨S1024x4296, .bf16⟩
  | .hbm, ⟨8, _⟩ => ⟨S1024x512, .bf16⟩
  | .hbm, ⟨9, _⟩ => ⟨S1024x128, .bf16⟩
  | .hbm, ⟨10, _⟩ => ⟨S1024x512, .bf16⟩
  | .hbm, ⟨11, _⟩ => ⟨S1024x64, .bf16⟩
  | .hbm, ⟨12, _⟩ => ⟨S1024x8, .bf16⟩
  | .hbm, ⟨13, _⟩ => ⟨S1024x512, .bf16⟩
  | .hbm, ⟨14, _⟩ => ⟨S1024x512, .bf16⟩
  | .hbm, ⟨15, _⟩ => ⟨S1024x1024, .bf16⟩
  | .hbm, ⟨16, _⟩ => ⟨S1024x1024, .bf16⟩
  | .hbm, ⟨17, _⟩ => ⟨S1024x1160, .bf16⟩
  | .hbm, ⟨18, _⟩ => ⟨S1160x1024, .bf16⟩
  | .hbm, ⟨19, _⟩ => ⟨S8x128x64, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S8x8, .f32⟩
  | .hbm, ⟨27, _⟩ => ⟨S8x1x8x1, .f32⟩
  | .hbm, ⟨28, _⟩ => ⟨S8x128x1x64, .f32⟩
  | .hbm, ⟨29, _⟩ => ⟨S8x128x8x64, .f32⟩
  | .hbm, ⟨30, _⟩ => ⟨S8x128x8x64, .f32⟩
  | .hbm, ⟨31, _⟩ => ⟨S8x128x8x64, .f32⟩
  | .hbm, ⟨32, _⟩ => ⟨S1024x512, .f32⟩
  | .hbm, ⟨33, _⟩ => ⟨S1024x512, .bf16⟩
  | .hbm, ⟨34, _⟩ => ⟨S128x1, .f32⟩
  | .hbm, ⟨35, _⟩ => ⟨S128x262144, .bf16⟩
  | .hbm, ⟨36, _⟩ => ⟨S64x262144, .bf16⟩
  | .hbm, ⟨37, _⟩ => ⟨S1x262144, .f32⟩
  | .hbm, ⟨38, _⟩ => ⟨S144x32768, .bf16⟩
  | .hbm, ⟨39, _⟩ => ⟨S32768x128, .bf16⟩
  | .hbm, ⟨40, _⟩ => ⟨S32768x64, .bf16⟩
  | .hbm, ⟨41, _⟩ => ⟨S32768x512, .bf16⟩
  | .hbm, ⟨42, _⟩ => ⟨S32768x512, .bf16⟩
  | .hbm, ⟨43, _⟩ => ⟨S32768x1024, .bf16⟩
  | .hbm, ⟨44, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1160x1024, .bf16⟩
  | .local _ .vmem, ⟨4, _⟩ => ⟨S1024x512, .bf16⟩
  | .local _ .vmem, ⟨5, _⟩ => ⟨S128x1, .f32⟩
  | .local _ .vmem, ⟨6, _⟩ => ⟨S1024x128, .bf16⟩
  | .local _ .vmem, ⟨7, _⟩ => ⟨S1x128, .f32⟩
  | .local _ .vmem, ⟨8, _⟩ => ⟨S1024x64, .bf16⟩
  | .local _ .vmem, ⟨9, _⟩ => ⟨S1024x512, .bf16⟩
  | .local _ .vmem, ⟨10, _⟩ => ⟨S1024x512, .bf16⟩
  | .local _ .vmem, ⟨11, _⟩ => ⟨S1x512, .f32⟩
  | .local _ .vmem, ⟨12, _⟩ => ⟨S1x512, .f32⟩
  | .local _ .vmem, ⟨13, _⟩ => ⟨S1024x1024, .bf16⟩
  | .local _ .vmem, ⟨14, _⟩ => ⟨S1024x1024, .bf16⟩
  | .local _ .vmem, ⟨15, _⟩ => ⟨S128x4096, .bf16⟩
  | .local _ .vmem, ⟨16, _⟩ => ⟨S128x4096, .bf16⟩
  | .local _ .vmem, ⟨17, _⟩ => ⟨S64x4096, .bf16⟩
  | .local _ .vmem, ⟨18, _⟩ => ⟨S64x4096, .bf16⟩
  | .local _ .vmem, ⟨19, _⟩ => ⟨S1x4096, .f32⟩
  | .local _ .vmem, ⟨20, _⟩ => ⟨S1x4096, .f32⟩
  | .local _ .vmem, ⟨21, _⟩ => ⟨S144x512, .bf16⟩
  | .local _ .vmem, ⟨22, _⟩ => ⟨S144x512, .bf16⟩
  | .local _ .vmem, ⟨23, _⟩ => ⟨S512x128, .bf16⟩
  | .local _ .vmem, ⟨24, _⟩ => ⟨S512x128, .bf16⟩
  | .local _ .vmem, ⟨25, _⟩ => ⟨S512x64, .bf16⟩
  | .local _ .vmem, ⟨26, _⟩ => ⟨S512x64, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev main_v27_3 : Ref sig .tc := ⟨.hbm, 38, rfl⟩
abbrev main_v27_4 : Ref sig .tc := ⟨.hbm, 39, rfl⟩
abbrev main_v27_5 : Ref sig .tc := ⟨.hbm, 40, rfl⟩
abbrev main_v27_6 : Ref sig .tc := ⟨.hbm, 41, rfl⟩
abbrev main_v27_7 : Ref sig .tc := ⟨.hbm, 42, rfl⟩
abbrev main_v27_8 : Ref sig .tc := ⟨.hbm, 43, rfl⟩
abbrev main_v27_9 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1160x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4096 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S144x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x64 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference3Ideal.lean ====
abbrev S32768x1024 : Shape := ⟨2, ![32768, 1024]⟩
abbrev S1x1024 : Shape := ⟨2, ![1, 1024]⟩
abbrev S1024x4296 : Shape := ⟨2, ![1024, 4296]⟩
abbrev S1x128 : Shape := ⟨2, ![1, 128]⟩
abbrev S128x8x64 : Shape := ⟨3, ![128, 8, 64]⟩
abbrev S1x512 : Shape := ⟨2, ![1, 512]⟩
abbrev S_ : Shape := ⟨0, ![]⟩
abbrev S32768 : Shape := ⟨1, ![32768]⟩
abbrev S32768x1 : Shape := ⟨2, ![32768, 1]⟩
abbrev S32768x4296 : Shape := ⟨2, ![32768, 4296]⟩
abbrev S32768x512 : Shape := ⟨2, ![32768, 512]⟩
abbrev S32768x128 : Shape := ⟨2, ![32768, 128]⟩
abbrev S32768x64 : Shape := ⟨2, ![32768, 64]⟩
abbrev S32768x8 : Shape := ⟨2, ![32768, 8]⟩
abbrev S32768x8x64 : Shape := ⟨3, ![32768, 8, 64]⟩
abbrev S8x128x32768 : Shape := ⟨3, ![8, 128, 32768]⟩
abbrev S32768x8x128 : Shape := ⟨3, ![32768, 8, 128]⟩
abbrev S128x32768 : Shape := ⟨2, ![128, 32768]⟩
abbrev S1x32768 : Shape := ⟨2, ![1, 32768]⟩
abbrev S15x32768 : Shape := ⟨2, ![15, 32768]⟩
abbrev S144x32768 : Shape := ⟨2, ![144, 32768]⟩
abbrev S128x256x8x128 : Shape := ⟨4, ![128, 256, 8, 128]⟩
abbrev S128x128x8x256 : Shape := ⟨4, ![128, 128, 8, 256]⟩
abbrev S128x262144 : Shape := ⟨2, ![128, 262144]⟩
abbrev S128x256x8x64 : Shape := ⟨4, ![128, 256, 8, 64]⟩
abbrev S64x128x8x256 : Shape := ⟨4, ![64, 128, 8, 256]⟩
abbrev S64x262144 : Shape := ⟨2, ![64, 262144]⟩
abbrev S128x256x8x1 : Shape := ⟨4, ![128, 256, 8, 1]⟩
abbrev S1x128x8x256 : Shape := ⟨4, ![1, 128, 8, 256]⟩
abbrev S1x262144 : Shape := ⟨2, ![1, 262144]⟩

abbrev nBuf : Space → Nat
  | .hbm => 157
  | .vmem => 0
  | .smem => 0
  | _ => 0

abbrev hbmTy0_0 (i : Nat) : BufTy := match i % 128 with
  | 0 => ⟨S32768x1024, .f32⟩
  | 1 => ⟨S1x1024, .f32⟩
  | 2 => ⟨S1024x4296, .f32⟩
  | 3 => ⟨S1x128, .f32⟩
  | 4 => ⟨S128x8x64, .f32⟩
  | 5 => ⟨S1x512, .f32⟩
  | 6 => ⟨S1x512, .f32⟩
  | 7 => ⟨S32768x1024, .f32⟩
  | 8 => ⟨S_, .f32⟩
  | 9 => ⟨S32768, .f32⟩
  | 10 => ⟨S32768x1, .f32⟩
  | 11 => ⟨S_, .f32⟩
  | 12 => ⟨S32768x1, .f32⟩
  | 13 => ⟨S32768x1, .f32⟩
  | 14 => ⟨S_, .f32⟩
  | 15 => ⟨S32768x1, .f32⟩
  | 16 => ⟨S32768x1, .f32⟩
  | 17 => ⟨S32768x1, .f32⟩
  | 18 => ⟨S32768x1024, .f32⟩
  | 19 => ⟨S32768x1024, .f32⟩
  | 20 => ⟨S32768x1024, .f32⟩
  | 21 => ⟨S32768x1024, .f32⟩
  | 22 => ⟨S32768x4296, .f32⟩
  | 23 => ⟨S32768x512, .f32⟩
  | 24 => ⟨S32768x128, .f32⟩
  | 25 => ⟨S32768x512, .f32⟩
  | 26 => ⟨S32768x64, .f32⟩
  | 27 => ⟨S32768x8, .f32⟩
  | 28 => ⟨S32768x512, .f32⟩
  | 29 => ⟨S32768x512, .f32⟩
  | 30 => ⟨S32768x1024, .f32⟩
  | 31 => ⟨S32768x1024, .f32⟩
  | 32 => ⟨S32768x128, .f32⟩
  | 33 => ⟨S_, .f32⟩
  | 34 => ⟨S32768, .f32⟩
  | 35 => ⟨S32768x1, .f32⟩
  | 36 => ⟨S_, .f32⟩
  | 37 => ⟨S32768x1, .f32⟩
  | 38 => ⟨S32768x1, .f32⟩
  | 39 => ⟨S_, .f32⟩
  | 40 => ⟨S32768x1, .f32⟩
  | 41 => ⟨S32768x1, .f32⟩
  | 42 => ⟨S32768x1, .f32⟩
  | 43 => ⟨S32768x128, .f32⟩
  | 44 => ⟨S32768x128, .f32⟩
  | 45 => ⟨S32768x128, .f32⟩
  | 46 => ⟨S32768x128, .f32⟩
  | 47 => ⟨S32768x8x64, .f32⟩
  | 48 => ⟨S8x128x32768, .f32⟩
  | 49 => ⟨S32768x8x128, .f32⟩
  | 50 => ⟨S_, .f32⟩
  | 51 => ⟨S32768x8x128, .f32⟩
  | 52 => ⟨S32768x8x128, .f32⟩
  | 53 => ⟨S_, .f32⟩
  | 54 => ⟨S32768x8, .f32⟩
  | 55 => ⟨S32768x8, .f32⟩
  | 56 => ⟨S32768x512, .f32⟩
  | 57 => ⟨S32768x512, .f32⟩
  | 58 => ⟨S_, .f32⟩
  | 59 => ⟨S32768x512, .f32⟩
  | 60 => ⟨S32768x512, .f32⟩
  | 61 => ⟨S32768x512, .f32⟩
  | 62 => ⟨S_, .f32⟩
  | 63 => ⟨S32768x512, .f32⟩
  | 64 => ⟨S32768x512, .f32⟩
  | 65 => ⟨S32768x512, .f32⟩
  | 66 => ⟨S_, .f32⟩
  | 67 => ⟨S32768x512, .f32⟩
  | 68 => ⟨S32768x512, .f32⟩
  | 69 => ⟨S_, .f32⟩
  | 70 => ⟨S32768x512, .f32⟩
  | 71 => ⟨S32768x512, .f32⟩
  | 72 => ⟨S32768x512, .f32⟩
  | 73 => ⟨S_, .f32⟩
  | 74 => ⟨S32768, .f32⟩
  | 75 => ⟨S32768x1, .f32⟩
  | 76 => ⟨S_, .f32⟩
  | 77 => ⟨S32768x1, .f32⟩
  | 78 => ⟨S32768x1, .f32⟩
  | 79 => ⟨S32768x512, .f32⟩
  | 80 => ⟨S32768x512, .f32⟩
  | 81 => ⟨S32768x512, .f32⟩
  | 82 => ⟨S_, .f32⟩
  | 83 => ⟨S32768, .f32⟩
  | 84 => ⟨S32768x1, .f32⟩
  | 85 => ⟨S_, .f32⟩
  | 86 => ⟨S32768x1, .f32⟩
  | 87 => ⟨S32768x1, .f32⟩
  | 88 => ⟨S32768x512, .f32⟩
  | 89 => ⟨S32768x512, .f32⟩
  | 90 => ⟨S_, .f32⟩
  | 91 => ⟨S32768x1, .f32⟩
  | 92 => ⟨S32768x1, .f32⟩
  | 93 => ⟨S32768x1, .f32⟩
  | 94 => ⟨S32768x512, .f32⟩
  | 95 => ⟨S32768x512, .f32⟩
  | 96 => ⟨S32768x512, .f32⟩
  | 97 => ⟨S32768x512, .f32⟩
  | 98 => ⟨S32768x512, .f32⟩
  | 99 => ⟨S32768x512, .f32⟩
  | 100 => ⟨S128x32768, .f32⟩
  | 101 => ⟨S_, .f32⟩
  | 102 => ⟨S1x32768, .f32⟩
  | 103 => ⟨S_, .f32⟩
  | 104 => ⟨S15x32768, .f32⟩
  | 105 => ⟨S144x32768, .f32⟩
  | 106 => ⟨S128x256x8x128, .f32⟩
  | 107 => ⟨S128x128x8x256, .f32⟩
  | 108 => ⟨S128x262144, .f32⟩
  | 109 => ⟨S128x262144, .bf16⟩
  | 110 => ⟨S128x256x8x64, .f32⟩
  | 111 => ⟨S64x128x8x256, .f32⟩
  | 112 => ⟨S64x262144, .f32⟩
  | 113 => ⟨S64x262144, .bf16⟩
  | 114 => ⟨S128x256x8x1, .f32⟩
  | 115 => ⟨S1x128x8x256, .f32⟩
  | 116 => ⟨S1x262144, .f32⟩
  | 117 => ⟨S144x32768, .bf16⟩
  | 118 => ⟨S32768x128, .bf16⟩
  | 119 => ⟨S32768x64, .bf16⟩
  | 120 => ⟨S32768x512, .f32⟩
  | 121 => ⟨S32768x512, .f32⟩
  | 122 => ⟨S_, .f32⟩
  | 123 => ⟨S32768x512, .f32⟩
  | 124 => ⟨S32768x512, .f32⟩
  | 125 => ⟨S32768x512, .f32⟩
  | 126 => ⟨S_, .f32⟩
  | 127 => ⟨S32768x512, .f32⟩
  | _ => ⟨S32768x1024, .f32⟩

abbrev hbmTy0_1 (i : Nat) : BufTy := match i % 128 with
  | 0 => ⟨S32768x512, .f32⟩
  | 1 => ⟨S32768x512, .f32⟩
  | 2 => ⟨S_, .f32⟩
  | 3 => ⟨S32768x512, .f32⟩
  | 4 => ⟨S32768x512, .f32⟩
  | 5 => ⟨S_, .f32⟩
  | 6 => ⟨S32768x512, .f32⟩
  | 7 => ⟨S32768x512, .f32⟩
  | 8 => ⟨S32768x512, .f32⟩
  | 9 => ⟨S32768x512, .bf16⟩
  | 10 => ⟨S32768x512, .bf16⟩
  | 11 => ⟨S32768x1024, .f32⟩
  | 12 => ⟨S32768x1024, .f32⟩
  | 13 => ⟨S_, .f32⟩
  | 14 => ⟨S32768x1024, .f32⟩
  | 15 => ⟨S32768x1024, .f32⟩
  | 16 => ⟨S_, .f32⟩
  | 17 => ⟨S32768x1024, .f32⟩
  | 18 => ⟨S32768x1024, .f32⟩
  | 19 => ⟨S32768x1024, .bf16⟩
  | 20 => ⟨S32768x1024, .f32⟩
  | 21 => ⟨S32768x1024, .f32⟩
  | 22 => ⟨S_, .f32⟩
  | 23 => ⟨S32768x1024, .f32⟩
  | 24 => ⟨S32768x1024, .f32⟩
  | 25 => ⟨S_, .f32⟩
  | 26 => ⟨S32768x1024, .f32⟩
  | 27 => ⟨S32768x1024, .f32⟩
  | 28 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_16 : Ref sig .tc := ⟨.hbm, 101, rfl⟩
abbrev main_v77 : Ref sig .tc := ⟨.hbm, 102, rfl⟩
abbrev main_cst_17 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_18 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_19 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_20 : Ref sig .tc := ⟨.hbm, 130, rfl⟩
abbrev main_v102 : Ref sig .tc := ⟨.hbm, 131, rfl⟩
abbrev main_v103 : Ref sig .tc := ⟨.hbm, 132, rfl⟩
abbrev main_cst_21 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_22 : Ref sig .tc := ⟨.hbm, 141, rfl⟩
abbrev main_v111 : Ref sig .tc := ⟨.hbm, 142, rfl⟩
abbrev main_v112 : Ref sig .tc := ⟨.hbm, 143, rfl⟩
abbrev main_cst_23 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_24 : Ref sig .tc := ⟨.hbm, 150, rfl⟩
abbrev main_v118 : Ref sig .tc := ⟨.hbm, 151, rfl⟩
abbrev main_v119 : Ref sig .tc := ⟨.hbm, 152, rfl⟩
abbrev main_cst_25 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩

abbrev nD : Nat := 1
abbrev τ : Topo := Topo.v7x

variable {F : FTy → Type} [FloatOps F]
-- ==== Proof.BodyKernelIdeal.lean ====
module

public import proofs.«01_k».proof.Proof.Gen.KernelIdeal.Frame
public import proofs.«01_k».proof.Proof.Gen.KernelIdeal.Loops
public import Idealize.ShloMosaic.Lib.LoopRemainder
public import Idealize.ShloMosaic.Lib.VecWindow
public import Idealize.ShloMosaic.Lib.WritesUnit
public import Idealize.ShloMosaic.Lib.CellWrites

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first guard of the body at a grid point, as the body computes it. -/
abbrev first (i : grid0.Coords) : Prop :=
  (Scalar.cmpi .ne (Scalar.extui (Scalar.cmpi .eq (BitVec.ofNat 32 (i 1).val) 0#32)) 0#32) = 1#1
/-- The last guard of the body at a grid point. -/
abbrev last (i : grid0.Coords) : Prop := k0_cond2 i = 1#1

/-- The step's word of grid point `i`. -/
abbrev stepW (i : grid0.Coords) : BitVec 32 := BitVec.ofNat 32 (i 1).val

/-- The first block of a point's group, from the words kept of the tile. -/
def lo (i : grid0.Coords) (S : Vec F S8 .i32) : BitVec 32 :=
  VecWindow.window S (k0_off1 i) S1.size (k0_off1_inb i) (Shape.Idx.first (numel1_S1 ▸ Nat.one_pos))
/-- The block behind the last of a point's group. -/
def hi (i : grid0.Coords) (S : Vec F S8 .i32) : BitVec 32 :=
  VecWindow.window S (k0_off2 i) S1.size (k0_off2_inb i) (Shape.Idx.first (numel1_S1 ▸ Nat.one_pos))

/-- What one block of rows becomes: the rows `y` with the four experts' weighted outputs added, from the rows' values `hb`
and weights `cb` and the experts' matrices `g`, `u`, `d`. -/
def blk (a : BitVec 32) (hb : Vec F S128x1024 .bf16) (cb : Vec F S128x128 .f32)
    (g u : Fin 4 → Vec F S1x1024x256 .bf16) (d : Fin 4 → Vec F S1x256x1024 .bf16) (y : Vec F S128x1024 .f32) :
    FVec F S128x1024 .f32 :=
  k0_pay3 (k0_pay40 a hb cb (iota .tc S128x128 32 [1] iota_S128x128_d1_w32)
    (k0_pay36 hb cb (k0_pay34 a hb cb (g 0) (u 0) (d 0)) (k0_pay35 a) (Scalar.ofBits .f32 0x00000000#32) (g 1) (u 1) (d 1))
    (k0_pay37 a cb (iota .tc S128x128 32 [1] iota_S128x128_d1_w32)) (k0_pay38 hb (g 2)) (k0_pay39 (u 2))
    (constant S128x256 .f32 0x00000000#32) (d 2) (g 3) (u 3) (d 3) y)

/-- The matrix of expert `k` of a block of four. -/
def slabA (x : Vec F S4x1024x256 .bf16) : Fin 4 → Vec F S1x1024x256 .bf16
  | 0 => VecWindow.window x ![0, 0, 0] S1x1024x256.size inb_S4x1024x256_S1x1024x256_0_0_0
  | 1 => VecWindow.window x ![1, 0, 0] S1x1024x256.size inb_S4x1024x256_S1x1024x256_1_0_0
  | 2 => VecWindow.window x ![2, 0, 0] S1x1024x256.size inb_S4x1024x256_S1x1024x256_2_0_0
  | 3 => VecWindow.window x ![3, 0, 0] S1x1024x256.size inb_S4x1024x256_S1x1024x256_3_0_0
/-- The same for the matrices back to the layer's width. -/
def slabB (x : Vec F S4x256x1024 .bf16) : Fin 4 → Vec F S1x256x1024 .bf16
  | 0 => VecWindow.window x ![0, 0, 0] S1x256x1024.size inb_S4x256x1024_S1x256x1024_0_0_0
  | 1 => VecWindow.window x ![1, 0, 0] S1x256x1024.size inb_S4x256x1024_S1x256x1024_1_0_0
  | 2 => VecWindow.window x ![2, 0, 0] S1x256x1024.size inb_S4x256x1024_S1x256x1024_2_0_0
  | 3 => VecWindow.window x ![3, 0, 0] S1x256x1024.size inb_S4x256x1024_S1x256x1024_3_0_0

/-- One trip's store: the block of rows named by the trip, with the experts' outputs added. -/
def tripV (a v21 v24 : BitVec 32) (hw : k0_chk1 v21 v24) (x5 x6 : Vec F S4x1024x256 .bf16) (x7 : Vec F S4x256x1024 .bf16)
    (H : Vec F S1024x1024 .bf16) (C : Vec F S1024x128 .f32) (k : Fin (k0_t1_loop v21 v24).trips)
    (Y : Vec F S1024x1024 .f32) : Vec F S1024x1024 .f32 :=
  VecWindow.put Y (k0_off3 v21 v24 k) S128x1024.size
    (blk a (VecWindow.window H (k0_off3 v21 v24 k) S128x1024.size (k0_off3_inb v21 v24 hw k))
      (VecWindow.window C (k0_off4 v21 v24 k) S128x128.size (k0_off4_inb v21 v24 hw k)) (slabA x5) (slabA x6) (slabB x7)
      (VecWindow.window Y (k0_off3 v21 v24 k) S128x1024.size (k0_off3_inb v21 v24 hw k)))

/-- The rows after the first `n` trips. -/
def loopV (a v21 v24 : BitVec 32) (hw : k0_chk1 v21 v24) (x5 x6 : Vec F S4x1024x256 .bf16) (x7 : Vec F S4x256x1024 .bf16)
    (H : Vec F S1024x1024 .bf16) (C : Vec F S1024x128 .f32) (Y : Vec F S1024x1024 .f32) : ℕ → Vec F S1024x1024 .f32
  | 0 => Y
  | n + 1 => if h : n < (k0_t1_loop v21 v24).trips then
      tripV a v21 v24 hw x5 x6 x7 H C ⟨n, h⟩ (loopV a v21 v24 hw x5 x6 x7 H C Y n)
    else loopV a v21 v24 hw x5 x6 x7 H C Y n

theorem trip_list (c : Dev nD) (i : grid0.Coords) (arg2 : Memref sig .tc .vmem S1024x1024 .f32) (harg2 : arg2.IsWhole) (arg3 : Memref sig .tc .vmem S1024x1024
    .bf16) (harg3 : arg3.IsWhole) (arg4 : Memref sig .tc .vmem S1024x128 .f32) (harg4 : arg4.IsWhole) (arg5 : Memref
    sig .tc .vmem S8x1024 .f32) (harg5 : arg5.IsWhole) (arg6 : Memref sig .tc .vmem S1024x1024 .bf16) (harg6 :
    arg6.IsWhole) (arg7 : Memref sig .tc .vmem S4x1024x256 .bf16) (harg7 : arg7.IsWhole) (arg8 : Memref sig .tc
    .vmem S4x1024x256 .bf16) (harg8 : arg8.IsWhole) (arg9 : Memref sig .tc .vmem S4x256x1024 .bf16) (harg9 :
    arg9.IsWhole) (arg10 : Memref sig .tc .vmem S1x1024 .f32) (harg10 : arg10.IsWhole) (arg11 : Memref sig .tc .vmem
    S1024x1024 .f32) (harg11 : arg11.IsWhole) (arg12 : Memref sig .tc .vmem S1024x1024 .bf16) (harg12 :
    arg12.IsWhole) (arg13 : Memref sig .tc .vmem S1x1024 .f32) (harg13 : arg13.IsWhole) (arg14 : Memref sig .tc
    .vmem S1024x1024 .bf16) (harg14 : arg14.IsWhole) (arg15 : Memref sig .tc .vmem S1024x128 .f32) (harg15 :
    arg15.IsWhole) (arg16 : Memref sig .tc .vmem S1024x1024 .f32) (harg16 : arg16.IsWhole) (arg17 : Memref sig .tc
    .smem S8 .i32) (harg17 : arg17.IsWhole)
    (a v21 v24 : BitVec 32) (hw : k0_chk1 v21 v24) (x5 x6 : Vec F S4x1024x256 .bf16) (x7 : Vec F S4x256x1024 .bf16)
    (H : Vec F S1024x1024 .bf16) (C : Vec F S1024x128 .f32) (k : Fin (k0_t1_loop v21 v24).trips)
    (f : BufTy.Contents (Elt F) arg16.view.ty) :
    arg16.view.read (Elt F) (arg16.view.writes (Elt F) f (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a v21 v24 hw
      (harg7.unread x5) (harg8.unread x6) (harg9.unread x7) (harg14.unread H) (harg15.unread C) k f))
      = tripV a v21 v24 hw x5 x6 x7 H C k (arg16.view.read (Elt F) f) := by
  unfold tripL_k0_t1 trip_k0_t1
  dsimp only
  rw [View.read_writes_cons_put _ _ _ _ _ rfl, View.writes_nil]
  unfold tripV blk
  simp only [trip_k0_t1.sl.r, trip_k0_t1.sl.r_1, trip_k0_t1.sl.r_2, trip_k0_t1.sl.r_3, trip_k0_t1.sl.r_4,
    trip_k0_t1.sl.r_5, trip_k0_t1.sl.r_6, trip_k0_t1.sl.r_7]
  have e3 : ∀ {e} (b : Memref sig .tc .vmem S1024x1024 e) (g : b.view.ty.Contents (Elt F)),
      b.view.readAt (Elt F) (Rect.unit (s := S1024x1024) (k0_off3 v21 v24 k) S128x1024.size (k0_off3_inb v21 v24 hw k)).toLoadRect g
        = VecWindow.window (b.view.read (Elt F) g) (k0_off3 v21 v24 k) S128x1024.size (k0_off3_inb v21 v24 hw k) :=
    fun b g => View.readAt_unit _ _ _ rfl _
  have e4 : ∀ {e} (b : Memref sig .tc .vmem S1024x128 e) (g : b.view.ty.Contents (Elt F)),
      b.view.readAt (Elt F) (Rect.unit (s := S1024x128) (k0_off4 v21 v24 k) S128x128.size (k0_off4_inb v21 v24 hw k)).toLoadRect g
        = VecWindow.window (b.view.read (Elt F) g) (k0_off4 v21 v24 k) S128x128.size (k0_off4_inb v21 v24 hw k) :=
    fun b g => View.readAt_unit _ _ _ rfl _
  have eA : ∀ (b : Memref sig .tc .vmem S4x1024x256 .bf16) (g : b.view.ty.Contents (Elt F)) (o : Fin 3 → ℕ) (h),
      b.view.readAt (Elt F) (Rect.unit (s := S4x1024x256) o S1x1024x256.size h).toLoadRect g
        = VecWindow.window (b.view.read (Elt F) g) o S1x1024x256.size h :=
    fun b g o h => View.readAt_unit _ _ _ rfl _
  have eB : ∀ (b : Memref sig .tc .vmem S4x256x1024 .bf16) (g : b.view.ty.Contents (Elt F)) (o : Fin 3 → ℕ) (h),
      b.view.readAt (Elt F) (Rect.unit (s := S4x256x1024) o S1x256x1024.size h).toLoadRect g
        = VecWindow.window (b.view.read (Elt F) g) o S1x256x1024.size h :=
    fun b g o h => View.readAt_unit _ _ _ rfl _
  simp only [e3, e4, eA, eB, harg7.read_unread, harg8.read_unread, harg9.read_unread, harg14.read_unread,
    harg15.read_unread]
  rfl

theorem loop_read (c : Dev nD) (i : grid0.Coords) (arg2 : Memref sig .tc .vmem S1024x1024 .f32) (harg2 : arg2.IsWhole) (arg3 : Memref sig .tc .vmem S1024x1024
    .bf16) (harg3 : arg3.IsWhole) (arg4 : Memref sig .tc .vmem S1024x128 .f32) (harg4 : arg4.IsWhole) (arg5 : Memref
    sig .tc .vmem S8x1024 .f32) (harg5 : arg5.IsWhole) (arg6 : Memref sig .tc .vmem S1024x1024 .bf16) (harg6 :
    arg6.IsWhole) (arg7 : Memref sig .tc .vmem S4x1024x256 .bf16) (harg7 : arg7.IsWhole) (arg8 : Memref sig .tc
    .vmem S4x1024x256 .bf16) (harg8 : arg8.IsWhole) (arg9 : Memref sig .tc .vmem S4x256x1024 .bf16) (harg9 :
    arg9.IsWhole) (arg10 : Memref sig .tc .vmem S1x1024 .f32) (harg10 : arg10.IsWhole) (arg11 : Memref sig .tc .vmem
    S1024x1024 .f32) (harg11 : arg11.IsWhole) (arg12 : Memref sig .tc .vmem S1024x1024 .bf16) (harg12 :
    arg12.IsWhole) (arg13 : Memref sig .tc .vmem S1x1024 .f32) (harg13 : arg13.IsWhole) (arg14 : Memref sig .tc
    .vmem S1024x1024 .bf16) (harg14 : arg14.IsWhole) (arg15 : Memref sig .tc .vmem S1024x128 .f32) (harg15 :
    arg15.IsWhole) (arg16 : Memref sig .tc .vmem S1024x1024 .f32) (harg16 : arg16.IsWhole) (arg17 : Memref sig .tc
    .smem S8 .i32) (harg17 : arg17.IsWhole)
    (a v21 v24 : BitVec 32) (hw : k0_chk1 v21 v24) (x5 x6 : Vec F S4x1024x256 .bf16) (x7 : Vec F S4x256x1024 .bf16)
    (H : Vec F S1024x1024 .bf16) (C : Vec F S1024x128 .f32) (f : BufTy.Contents (Elt F) arg16.view.ty) :
    ∀ n : ℕ, n ≤ (k0_t1_loop v21 v24).trips →
    arg16.view.read (Elt F) (arg16.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a v21 v24 hw
      (harg7.unread x5) (harg8.unread x6) (harg9.unread x7) (harg14.unread H) (harg15.unread C) f n))
      = loopV a v21 v24 hw x5 x6 x7 H C (arg16.view.read (Elt F) f) n
  | 0, _ => rfl
  | n + 1, h => by
    rw [pb_k0_t1_succ _ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a v21 v24 hw _ _ _ _ _ f ⟨n, h⟩, View.writes_append, trip_list,
      loop_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a v21 v24 hw x5 x6 x7 H C f n (Nat.le_of_succ_le h)]
    show _ = dite _ _ _
    rw [dif_pos (show n < _ from h)]

/-- The rows a point leaves, from the rows it finds. -/
def rowsV (i : grid0.Coords) (S : Vec F S8 .i32) (hw : k0_chk1 (lo i S) (hi i S)) (x5 x6 : Vec F S4x1024x256 .bf16)
    (x7 : Vec F S4x256x1024 .bf16) (H : Vec F S1024x1024 .bf16) (C : Vec F S1024x128 .f32) (Y : Vec F S1024x1024 .f32) :
    Vec F S1024x1024 .f32 :=
  loopV (stepW i) (lo i S) (hi i S) hw x5 x6 x7 H C Y (k0_t1_loop (lo i S) (hi i S)).trips

theorem rows_read (c : Dev nD) (i : grid0.Coords) (arg2 : Memref sig .tc .vmem S1024x1024 .f32) (harg2 : arg2.IsWhole) (arg3 : Memref sig .tc .vmem S1024x1024
    .bf16) (harg3 : arg3.IsWhole) (arg4 : Memref sig .tc .vmem S1024x128 .f32) (harg4 : arg4.IsWhole) (arg5 : Memref
    sig .tc .vmem S8x1024 .f32) (harg5 : arg5.IsWhole) (arg6 : Memref sig .tc .vmem S1024x1024 .bf16) (harg6 :
    arg6.IsWhole) (arg7 : Memref sig .tc .vmem S4x1024x256 .bf16) (harg7 : arg7.IsWhole) (arg8 : Memref sig .tc
    .vmem S4x1024x256 .bf16) (harg8 : arg8.IsWhole) (arg9 : Memref sig .tc .vmem S4x256x1024 .bf16) (harg9 :
    arg9.IsWhole) (arg10 : Memref sig .tc .vmem S1x1024 .f32) (harg10 : arg10.IsWhole) (arg11 : Memref sig .tc .vmem
    S1024x1024 .f32) (harg11 : arg11.IsWhole) (arg12 : Memref sig .tc .vmem S1024x1024 .bf16) (harg12 :
    arg12.IsWhole) (arg13 : Memref sig .tc .vmem S1x1024 .f32) (harg13 : arg13.IsWhole) (arg14 : Memref sig .tc
    .vmem S1024x1024 .bf16) (harg14 : arg14.IsWhole) (arg15 : Memref sig .tc .vmem S1024x128 .f32) (harg15 :
    arg15.IsWhole) (arg16 : Memref sig .tc .vmem S1024x1024 .f32) (harg16 : arg16.IsWhole) (arg17 : Memref sig .tc
    .smem S8 .i32) (harg17 : arg17.IsWhole)
    (S : Vec F S8 .i32) (hw : k0_chk1 (lo i S) (hi i S)) (v21 v24 : BitVec 32) (e1 : v21 = lo i S) (e2 : v24 = hi i S)
    (hw' : k0_chk1 v21 v24) (x5 x6 : Vec F S4x1024x256 .bf16) (x7 : Vec F S4x256x1024 .bf16)
    (H : Vec F S1024x1024 .bf16) (C : Vec F S1024x128 .f32) (f : BufTy.Contents (Elt F) arg16.view.ty) :
    arg16.view.read (Elt F) (arg16.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (stepW i) v21 v24 hw'
      (harg7.unread x5) (harg8.unread x6) (harg9.unread x7) (harg14.unread H) (harg15.unread C) f (k0_t1_loop v21 v24).trips))
      = rowsV i S hw x5 x6 x7 H C (arg16.view.read (Elt F) f) := by
  subst e1 e2
  exact loop_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ hw' x5 x6 x7 H C f _ (le_refl _)

/-- Four bands of 256 rows, one below the other. -/
def bands {α : Type} (p0 p1 p2 p3 : S256x1024.Idx → α) : S1024x1024.Idx → α := fun y =>
  let j : S256x1024.Idx := fun | 0 => ⟨(y 0).val % 256, Nat.mod_lt _ (by decide)⟩ | 1 => y 1
  if (y 0).val < 256 then p0 j else if (y 0).val < 512 then p1 j else if (y 0).val < 768 then p2 j else p3 j

theorem bands_read {sp : Space} {e : EltTy} (b : Memref sig .tc sp S1024x1024 e) (f : b.view.ty.Contents (Elt F))
    (p0 p1 p2 p3 : S256x1024.Idx → Elt F e) (h0 h1 h2 h3) :
    b.view.read (Elt F) (b.view.writes (Elt F) f [⟨Rect.unit ![768, 0] S256x1024.size h3, p3⟩,
      ⟨Rect.unit ![512, 0] S256x1024.size h2, p2⟩, ⟨Rect.unit ![256, 0] S256x1024.size h1, p1⟩,
      ⟨Rect.unit ![0, 0] S256x1024.size h0, p0⟩]) = bands p0 p1 p2 p3 := by
  funext y
  have hy : (y 0).val < 1024 := (y 0).isLt
  unfold bands
  by_cases c0 : (y 0).val < 256
  · rw [if_pos c0]
    rw [View.read_writes_cons_rows_of_not_mem (o := 768) (W := 256) b.view f h3 p3 _ y rfl rfl (by omega),
      View.read_writes_cons_rows_of_not_mem (o := 512) (W := 256) b.view f h2 p2 _ y rfl rfl (by omega),
      View.read_writes_cons_rows_of_not_mem (o := 256) (W := 256) b.view f h1 p1 _ y rfl rfl (by omega)]
    exact View.read_writes_cons_rows_of_mem (o := 0) b.view f h0 p0 [] y _ rfl
      (by show (y 0).val = 0 + (y 0).val % 256; omega) rfl
  rw [if_neg c0]
  by_cases c1 : (y 0).val < 512
  · rw [if_pos c1]
    rw [View.read_writes_cons_rows_of_not_mem (o := 768) (W := 256) b.view f h3 p3 _ y rfl rfl (by omega),
      View.read_writes_cons_rows_of_not_mem (o := 512) (W := 256) b.view f h2 p2 _ y rfl rfl (by omega)]
    exact View.read_writes_cons_rows_of_mem (o := 256) b.view f h1 p1 _ y _ rfl
      (by show (y 0).val = 256 + (y 0).val % 256; omega) rfl
  rw [if_neg c1]
  by_cases c2 : (y 0).val < 768
  · rw [if_pos c2]
    rw [View.read_writes_cons_rows_of_not_mem (o := 768) (W := 256) b.view f h3 p3 _ y rfl rfl (by omega)]
    exact View.read_writes_cons_rows_of_mem (o := 512) b.view f h2 p2 _ y _ rfl
      (by show (y 0).val = 512 + (y 0).val % 256; omega) rfl
  rw [if_neg c2]
  exact View.read_writes_cons_rows_of_mem (o := 768) b.view f h3 p3 _ y _ rfl
    (by show (y 0).val = 768 + (y 0).val % 256; omega) rfl

set_option maxHeartbeats 1200000 in
theorem body_mid (c : Dev nD) (i : grid0.Coords) (arg2 : Memref sig .tc .vmem S1024x1024 .f32) (harg2 : arg2.IsWhole) (arg3 : Memref sig .tc .vmem S1024x1024
    .bf16) (harg3 : arg3.IsWhole) (arg4 : Memref sig .tc .vmem S1024x128 .f32) (harg4 : arg4.IsWhole) (arg5 : Memref
    sig .tc .vmem S8x1024 .f32) (harg5 : arg5.IsWhole) (arg6 : Memref sig .tc .vmem S1024x1024 .bf16) (harg6 :
    arg6.IsWhole) (arg7 : Memref sig .tc .vmem S4x1024x256 .bf16) (harg7 : arg7.IsWhole) (arg8 : Memref sig .tc
    .vmem S4x1024x256 .bf16) (harg8 : arg8.IsWhole) (arg9 : Memref sig .tc .vmem S4x256x1024 .bf16) (harg9 :
    arg9.IsWhole) (arg10 : Memref sig .tc .vmem S1x1024 .f32) (harg10 : arg10.IsWhole) (arg11 : Memref sig .tc .vmem
    S1024x1024 .f32) (harg11 : arg11.IsWhole) (arg12 : Memref sig .tc .vmem S1024x1024 .bf16) (harg12 :
    arg12.IsWhole) (arg13 : Memref sig .tc .vmem S1x1024 .f32) (harg13 : arg13.IsWhole) (arg14 : Memref sig .tc
    .vmem S1024x1024 .bf16) (harg14 : arg14.IsWhole) (arg15 : Memref sig .tc .vmem S1024x128 .f32) (harg15 :
    arg15.IsWhole) (arg16 : Memref sig .tc .vmem S1024x1024 .f32) (harg16 : arg16.IsWhole) (arg17 : Memref sig .tc
    .smem S8 .i32) (harg17 : arg17.IsWhole)
    (hc0 : ¬ first i) (hc1 : ¬ last i)
    (x5 : Vec F S4x1024x256 .bf16) (x6 : Vec F S4x1024x256 .bf16) (x7 : Vec F S4x256x1024 .bf16)
    (H : Vec F S1024x1024 .bf16) (C : Vec F S1024x128 .f32) (Y : Vec F S1024x1024 .f32) (S : Vec F S8 .i32)
    (hchk : k0_chk1 (lo i S) (hi i S)) (E : Set ℕ) (K : PUnit → sProp 𝕄) :
    iprop(owns (c : Thread nD τ) arg7 fullShare x5 ∗ owns (c : Thread nD τ) arg8 fullShare x6
      ∗ owns (c : Thread nD τ) arg9 fullShare x7 ∗ owns (c : Thread nD τ) arg14 fullShare H
      ∗ owns (c : Thread nD τ) arg15 fullShare C ∗ owns (c : Thread nD τ) arg16 fullShare Y
      ∗ owns (c : Thread nD τ) arg17 fullShare S
      ∗ (iprop(owns (c : Thread nD τ) arg7 fullShare x5 ∗ owns (c : Thread nD τ) arg8 fullShare x6
      ∗ owns (c : Thread nD τ) arg9 fullShare x7 ∗ owns (c : Thread nD τ) arg14 fullShare H
      ∗ owns (c : Thread nD τ) arg15 fullShare C ∗ owns (c : Thread nD τ) arg16 fullShare (rowsV i S hchk x5 x6 x7 H C Y)
      ∗ owns (c : Thread nD τ) arg17 fullShare S) -∗ K ⟨⟩))
    ⊢ wp frame (wpE (defs₀ (F := F)) Variants.none c none) E (cc0_experts i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_experts_eq_skeleton]; unfold cc0_experts_skel
  unfold owns
  iintro ⟨⟨%f5, %hf5, H5⟩, ⟨%f6, %hf6, H6⟩, ⟨%f7, %hf7, H7⟩, ⟨%fs2, %hfs2, HS2⟩, ⟨%fs3, %hfs3, HS3⟩, ⟨%fs4, %hfs4, HS4⟩, ⟨%fs5, %hfs5, HS5⟩, Hk⟩
  obtain rfl := harg7.eq_unread hf5; obtain rfl := harg8.eq_unread hf6; obtain rfl := harg9.eq_unread hf7
  obtain rfl := harg14.eq_unread hfs2; obtain rfl := harg15.eq_unread hfs3; obtain rfl := harg16.eq_unread hfs4
  obtain rfl := harg17.eq_unread hfs5
  sl_exec (disch := first | sl_exact hc0 | sl_exact hc1)
  have e1 : body_mid.sl.r c i arg17 harg17 S = lo i S := by
    unfold body_mid.sl.r lo
    rw [View.readAt_unit _ _ _ rfl (k0_off1_inb i), harg17.read_unread]
  have e2 : body_mid.sl.r_1 c i arg17 harg17 S = hi i S := by
    unfold body_mid.sl.r_1 hi
    rw [View.readAt_unit _ _ _ rfl (k0_off2_inb i), harg17.read_unread]
  have hchk' : k0_chk1 (body_mid.sl.r c i arg17 harg17 S) (body_mid.sl.r_1 c i arg17 harg17 S) := by
    rw [e1, e2]; exact hchk
  sl_exec (disch := first | sl_exact hc0 | sl_exact hc1 | sl_exact hchk')
  sl_step
  iapply Hk
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HS2]
  · iexists _; isplitr; · ipureintro; exact harg14.read_unread _
    iexact HS2
  isplitl [HS3]
  · iexists _; isplitr; · ipureintro; exact harg15.read_unread _
    iexact HS3
  isplitl [HS4]
  · iexists _; isplitr; swap; · iexact HS4
    ipureintro
    exact (rows_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 S hchk _ _ e1 e2 hchk' x5 x6 x7 H C _).trans (by rw [harg16.read_unread])
  iexists _; isplitr; · ipureintro; exact harg17.read_unread _
  iexact HS5

end Cert.KernelIdeal.Moe

end
-- ==== Proof.BodyFirstKernelIdeal.lean ====
module

public import proofs.«01_k».proof.Proof.BodyKernelIdeal

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Each token's position among the tile's tokens in the order of their groups. -/
def posV (x3 : Vec F S8x1024 .f32) (x4 : Vec F S1024x1024 .bf16) : Vec F S1x1024 .f32 :=
  k0_pay26 x3 (k0_pay7 x3 x4) (k0_pay21 x3 (k0_pay7 x3 x4) (k0_pay11 x3 x4) (k0_pay12 x3) (k0_pay13 x3))
    (k0_pay22 x3 (k0_pay12 x3) (k0_pay13 x3))

/-- The same before the last cast of shape. -/
def posU (x3 : Vec F S8x1024 .f32) (x4 : Vec F S1024x1024 .bf16) : Vec F S1x1024 .f32 :=
  k0_pay25 x3 (k0_pay7 x3 x4) (k0_pay21 x3 (k0_pay7 x3 x4) (k0_pay11 x3 x4) (k0_pay12 x3) (k0_pay13 x3))
    (k0_pay22 x3 (k0_pay12 x3) (k0_pay13 x3))

/-- The one-hot matrix that takes a token to its position. -/
def permV (x3 : Vec F S8x1024 .f32) (x4 : Vec F S1024x1024 .bf16) : Vec F S1024x1024 .bf16 :=
  bands
    (k0_pay27 x3 (k0_pay7 x3 x4) (k0_pay21 x3 (k0_pay7 x3 x4) (k0_pay11 x3 x4) (k0_pay12 x3) (k0_pay13 x3))
      (k0_pay22 x3 (k0_pay12 x3) (k0_pay13 x3)))
    (k0_pay28 x3 (k0_pay7 x3 x4) (k0_pay21 x3 (k0_pay7 x3 x4) (k0_pay11 x3 x4) (k0_pay12 x3) (k0_pay13 x3))
      (k0_pay22 x3 (k0_pay12 x3) (k0_pay13 x3)))
    (k0_pay30 (k0_pay29 x3 (k0_pay7 x3 x4) (k0_pay21 x3 (k0_pay7 x3 x4) (k0_pay11 x3 x4) (k0_pay12 x3) (k0_pay13 x3))
      (k0_pay22 x3 (k0_pay12 x3) (k0_pay13 x3))) (Scalar.ofBits .f32 0x3F800000#32) (Scalar.ofBits .f32 0x00000000#32))
    (k0_pay31 (posU x3 x4))

/-- The tokens' values in the order of their positions. -/
def valV (x1 : Vec F S1024x1024 .bf16) (x3 : Vec F S8x1024 .f32) (x4 : Vec F S1024x1024 .bf16) : Vec F S1024x1024 .bf16 :=
  k0_pay32 (permV x3 x4) x1

/-- The tokens' expert weights in the order of their positions. -/
def wtV (x2 : Vec F S1024x128 .f32) (x3 : Vec F S8x1024 .f32) (x4 : Vec F S1024x1024 .bf16) : Vec F S1024x128 .f32 :=
  k0_pay1 (k0_pay33 (permV x3 x4) x2)

/-- The first and the behind-last block of each group. -/
def segV (x3 : Vec F S8x1024 .f32) : Vec F S8 .i32 := fun y =>
  if (y 0).val = 7 then Scalar.fptosi 32 (k0_pay24 x3 (k0_pay12 x3) (k0_pay13 x3)) else
  if (y 0).val = 3 then Scalar.fptosi 32 (k0_pay23 x3 (k0_pay12 x3) (k0_pay13 x3)) else
  if (y 0).val = 6 then Scalar.fptosi 32 (k0_pay20 x3 (k0_pay12 x3) (k0_pay13 x3)) else
  if (y 0).val = 2 then Scalar.fptosi 32 (k0_pay19 (k0_pay12 x3) (k0_pay13 x3)) else
  if (y 0).val = 5 then Scalar.fptosi 32 (k0_pay16 (k0_pay15 x3)) else
  if (y 0).val = 1 then Scalar.fptosi 32 (k0_pay14 x3) else
  if (y 0).val = 4 then Scalar.fptosi 32 (k0_pay10 x3) else
  Scalar.fptosi 32 (k0_pay9 (F := F))

/-- The words of the tile as the list of their stores, the newest first. -/
def segL (x3 : Vec F S8x1024 .f32) : List (View.Piece (Elt F) S8 .i32) :=
  [⟨Rect.unit ![7] S1.size inb_S8_S1_7, fun _ => Scalar.fptosi 32 (k0_pay24 x3 (k0_pay12 x3) (k0_pay13 x3))⟩,
    ⟨Rect.unit ![3] S1.size inb_S8_S1_3, fun _ => Scalar.fptosi 32 (k0_pay23 x3 (k0_pay12 x3) (k0_pay13 x3))⟩,
    ⟨Rect.unit ![6] S1.size inb_S8_S1_6, fun _ => Scalar.fptosi 32 (k0_pay20 x3 (k0_pay12 x3) (k0_pay13 x3))⟩,
    ⟨Rect.unit ![2] S1.size inb_S8_S1_2, fun _ => Scalar.fptosi 32 (k0_pay19 (k0_pay12 x3) (k0_pay13 x3))⟩,
    ⟨Rect.unit ![5] S1.size inb_S8_S1_5, fun _ => Scalar.fptosi 32 (k0_pay16 (k0_pay15 x3))⟩,
    ⟨Rect.unit ![1] S1.size inb_S8_S1_1, fun _ => Scalar.fptosi 32 (k0_pay14 x3)⟩,
    ⟨Rect.unit ![4] S1.size inb_S8_S1_4, fun _ => Scalar.fptosi 32 (k0_pay10 x3)⟩,
    ⟨Rect.unit ![0] S1.size inb_S8_S1_0, fun _ => Scalar.fptosi 32 (k0_pay9 (F := F))⟩]

/-- The eight cells are all the cells. -/
theorem chain8 {α : Type} {n : ℕ} (hn : n < 8) (a7 a3 a6 a2 a5 a1 a4 a0 d : α) :
    (if n = 7 then a7 else if n = 3 then a3 else if n = 6 then a6 else if n = 2 then a2 else if n = 5 then a5 else
      if n = 1 then a1 else if n = 4 then a4 else if n = 0 then a0 else d)
    = (if n = 7 then a7 else if n = 3 then a3 else if n = 6 then a6 else if n = 2 then a2 else if n = 5 then a5 else
      if n = 1 then a1 else if n = 4 then a4 else a0) := by
  split_ifs <;> first | rfl | (exfalso; omega)

theorem seg_read (b : Memref sig .tc .smem S8 .i32) (f : b.view.ty.Contents (Elt F)) (x3 : Vec F S8x1024 .f32) :
    b.view.read (Elt F) (b.view.writes (Elt F) f (segL x3)) = segV x3 := by
  funext y
  have hy : (y 0).val < 8 := (y 0).isLt
  unfold segL segV
  rw [View.read_writes_cons_cell, View.read_writes_cons_cell, View.read_writes_cons_cell, View.read_writes_cons_cell,
    View.read_writes_cons_cell, View.read_writes_cons_cell, View.read_writes_cons_cell, View.read_writes_cons_cell]
  simp only [Matrix.cons_val_zero]
  exact chain8 hy _ _ _ _ _ _ _ _ _

theorem off1_zero (i : grid0.Coords) (h : first i) : k0_off1 i = ![0] := by
  have : ∀ n : Fin 8, (Scalar.cmpi .ne (Scalar.extui (Scalar.cmpi .eq (BitVec.ofNat 32 n.val) 0#32)) 0#32) = 1#1 → n = 0 := by
    decide +kernel
  have h0 : i 1 = (0 : Fin 8) := this (i 1) h
  unfold k0_off1; rw [h0]; decide +kernel
theorem off2_zero (i : grid0.Coords) (h : first i) : k0_off2 i = ![4] := by
  have : ∀ n : Fin 8, (Scalar.cmpi .ne (Scalar.extui (Scalar.cmpi .eq (BitVec.ofNat 32 n.val) 0#32)) 0#32) = 1#1 → n = 0 := by
    decide +kernel
  have h0 : i 1 = (0 : Fin 8) := this (i 1) h
  unfold k0_off2; rw [h0]; decide +kernel

set_option maxHeartbeats 1200000 in
theorem body_first (c : Dev nD) (i : grid0.Coords) (arg2 : Memref sig .tc .vmem S1024x1024 .f32) (harg2 : arg2.IsWhole) (arg3 : Memref sig .tc .vmem S1024x1024
    .bf16) (harg3 : arg3.IsWhole) (arg4 : Memref sig .tc .vmem S1024x128 .f32) (harg4 : arg4.IsWhole) (arg5 : Memref
    sig .tc .vmem S8x1024 .f32) (harg5 : arg5.IsWhole) (arg6 : Memref sig .tc .vmem S1024x1024 .bf16) (harg6 :
    arg6.IsWhole) (arg7 : Memref sig .tc .vmem S4x1024x256 .bf16) (harg7 : arg7.IsWhole) (arg8 : Memref sig .tc
    .vmem S4x1024x256 .bf16) (harg8 : arg8.IsWhole) (arg9 : Memref sig .tc .vmem S4x256x1024 .bf16) (harg9 :
    arg9.IsWhole) (arg10 : Memref sig .tc .vmem S1x1024 .f32) (harg10 : arg10.IsWhole) (arg11 : Memref sig .tc .vmem
    S1024x1024 .f32) (harg11 : arg11.IsWhole) (arg12 : Memref sig .tc .vmem S1024x1024 .bf16) (harg12 :
    arg12.IsWhole) (arg13 : Memref sig .tc .vmem S1x1024 .f32) (harg13 : arg13.IsWhole) (arg14 : Memref sig .tc
    .vmem S1024x1024 .bf16) (harg14 : arg14.IsWhole) (arg15 : Memref sig .tc .vmem S1024x128 .f32) (harg15 :
    arg15.IsWhole) (arg16 : Memref sig .tc .vmem S1024x1024 .f32) (harg16 : arg16.IsWhole) (arg17 : Memref sig .tc
    .smem S8 .i32) (harg17 : arg17.IsWhole)
    (hc0 : first i) (hc1 : ¬ last i)
    (x1 : Vec F S1024x1024 .bf16) (x2 : Vec F S1024x128 .f32) (x3 : Vec F S8x1024 .f32) (x4 : Vec F S1024x1024 .bf16)
    (x5 : Vec F S4x1024x256 .bf16) (x6 : Vec F S4x1024x256 .bf16) (x7 : Vec F S4x256x1024 .bf16)
    (hchk : k0_chk1 (lo i (segV x3)) (hi i (segV x3))) (E : Set ℕ) (K : PUnit → sProp 𝕄) :
    iprop(owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)
      ∗ (∃ d, owns (c : Thread nD τ) arg16 fullShare d)
      ∗ (∃ d, owns (c : Thread nD τ) arg17 fullShare d)
      ∗ (iprop(owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ (∃ d, owns (c : Thread nD τ) arg12 fullShare d)
      ∗ owns (c : Thread nD τ) arg13 fullShare (posV x3 x4)
      ∗ owns (c : Thread nD τ) arg14 fullShare (valV x1 x3 x4)
      ∗ owns (c : Thread nD τ) arg15 fullShare (wtV x2 x3 x4)
      ∗ owns (c : Thread nD τ) arg16 fullShare (rowsV i (segV x3) hchk x5 x6 x7 (valV x1 x3 x4) (wtV x2 x3 x4) k0_pay2)
      ∗ owns (c : Thread nD τ) arg17 fullShare (segV x3)) -∗ K ⟨⟩))
    ⊢ wp frame (wpE (defs₀ (F := F)) Variants.none c none) E (cc0_experts i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  letI : ClosedOff (k0_off1 i) := ⟨![0], off1_zero i hc0⟩
  letI : ClosedOff (k0_off2 i) := ⟨![4], off2_zero i hc0⟩
  simp only [cc0_experts_eq_skeleton]; unfold cc0_experts_skel
  simp only [k0_part1_eq_skeleton, k0_part2_eq_skeleton, k0_part3_eq_skeleton, k0_part4_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | sl_exact hc0 | sl_exact hc1)
  have e5 : ∀ h, arg5.view.readAt (Elt F) (Rect.unit (s := S8x1024) ![0, 0] S8x1024.size h).toLoadRect (harg5.unread x3) = x3 :=
    fun h => (View.readAt_full _ _ _).trans (harg5.read_unread _)
  have e6 : ∀ h, arg6.view.readAt (Elt F) (Rect.unit (s := S1024x1024) ![0, 0] S1024x1024.size h).toLoadRect (harg6.unread x4) = x4 :=
    fun h => (View.readAt_full _ _ _).trans (harg6.read_unread _)
  have e4 : ∀ h, arg4.view.readAt (Elt F) (Rect.unit (s := S1024x128) ![0, 0] S1024x128.size h).toLoadRect (harg4.unread x2) = x2 :=
    fun h => (View.readAt_full _ _ _).trans (harg4.read_unread _)
  have e3 : ∀ h, arg3.view.readAt (Elt F) (Rect.unit (s := S1024x1024) ![0, 0] S1024x1024.size h).toLoadRect (harg3.unread x1) = x1 :=
    fun h => (View.readAt_full _ _ _).trans (harg3.read_unread _)
  have r3 : body_first.sl.r_3 c arg5 harg5 x3 = x3 := e5 _
  have r4 : body_first.sl.r_4 c arg5 harg5 arg6 harg6 x3 x4 = k0_pay7 x3 x4 := by
    delta body_first.sl.r_4; beta_reduce; rw [e5, e6]
  have r5 : body_first.sl.r_5 c arg5 harg5 arg6 harg6 x3 x4 = k0_pay11 x3 x4 := by
    delta body_first.sl.r_5; beta_reduce; rw [e5, e6]
  have r6 : body_first.sl.r_6 c arg5 harg5 x3 = k0_pay12 x3 := by
    delta body_first.sl.r_6; beta_reduce; rw [e5]
  have r7 : body_first.sl.r_7 c arg5 harg5 x3 = k0_pay13 x3 := by
    delta body_first.sl.r_7; beta_reduce; rw [e5]
  have r8 : body_first.sl.r_8 c arg5 harg5 x3 = k0_pay15 x3 := by
    delta body_first.sl.r_8; beta_reduce; rw [e5]
  have hL : body_first.sl.H17_8 c arg5 harg5 x3 = segL x3 := by
    delta body_first.sl.H17_8 body_first.sl.v114 body_first.sl.v109 body_first.sl.v93 body_first.sl.v88
      body_first.sl.v72 body_first.sl.v67 body_first.sl.v51 body_first.sl.v46
    beta_reduce
    rw [r3, r6, r7, r8, e5]
    rfl
  have r14 : body_first.sl.r_14 c arg5 harg5 arg6 harg6 x3 x4
      = k0_pay21 x3 (k0_pay7 x3 x4) (k0_pay11 x3 x4) (k0_pay12 x3) (k0_pay13 x3) := by
    delta body_first.sl.r_14; beta_reduce; rw [r3, r4, r5, r6, r7]
  have r15 : body_first.sl.r_15 c arg5 harg5 x3 = k0_pay22 x3 (k0_pay12 x3) (k0_pay13 x3) := by
    delta body_first.sl.r_15; beta_reduce; rw [r3, r6, r7]
  have r16 : body_first.sl.r_16 c arg5 harg5 arg6 harg6 x3 x4 = posU x3 x4 := by
    delta body_first.sl.r_16; beta_reduce; rw [r3, r4, r14, r15]; rfl
  have r17 : body_first.sl.r_17 c arg5 harg5 arg6 harg6 x3 x4 = k0_pay29 x3 (k0_pay7 x3 x4)
      (k0_pay21 x3 (k0_pay7 x3 x4) (k0_pay11 x3 x4) (k0_pay12 x3) (k0_pay13 x3)) (k0_pay22 x3 (k0_pay12 x3) (k0_pay13 x3)) := by
    delta body_first.sl.r_17; beta_reduce; rw [r3, r4, r14, r15]
  have hP : body_first.sl.v177 c arg5 harg5 arg6 harg6 arg12 x3 x4 = permV x3 x4 := by
    delta body_first.sl.v177 body_first.sl.H12_4
    beta_reduce
    rw [r3, r4, r14, r15, r16, r17]
    exact (View.readAt_full _ _ _).trans (bands_read arg12 _ _ _ _ _ _ _ _ _)
  have r18 : body_first.sl.r_18 c arg4 harg4 arg5 harg5 arg6 harg6 arg12 x2 x3 x4 = k0_pay33 (permV x3 x4) x2 := by
    delta body_first.sl.r_18; beta_reduce; rw [hP, e4]
  have e1 : body_first.sl.r_19 c i arg5 harg5 arg17 x3 = lo i (segV x3) := by
    delta body_first.sl.r_19 body_first.sl.f_7 lo
    beta_reduce
    rw [hL, ← seg_read arg17 arg17.view.junk x3]
    rfl
  have e2 : body_first.sl.r_20 c i arg5 harg5 arg17 x3 = hi i (segV x3) := by
    delta body_first.sl.r_20 body_first.sl.f_8 hi
    beta_reduce
    rw [hL, ← seg_read arg17 arg17.view.junk x3]
    rfl
  have hchk' : k0_chk1 (body_first.sl.r_19 c i arg5 harg5 arg17 x3) (body_first.sl.r_20 c i arg5 harg5 arg17 x3) := by
    rw [e1, e2]; exact hchk
  rw [hL, r18]
  have q14 : ∀ h, arg14.view.writes (Elt F) f14 [⟨Rect.unit ![0, 0] S1024x1024.size h,
      k0_pay32 (body_first.sl.v177 c arg5 harg5 arg6 harg6 arg12 x3 x4)
        (View.readAt (Elt F) arg3.view (Rect.unit ![0, 0] S1024x1024.size inb_S1024x1024_S1024x1024_0_0).toLoadRect
          (harg3.unread x1))⟩] = harg14.unread (valV x1 x3 x4) := fun h => by
    rw [hP, e3]
    exact harg14.eq_unread (View.read_writes_full _ _ _ _ _)
  have q15 : ∀ h, arg15.view.writes (Elt F) f15 [⟨Rect.unit ![0, 0] ![1024, 128] h, k0_pay1 (k0_pay33 (permV x3 x4) x2)⟩]
      = harg15.unread (wtV x2 x3 x4) := fun h => harg15.eq_unread (View.read_writes_full _ _ _ _ _)
  have q17 : arg17.view.writes (Elt F) f17 (segL x3) = harg17.unread (segV x3) := harg17.eq_unread (seg_read _ _ _)
  rw [q14, q15, q17]
  sl_exec (disch := first | sl_exact hc0 | sl_exact hc1 | sl_exact hchk')
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H12]
  · iexists _, _; isplitr; swap; · iexact H12
    ipureintro; rfl
  isplitl [H13]
  · iexists _; isplitr; swap; · iexact H13
    ipureintro
    rw [r3, r4, r14, r15]
    exact View.read_writes_full _ _ _ _ _
  isplitl [H14]
  · iexists _; isplitr; · ipureintro; exact harg14.read_unread _
    iexact H14
  isplitl [H15]
  · iexists _; isplitr; · ipureintro; exact harg15.read_unread _
    iexact H15
  isplitl [H16]
  · iexists _; isplitr; swap; · iexact H16
    ipureintro
    rw [View.writes_append]
    refine (rows_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (segV x3) hchk _ _ e1 e2 hchk' x5 x6 x7 (valV x1 x3 x4) (wtV x2 x3 x4) _).trans ?_
    exact congrArg (rowsV i (segV x3) hchk x5 x6 x7 (valV x1 x3 x4) (wtV x2 x3 x4)) (View.read_writes_full _ _ _ _ _)
  iexists _; isplitr; · ipureintro; exact harg17.read_unread _
  iexact H17

end Cert.KernelIdeal.Moe

end
-- ==== Proof.BodyLastKernelIdeal.lean ====
module

public import proofs.«01_k».proof.Proof.BodyKernelIdeal

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The tile's output: the residual with the rows returned to their tokens, normalised and scaled. -/
def outV (x0 : Vec F S1024x1024 .f32) (x8 : Vec F S1x1024 .f32) (P : Vec F S1x1024 .f32) (Y : Vec F S1024x1024 .f32) :
    Vec F S1024x1024 .f32 :=
  bands
    (k0_pay50 Y P (VecWindow.window x0 ![0, 0] S256x1024.size inb_S1024x1024_S256x1024_0_0) x8)
    (k0_pay52 (k0_pay48 Y) (k0_pay51 P) (VecWindow.window x0 ![256, 0] S256x1024.size inb_S1024x1024_S256x1024_256_0) x8)
    (k0_pay5 (k0_pay53 (k0_pay48 Y) (k0_pay49 P) (VecWindow.window x0 ![512, 0] S256x1024.size inb_S1024x1024_S256x1024_512_0))
      x8 (k0_pay54 (k0_pay48 Y) (k0_pay49 P) (VecWindow.window x0 ![512, 0] S256x1024.size inb_S1024x1024_S256x1024_512_0)))
    (k0_pay6 (k0_pay48 Y) (k0_pay49 P) (VecWindow.window x0 ![768, 0] S256x1024.size inb_S1024x1024_S256x1024_768_0) x8)

set_option maxHeartbeats 1200000 in
theorem body_last (c : Dev nD) (i : grid0.Coords) (arg2 : Memref sig .tc .vmem S1024x1024 .f32) (harg2 : arg2.IsWhole) (arg3 : Memref sig .tc .vmem S1024x1024
    .bf16) (harg3 : arg3.IsWhole) (arg4 : Memref sig .tc .vmem S1024x128 .f32) (harg4 : arg4.IsWhole) (arg5 : Memref
    sig .tc .vmem S8x1024 .f32) (harg5 : arg5.IsWhole) (arg6 : Memref sig .tc .vmem S1024x1024 .bf16) (harg6 :
    arg6.IsWhole) (arg7 : Memref sig .tc .vmem S4x1024x256 .bf16) (harg7 : arg7.IsWhole) (arg8 : Memref sig .tc
    .vmem S4x1024x256 .bf16) (harg8 : arg8.IsWhole) (arg9 : Memref sig .tc .vmem S4x256x1024 .bf16) (harg9 :
    arg9.IsWhole) (arg10 : Memref sig .tc .vmem S1x1024 .f32) (harg10 : arg10.IsWhole) (arg11 : Memref sig .tc .vmem
    S1024x1024 .f32) (harg11 : arg11.IsWhole) (arg12 : Memref sig .tc .vmem S1024x1024 .bf16) (harg12 :
    arg12.IsWhole) (arg13 : Memref sig .tc .vmem S1x1024 .f32) (harg13 : arg13.IsWhole) (arg14 : Memref sig .tc
    .vmem S1024x1024 .bf16) (harg14 : arg14.IsWhole) (arg15 : Memref sig .tc .vmem S1024x128 .f32) (harg15 :
    arg15.IsWhole) (arg16 : Memref sig .tc .vmem S1024x1024 .f32) (harg16 : arg16.IsWhole) (arg17 : Memref sig .tc
    .smem S8 .i32) (harg17 : arg17.IsWhole)
    (hc0 : ¬ first i) (hc1 : last i)
    (x0 : Vec F S1024x1024 .f32) (x8 : Vec F S1x1024 .f32) (P : Vec F S1x1024 .f32)
    (x5 : Vec F S4x1024x256 .bf16) (x6 : Vec F S4x1024x256 .bf16) (x7 : Vec F S4x256x1024 .bf16)
    (H : Vec F S1024x1024 .bf16) (C : Vec F S1024x128 .f32) (Y : Vec F S1024x1024 .f32) (S : Vec F S8 .i32)
    (hchk : k0_chk1 (lo i S) (hi i S)) (E : Set ℕ) (K : PUnit → sProp 𝕄) :
    iprop(owns (c : Thread nD τ) arg2 fullShare x0
      ∗ owns (c : Thread nD τ) arg10 fullShare x8
      ∗ owns (c : Thread nD τ) arg13 fullShare P
      ∗ owns (c : Thread nD τ) arg7 fullShare x5
      ∗ owns (c : Thread nD τ) arg8 fullShare x6
      ∗ owns (c : Thread nD τ) arg9 fullShare x7
      ∗ owns (c : Thread nD τ) arg14 fullShare H
      ∗ owns (c : Thread nD τ) arg15 fullShare C
      ∗ owns (c : Thread nD τ) arg16 fullShare Y
      ∗ owns (c : Thread nD τ) arg17 fullShare S
      ∗ (∃ d, owns (c : Thread nD τ) arg11 fullShare d)
      ∗ (iprop(owns (c : Thread nD τ) arg2 fullShare x0
      ∗ owns (c : Thread nD τ) arg10 fullShare x8
      ∗ owns (c : Thread nD τ) arg13 fullShare P
      ∗ owns (c : Thread nD τ) arg7 fullShare x5
      ∗ owns (c : Thread nD τ) arg8 fullShare x6
      ∗ owns (c : Thread nD τ) arg9 fullShare x7
      ∗ owns (c : Thread nD τ) arg14 fullShare H
      ∗ owns (c : Thread nD τ) arg15 fullShare C
      ∗ owns (c : Thread nD τ) arg16 fullShare (rowsV i S hchk x5 x6 x7 H C Y)
      ∗ owns (c : Thread nD τ) arg17 fullShare S
      ∗ owns (c : Thread nD τ) arg11 fullShare (outV x0 x8 P (rowsV i S hchk x5 x6 x7 H C Y))) -∗ K ⟨⟩))
    ⊢ wp frame (wpE (defs₀ (F := F)) Variants.none c none) E (cc0_experts i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_experts_eq_skeleton]; unfold cc0_experts_skel
  simp only [k0_part11_eq_skeleton, k0_part12_eq_skeleton]
  unfold owns
  iintro ⟨⟨%f2, %hf2, H2⟩, ⟨%f10, %hf10, H10⟩, ⟨%f13, %hf13, H13⟩, ⟨%f7, %hf7, H7⟩, ⟨%f8, %hf8, H8⟩, ⟨%f9, %hf9, H9⟩, ⟨%f14, %hf14, H14⟩, ⟨%f15, %hf15, H15⟩, ⟨%f16, %hf16, H16⟩, ⟨%f17, %hf17, H17⟩, ⟨%d11, %f11, -, H11⟩, Hk⟩
  obtain rfl := harg2.eq_unread hf2
  obtain rfl := harg10.eq_unread hf10
  obtain rfl := harg13.eq_unread hf13
  obtain rfl := harg7.eq_unread hf7
  obtain rfl := harg8.eq_unread hf8
  obtain rfl := harg9.eq_unread hf9
  obtain rfl := harg14.eq_unread hf14
  obtain rfl := harg15.eq_unread hf15
  obtain rfl := harg16.eq_unread hf16
  obtain rfl := harg17.eq_unread hf17
  sl_exec (disch := first | sl_exact hc0 | sl_exact hc1)
  have e1 : body_last.sl.r c i arg17 harg17 S = lo i S := by
    unfold body_last.sl.r lo
    rw [View.readAt_unit _ _ _ rfl (k0_off1_inb i), harg17.read_unread]
  have e2 : body_last.sl.r_1 c i arg17 harg17 S = hi i S := by
    unfold body_last.sl.r_1 hi
    rw [View.readAt_unit _ _ _ rfl (k0_off2_inb i), harg17.read_unread]
  have hchk' : k0_chk1 (body_last.sl.r c i arg17 harg17 S) (body_last.sl.r_1 c i arg17 harg17 S) := by
    rw [e1, e2]; exact hchk
  sl_exec (disch := first | sl_exact hc0 | sl_exact hc1 | sl_exact hchk')
  sl_step
  iapply Hk
  isplitl [H2]
  · iexists _; isplitr; · ipureintro; exact harg2.read_unread _
    iexact H2
  isplitl [H10]
  · iexists _; isplitr; · ipureintro; exact harg10.read_unread _
    iexact H10
  isplitl [H13]
  · iexists _; isplitr; · ipureintro; exact harg13.read_unread _
    iexact H13
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H14]
  · iexists _; isplitr; · ipureintro; exact harg14.read_unread _
    iexact H14
  isplitl [H15]
  · iexists _; isplitr; · ipureintro; exact harg15.read_unread _
    iexact H15
  isplitl [H16]
  · iexists _; isplitr; swap; · iexact H16
    ipureintro
    exact (rows_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 S hchk _ _ e1 e2 hchk' x5 x6 x7 H C _).trans (by rw [harg16.read_unread])
  isplitl [H17]
  · iexists _; isplitr; · ipureintro; exact harg17.read_unread _
    iexact H17
  iexists _; isplitr; swap; · iexact H11
  ipureintro
  rw [bands_read]
  have eX : ∀ (b : Memref sig .tc .vmem S1024x1024 .f32) (g : b.view.ty.Contents (Elt F)) (o : Fin 2 → ℕ) (h),
      b.view.readAt (Elt F) (Rect.unit (s := S1024x1024) o S256x1024.size h).toLoadRect g
        = VecWindow.window (b.view.read (Elt F) g) o S256x1024.size h :=
    fun b g o h => View.readAt_unit _ _ _ rfl _
  have eF : ∀ (b : Memref sig .tc .vmem S1x1024 .f32) (g : b.view.ty.Contents (Elt F)) (h),
      b.view.readAt (Elt F) (Rect.unit (s := S1x1024) ![0, 0] S1x1024.size h).toLoadRect g = b.view.read (Elt F) g :=
    fun b g h => View.readAt_full _ _ _
  have eY : ∀ (g : arg16.view.ty.Contents (Elt F)) (h),
      arg16.view.readAt (Elt F) (Rect.unit (s := S1024x1024) ![0, 0] S1024x1024.size h).toLoadRect g
        = arg16.view.read (Elt F) g :=
    fun g h => View.readAt_full _ _ _
  have hY := (rows_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 S hchk _ _ e1 e2 hchk' x5 x6 x7 H C (harg16.unread Y)).trans (by rw [harg16.read_unread])
  delta body_last.sl.v33 body_last.sl.r_7 body_last.sl.r_6 body_last.sl.r_5 body_last.sl.r_4 body_last.sl.r_3 body_last.sl.r_2
  beta_reduce
  simp only [eX, eF, eY, harg2.read_unread, harg10.read_unread, harg13.read_unread, hY]
  rfl

end Cert.KernelIdeal.Moe

end
-- ==== Proof.RunKernelIdeal.lean ====
module

public import proofs.«01_k».proof.Proof.BodyFirstKernelIdeal
public import proofs.«01_k».proof.Proof.BodyLastKernelIdeal
public import Idealize.ShloMosaic.Lib.WordCmp
public import Idealize.ShloMosaic.Lib.Claim

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of a tile -/

theorem coord1 (t : Fin cfg0.N) : (grid0.coords t 1).val = t.val % 8 := by
  have h : (grid0.coords t 1).val = t.val / 1 % 8 := Pipeline.Grid.coords_val t 1 (by decide) rfl
  rw [h, Nat.div_one]
theorem coord0 (t : Fin cfg0.N) : (grid0.coords t 0).val = t.val / 8 := by
  have h : (grid0.coords t 0).val = t.val / 8 % 32 := Pipeline.Grid.coords_val t 0 (by decide) rfl
  have ht : t.val < 256 := Nat.lt_of_lt_of_eq t.isLt N_0
  rw [h]; omega

theorem first_iff (t : Fin cfg0.N) : first (grid0.coords t) ↔ t.val % 8 = 0 := by
  have key : ∀ k : Fin 8, ((Scalar.cmpi .ne (Scalar.extui (Scalar.cmpi .eq (BitVec.ofNat 32 k.val) 0#32)) 0#32) = 1#1) ↔ k.val = 0 := by
    decide +kernel
  rw [← coord1 t]; exact key (grid0.coords t 1)
theorem last_iff (t : Fin cfg0.N) : last (grid0.coords t) ↔ t.val % 8 = 7 := by
  have key : ∀ k : Fin 8, ((Scalar.cmpi .ne (Scalar.extui (Scalar.cmpi .eq (BitVec.ofNat 32 k.val) 7#32)) 0#32) = 1#1) ↔ k.val = 7 := by
    decide +kernel
  rw [← coord1 t]; exact key (grid0.coords t 1)

/-- The first point of the tile that point `n` belongs to. -/
def tile0 (n : ℕ) (h : n < cfg0.N) : Fin cfg0.N := ⟨n / 8 * 8, Nat.lt_of_le_of_lt (Nat.div_mul_le_self n 8) h⟩

theorem tile0_first (t : Fin cfg0.N) (h : t.val % 8 = 0) : tile0 t.val t.isLt = t := Fin.ext (by unfold tile0; dsimp only; omega)
theorem tile0_next (t : Fin cfg0.N) (h : ¬ t.val % 8 = 0) (h' : t.val - 1 < cfg0.N) :
    tile0 (t.val - 1) h' = tile0 t.val t.isLt := Fin.ext (by unfold tile0; dsimp only; omega)

/-! ## What the scratch holds -/

/-- The block words of the tile of point `n`. -/
abbrev segT (c : Dev nD) (n : ℕ) (h : n < cfg0.N) : Vec F S8 .i32 := segV (iblk m c 3 (tile0 n h))
/-- The rows' positions in the tile of point `n`. -/
abbrev posT (c : Dev nD) (n : ℕ) (h : n < cfg0.N) : Vec F S1x1024 .f32 := posV (iblk m c 3 (tile0 n h)) (iblk m c 4 (tile0 n h))
/-- The grouped values of the tile of point `n`. -/
abbrev valT (c : Dev nD) (n : ℕ) (h : n < cfg0.N) : Vec F S1024x1024 .bf16 :=
  valV (iblk m c 1 (tile0 n h)) (iblk m c 3 (tile0 n h)) (iblk m c 4 (tile0 n h))
/-- The grouped weights of the tile of point `n`. -/
abbrev wtT (c : Dev nD) (n : ℕ) (h : n < cfg0.N) : Vec F S1024x128 .f32 :=
  wtV (iblk m c 2 (tile0 n h)) (iblk m c 3 (tile0 n h)) (iblk m c 4 (tile0 n h))

/-- At every point the words kept of its tile bound blocks of the tile's rows. -/
def Chk : Prop := ∀ (c : Dev nD) (t : Fin cfg0.N),
  k0_chk1 (lo (grid0.coords t) (segT m c t.val t.isLt)) (hi (grid0.coords t) (segT m c t.val t.isLt))

variable (hchk : Chk m)

/-- One point's work on the accumulated rows. -/
def rowsStep (c : Dev nD) (t : Fin cfg0.N) (Y : Vec F S1024x1024 .f32) : Vec F S1024x1024 .f32 :=
  rowsV (grid0.coords t) (segT m c t.val t.isLt) (hchk c t) (iblk m c 5 t) (iblk m c 6 t) (iblk m c 7 t)
    (valT m c t.val t.isLt) (wtT m c t.val t.isLt) Y

/-- The accumulated rows after point `n`: zero at a tile's start, one point's work more at each point. -/
def rowsAt (c : Dev nD) : (n : ℕ) → n < cfg0.N → Vec F S1024x1024 .f32
  | 0, h => rowsStep m hchk c ⟨0, h⟩ k0_pay2
  | n + 1, h => rowsStep m hchk c ⟨n + 1, h⟩ (if (n + 1) % 8 = 0 then k0_pay2 else rowsAt c n (Nat.lt_of_succ_lt h))

theorem rowsAt_first (c : Dev nD) (t : Fin cfg0.N) (h : t.val % 8 = 0) :
    rowsAt m hchk c t.val t.isLt = rowsStep m hchk c t k0_pay2 := by
  obtain ⟨n, hn⟩ := t
  cases n with
  | zero => rfl
  | succ n => show rowsStep m hchk c _ (if (n + 1) % 8 = 0 then _ else _) = _; rw [if_pos h]
theorem rowsAt_next (c : Dev nD) (t : Fin cfg0.N) (h : ¬ t.val % 8 = 0) (h' : t.val - 1 < cfg0.N) :
    rowsAt m hchk c t.val t.isLt = rowsStep m hchk c t (rowsAt m hchk c (t.val - 1) h') := by
  obtain ⟨n, hn⟩ := t
  cases n with
  | zero => exact absurd (Nat.zero_mod _) h
  | succ n => show rowsStep m hchk c _ (if (n + 1) % 8 = 0 then _ else _) = _; rw [if_neg h]; rfl

/-! ## The region's invariant -/

/-- The buffer of window 0 at a point. -/
abbrev ms0_0 (t : Fin cfg0.N) : Memref sig .tc .vmem S1024x1024 .f32 := win0_0.stage (cfg0.slots t 0)
/-- The buffer of window 1 at a point. -/
abbrev ms0_1 (t : Fin cfg0.N) : Memref sig .tc .vmem S1024x1024 .bf16 := win0_1.stage (cfg0.slots t 1)
/-- The buffer of window 2 at a point. -/
abbrev ms0_2 (t : Fin cfg0.N) : Memref sig .tc .vmem S1024x128 .f32 := win0_2.stage (cfg0.slots t 2)
/-- The buffer of window 3 at a point. -/
abbrev ms0_3 (t : Fin cfg0.N) : Memref sig .tc .vmem S8x1024 .f32 := win0_3.stage (cfg0.slots t 3)
/-- The buffer of window 4 at a point. -/
abbrev ms0_4 (t : Fin cfg0.N) : Memref sig .tc .vmem S1024x1024 .bf16 := win0_4.stage (cfg0.slots t 4)
/-- The buffer of window 5 at a point. -/
abbrev ms0_5 (t : Fin cfg0.N) : Memref sig .tc .vmem S4x1024x256 .bf16 := win0_5.stage (cfg0.slots t 5)
/-- The buffer of window 6 at a point. -/
abbrev ms0_6 (t : Fin cfg0.N) : Memref sig .tc .vmem S4x1024x256 .bf16 := win0_6.stage (cfg0.slots t 6)
/-- The buffer of window 7 at a point. -/
abbrev ms0_7 (t : Fin cfg0.N) : Memref sig .tc .vmem S4x256x1024 .bf16 := win0_7.stage (cfg0.slots t 7)
/-- The buffer of window 8 at a point. -/
abbrev ms0_8 (t : Fin cfg0.N) : Memref sig .tc .vmem S1x1024 .f32 := win0_8.stage (cfg0.slots t 8)
/-- The buffer of window 9 at a point. -/
abbrev ms0_9 (t : Fin cfg0.N) : Memref sig .tc .vmem S1024x1024 .f32 := win0_9.stage (cfg0.slots t 9)
/-- Scratch buffer 0. -/
abbrev scM0_0 : Memref sig .tc .vmem S1024x1024 .bf16 := Memref.whole cc0_scratch0
/-- Scratch buffer 1. -/
abbrev scM0_1 : Memref sig .tc .vmem S1x1024 .f32 := Memref.whole cc0_scratch1
/-- Scratch buffer 2. -/
abbrev scM0_2 : Memref sig .tc .vmem S1024x1024 .bf16 := Memref.whole cc0_scratch2
/-- Scratch buffer 3. -/
abbrev scM0_3 : Memref sig .tc .vmem S1024x128 .f32 := Memref.whole cc0_scratch3
/-- Scratch buffer 4. -/
abbrev scM0_4 : Memref sig .tc .vmem S1024x1024 .f32 := Memref.whole cc0_scratch4
/-- Scratch buffer 5. -/
abbrev scM0_5 : Memref sig .tc .smem S8 .i32 := Memref.whole cc0_scratch5

/-- Every scratch buffer at anything, and the generator's register. -/
def anyScratch (c : Dev nD) : sProp 𝕄 :=
  iprop(((∃ d, owns (c : Thread nD τ) scM0_0 fullShare d)
      ∗ (∃ d, owns (c : Thread nD τ) scM0_1 fullShare d)
      ∗ (∃ d, owns (c : Thread nD τ) scM0_2 fullShare d)
      ∗ (∃ d, owns (c : Thread nD τ) scM0_3 fullShare d)
      ∗ (∃ d, owns (c : Thread nD τ) scM0_4 fullShare d)
      ∗ (∃ d, owns (c : Thread nD τ) scM0_5 fullShare d))
    ∗ (∃ r, prngReg c r))

theorem PhiA0_eq (c : Dev nD) : (Pipeline.ΦA spec0 c : sProp 𝕄) = anyScratch (F := F) c := by
  unfold anyScratch Pipeline.ΦA; rw [scopedRest0_eq]; simp only [scM0_0, scM0_1, scM0_2, scM0_3, scM0_4, scM0_5, owns_whole]; try rfl

/-- The scratch buffers at given contents, the mask's buffer at anything. -/
def scratchWith (c : Dev nD) (P : Vec F S1x1024 .f32) (H : Vec F S1024x1024 .bf16) (C : Vec F S1024x128 .f32)
    (Y : Vec F S1024x1024 .f32) (S : Vec F S8 .i32) : sProp 𝕄 :=
  iprop(((∃ d, owns (c : Thread nD τ) scM0_0 fullShare d)
      ∗ owns (c : Thread nD τ) scM0_1 fullShare (P)
      ∗ owns (c : Thread nD τ) scM0_2 fullShare (H)
      ∗ owns (c : Thread nD τ) scM0_3 fullShare (C)
      ∗ owns (c : Thread nD τ) scM0_4 fullShare (Y)
      ∗ owns (c : Thread nD τ) scM0_5 fullShare (S))
    ∗ (∃ r, prngReg c r))
/-- The scratch buffers after point `n`. -/
def scratchAt (c : Dev nD) (n : ℕ) (h : n < cfg0.N) : sProp 𝕄 :=
  scratchWith c (posT m c n h) (valT m c n h) (wtT m c n h) (rowsAt m hchk c n h) (segT m c n h)

/-- The invariant before point `n`. -/
def PhiS (c : Dev nD) : (n : ℕ) → n ≤ cfg0.N → sProp 𝕄
  | 0, _ => Pipeline.ΦA spec0 c
  | n + 1, h => scratchAt m hchk c n h

theorem scratch_forget (c : Dev nD) (n : ℕ) (h : n < cfg0.N) : scratchAt m hchk c n h ⊢ anyScratch (F := F) c := by
  unfold scratchAt scratchWith anyScratch
  iintro ⟨⟨HS0, HS1, HS2, HS3, HS4, HS5⟩, Hg⟩
  isplitl [HS0 HS1 HS2 HS3 HS4 HS5]
  · isplitl [HS0]; · iexact HS0
    isplitl [HS1]; · iexists _; iexact HS1
    isplitl [HS2]; · iexists _; iexact HS2
    isplitl [HS3]; · iexists _; iexact HS3
    isplitl [HS4]; · iexists _; iexact HS4
    iexists _; iexact HS5
  iexact Hg

theorem PhiS_any (c : Dev nD) (n : ℕ) (h : n ≤ cfg0.N) : PhiS m hchk c n h ⊢ anyScratch (F := F) c := by
  cases n with
  | zero => show (Pipeline.ΦA spec0 c : sProp 𝕄) ⊢ _; rw [PhiA0_eq]
  | succ n => exact scratch_forget m hchk c n h

theorem PhiS_pos (c : Dev nD) (n : ℕ) (h : n ≤ cfg0.N) (hz : n ≠ 0) (h' : n - 1 < cfg0.N) :
    PhiS m hchk c n h = scratchAt m hchk c (n - 1) h' := by
  cases n with
  | zero => exact absurd rfl hz
  | succ n => rfl

/-- Before a point that is not its tile's first, the scratch holds the same tile's values. -/
theorem PhiS_next (c : Dev nD) (t : Fin cfg0.N) (h : ¬ t.val % 8 = 0) (h' : t.val - 1 < cfg0.N) (h'' : t.val ≤ cfg0.N) :
    PhiS m hchk c t.val h'' = scratchWith c (posT m c t.val t.isLt) (valT m c t.val t.isLt) (wtT m c t.val t.isLt)
      (rowsAt m hchk c (t.val - 1) h') (segT m c t.val t.isLt) := by
  rw [PhiS_pos m hchk c t.val _ (fun e => h (by rw [e])) h']
  unfold scratchAt posT valT wtT segT
  rw [tile0_next t h h']

/-- After a tile's first point the scratch holds what that point computes. -/
theorem scratchAt_first (c : Dev nD) (t : Fin cfg0.N) (h : t.val % 8 = 0)
    (hc : k0_chk1 (lo (grid0.coords t) (segV (iblk m c 3 t))) (hi (grid0.coords t) (segV (iblk m c 3 t)))) :
    scratchAt m hchk c t.val t.isLt = scratchWith c (posV (iblk m c 3 t) (iblk m c 4 t))
      (valV (iblk m c 1 t) (iblk m c 3 t) (iblk m c 4 t)) (wtV (iblk m c 2 t) (iblk m c 3 t) (iblk m c 4 t))
      (rowsV (grid0.coords t) (segV (iblk m c 3 t)) hc (iblk m c 5 t) (iblk m c 6 t)
        (iblk m c 7 t) (valV (iblk m c 1 t) (iblk m c 3 t) (iblk m c 4 t)) (wtV (iblk m c 2 t) (iblk m c 3 t) (iblk m c 4 t)) k0_pay2)
      (segV (iblk m c 3 t)) := by
  have key : ∀ (T : Fin cfg0.N) (_ : T = t)
      (hT : k0_chk1 (lo (grid0.coords t) (segV (iblk m c 3 T))) (hi (grid0.coords t) (segV (iblk m c 3 T)))),
      scratchWith (F := F) c (posV (iblk m c 3 T) (iblk m c 4 T))
        (valV (iblk m c 1 T) (iblk m c 3 T) (iblk m c 4 T)) (wtV (iblk m c 2 T) (iblk m c 3 T) (iblk m c 4 T))
        (rowsV (grid0.coords t) (segV (iblk m c 3 T)) hT (iblk m c 5 t) (iblk m c 6 t)
          (iblk m c 7 t) (valV (iblk m c 1 T) (iblk m c 3 T) (iblk m c 4 T)) (wtV (iblk m c 2 T) (iblk m c 3 T) (iblk m c 4 T)) k0_pay2)
        (segV (iblk m c 3 T))
      = scratchWith c (posV (iblk m c 3 t) (iblk m c 4 t))
        (valV (iblk m c 1 t) (iblk m c 3 t) (iblk m c 4 t)) (wtV (iblk m c 2 t) (iblk m c 3 t) (iblk m c 4 t))
        (rowsV (grid0.coords t) (segV (iblk m c 3 t)) hc (iblk m c 5 t) (iblk m c 6 t)
          (iblk m c 7 t) (valV (iblk m c 1 t) (iblk m c 3 t) (iblk m c 4 t)) (wtV (iblk m c 2 t) (iblk m c 3 t) (iblk m c 4 t)) k0_pay2)
        (segV (iblk m c 3 t)) := by
    rintro T rfl hT; rfl
  unfold scratchAt
  rw [rowsAt_first m hchk c t h]
  exact key _ (tile0_first t h) (hchk c t)

/-- What the last point of a tile leaves in the output's buffer. -/
def outT (c : Dev nD) (t : Fin cfg0.N) : Vec F S1024x1024 .f32 :=
  outV (iblk m c 0 t) (iblk m c 8 t) (posT m c t.val t.isLt) (rowsAt m hchk c t.val t.isLt)

/-- The proof data: each input's buffer at its block, the output's at `outT`, the scratch as `PhiS` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outT m hchk c t
  Φ t := PhiS m hchk c t.val (Nat.le_of_lt_succ t.isLt)
  q _ := fullShare
  owed _ := 0

theorem A_eq (c : Dev nD) (w : Fin cfg0.W) : (dats m hchk 0 c).A w = V m c (Pipeline.arrRef spec0 w) := by
  dsimp only [dats]
theorem PhiS_castSucc (c : Dev nD) (t : Fin cfg0.N) :
    (dats m hchk 0 c).Φ t.castSucc = PhiS m hchk c t.val (Nat.le_of_lt t.isLt) := by
  dsimp only [dats]; exact Pipeline.Dat.Φ_castSucc (PhiS m hchk c) t

theorem after0_0 (c : Dev nD) (t : Fin cfg0.N) : (dats m hchk 0 c).after 0 t = iblk m c 0 t := by dsimp only [dats]
theorem after0_1 (c : Dev nD) (t : Fin cfg0.N) : (dats m hchk 0 c).after 1 t = iblk m c 1 t := by dsimp only [dats]
theorem after0_2 (c : Dev nD) (t : Fin cfg0.N) : (dats m hchk 0 c).after 2 t = iblk m c 2 t := by dsimp only [dats]
theorem after0_3 (c : Dev nD) (t : Fin cfg0.N) : (dats m hchk 0 c).after 3 t = iblk m c 3 t := by dsimp only [dats]
theorem after0_4 (c : Dev nD) (t : Fin cfg0.N) : (dats m hchk 0 c).after 4 t = iblk m c 4 t := by dsimp only [dats]
theorem after0_5 (c : Dev nD) (t : Fin cfg0.N) : (dats m hchk 0 c).after 5 t = iblk m c 5 t := by dsimp only [dats]
theorem after0_6 (c : Dev nD) (t : Fin cfg0.N) : (dats m hchk 0 c).after 6 t = iblk m c 6 t := by dsimp only [dats]
theorem after0_7 (c : Dev nD) (t : Fin cfg0.N) : (dats m hchk 0 c).after 7 t = iblk m c 7 t := by dsimp only [dats]
theorem after0_8 (c : Dev nD) (t : Fin cfg0.N) : (dats m hchk 0 c).after 8 t = iblk m c 8 t := by dsimp only [dats]
theorem after0_9 (c : Dev nD) (t : Fin cfg0.N) : (dats m hchk 0 c).after 9 t = outT m hchk c t := by dsimp only [dats]
theorem before0_0 (c : Dev nD) (t : Fin cfg0.N) (d) : (dats m hchk 0 c).before 0 t d = iblk m c 0 t :=
  before0_0_of m (dats m hchk 0 c) (A_eq m hchk c 0) (after0_0 m hchk c) t d
theorem before0_1 (c : Dev nD) (t : Fin cfg0.N) (d) : (dats m hchk 0 c).before 1 t d = iblk m c 1 t :=
  before0_1_of m (dats m hchk 0 c) (A_eq m hchk c 1) (after0_1 m hchk c) t d
theorem before0_2 (c : Dev nD) (t : Fin cfg0.N) (d) : (dats m hchk 0 c).before 2 t d = iblk m c 2 t :=
  before0_2_of m (dats m hchk 0 c) (A_eq m hchk c 2) (after0_2 m hchk c) t d
theorem before0_3 (c : Dev nD) (t : Fin cfg0.N) (d) : (dats m hchk 0 c).before 3 t d = iblk m c 3 t :=
  before0_3_of m (dats m hchk 0 c) (A_eq m hchk c 3) (after0_3 m hchk c) t d
theorem before0_4 (c : Dev nD) (t : Fin cfg0.N) (d) : (dats m hchk 0 c).before 4 t d = iblk m c 4 t :=
  before0_4_of m (dats m hchk 0 c) (A_eq m hchk c 4) (after0_4 m hchk c) t d
theorem before0_5 (c : Dev nD) (t : Fin cfg0.N) (d) : (dats m hchk 0 c).before 5 t d = iblk m c 5 t :=
  before0_5_of m (dats m hchk 0 c) (A_eq m hchk c 5) (after0_5 m hchk c) t d
theorem before0_6 (c : Dev nD) (t : Fin cfg0.N) (d) : (dats m hchk 0 c).before 6 t d = iblk m c 6 t :=
  before0_6_of m (dats m hchk 0 c) (A_eq m hchk c 6) (after0_6 m hchk c) t d
theorem before0_7 (c : Dev nD) (t : Fin cfg0.N) (d) : (dats m hchk 0 c).before 7 t d = iblk m c 7 t :=
  before0_7_of m (dats m hchk 0 c) (A_eq m hchk c 7) (after0_7 m hchk c) t d
theorem before0_8 (c : Dev nD) (t : Fin cfg0.N) (d) : (dats m hchk 0 c).before 8 t d = iblk m c 8 t :=
  before0_8_of m (dats m hchk 0 c) (A_eq m hchk c 8) (after0_8 m hchk c) t d
theorem leaves0_0 (c : Dev nD) (t : Fin cfg0.N) :
    (dats m hchk 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) :
    (dats m hchk 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) :
    (dats m hchk 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) :
    (dats m hchk 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) :
    (dats m hchk 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) :
    (dats m hchk 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) :
    (dats m hchk 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) :
    (dats m hchk 0 c).leavesExact 7 t = owns (c : Thread nD τ) (ms0_7 t) fullShare (iblk m c 7 t) := by
  unfold Dat.leavesExact; rw [show cfg0.idle 7 (grid0.coords t) = false from rfl, after0_7]
theorem leaves0_8 (c : Dev nD) (t : Fin cfg0.N) :
    (dats m hchk 0 c).leavesExact 8 t = owns (c : Thread nD τ) (ms0_8 t) fullShare (iblk m c 8 t) := by
  unfold Dat.leavesExact; rw [show cfg0.idle 8 (grid0.coords t) = false from rfl, after0_8]

/-- At a tile's last point the output's buffer is left at `outT`; at the other points it is left as it was. -/
theorem leaves0_9_last (c : Dev nD) (t : Fin cfg0.N) (h : t.val % 8 = 7) :
    (dats m hchk 0 c).leavesExact 9 t = owns (c : Thread nD τ) (ms0_9 t) fullShare (outT m hchk c t) := by
  have e : cfg0.idle 9 (grid0.coords t) = false := by
    show (!(k0_cond2 (grid0.coords t) == 1#1)) = false
    rw [(last_iff t).mpr h]; rfl
  unfold Dat.leavesExact; rw [e, after0_9]
theorem leaves0_9_idle (c : Dev nD) (t : Fin cfg0.N) (h : ¬ t.val % 8 = 7) :
    (dats m hchk 0 c).leavesExact 9 t
      = iprop(∃ d, owns (c : Thread nD τ) (ms0_9 t) fullShare ((dats m hchk 0 c).before 9 t d)) :=
  (dats m hchk 0 c).leavesExact_idle 9 t
    (by show (!(k0_cond2 (grid0.coords t) == 1#1)) = true
        simpa using fun hl => h ((last_iff t).mp hl))
    (by rw [← Bool.not_eq_true]; exact fun hf => h ((flush0_9 t).mp hf))

/-! ## The body at a point -/

/-- What the body is called with at point `t`, the windows one by one. -/
def bodyPre (c : Dev nD) (t : Fin cfg0.N) : sProp 𝕄 :=
  iprop((dats m hchk 0 c).Φ t.castSucc ∗ (dats m hchk 0 c).owesAt () t.castSucc
    ∗ (∃ d, owns (c : Thread nD τ) (ms0_0 t) fullShare ((dats m hchk 0 c).before 0 t d))
    ∗ (∃ d, owns (c : Thread nD τ) (ms0_1 t) fullShare ((dats m hchk 0 c).before 1 t d))
    ∗ (∃ d, owns (c : Thread nD τ) (ms0_2 t) fullShare ((dats m hchk 0 c).before 2 t d))
    ∗ (∃ d, owns (c : Thread nD τ) (ms0_3 t) fullShare ((dats m hchk 0 c).before 3 t d))
    ∗ (∃ d, owns (c : Thread nD τ) (ms0_4 t) fullShare ((dats m hchk 0 c).before 4 t d))
    ∗ (∃ d, owns (c : Thread nD τ) (ms0_5 t) fullShare ((dats m hchk 0 c).before 5 t d))
    ∗ (∃ d, owns (c : Thread nD τ) (ms0_6 t) fullShare ((dats m hchk 0 c).before 6 t d))
    ∗ (∃ d, owns (c : Thread nD τ) (ms0_7 t) fullShare ((dats m hchk 0 c).before 7 t d))
    ∗ (∃ d, owns (c : Thread nD τ) (ms0_8 t) fullShare ((dats m hchk 0 c).before 8 t d))
    ∗ (∃ d, owns (c : Thread nD τ) (ms0_9 t) fullShare ((dats m hchk 0 c).before 9 t d)))

/-- What the body returns. -/
def bodyPost (c : Dev nD) (t : Fin cfg0.N) : sProp 𝕄 :=
  iprop((dats m hchk 0 c).Φ t.succ ∗ (dats m hchk 0 c).owesAt () t.succ
    ∗ (dats m hchk 0 c).leavesExact 0 t
    ∗ (dats m hchk 0 c).leavesExact 1 t
    ∗ (dats m hchk 0 c).leavesExact 2 t
    ∗ (dats m hchk 0 c).leavesExact 3 t
    ∗ (dats m hchk 0 c).leavesExact 4 t
    ∗ (dats m hchk 0 c).leavesExact 5 t
    ∗ (dats m hchk 0 c).leavesExact 6 t
    ∗ (dats m hchk 0 c).leavesExact 7 t
    ∗ (dats m hchk 0 c).leavesExact 8 t
    ∗ (dats m hchk 0 c).leavesExact 9 t)

set_option maxHeartbeats 1000000 in
/-- The body at a tile's first point. -/
theorem sound_first (c : Dev nD) (t : Fin cfg0.N) (h0 : t.val % 8 = 0) :
    bodyPre m hchk c t ⊢ wp frame (wpE (defs₀ (F := F)) Variants.none c none) Set.univ (bodyAt0 t) (fun _ => bodyPost m hchk c t) := by
  unfold bodyPre bodyPost bodyAt0
  simp only [before0_0, before0_1, before0_2, before0_3, before0_4, before0_5, before0_6, before0_7, before0_8,
    leaves0_0, leaves0_1, leaves0_2, leaves0_3, leaves0_4, leaves0_5, leaves0_6, leaves0_7, leaves0_8]
  rw [show (dats m hchk 0 c).owesAt () t.succ = (dats m hchk 0 c).owesAt () t.castSucc from rfl]
  rw [show (dats m hchk 0 c).Φ t.succ = scratchAt m hchk c t.val t.isLt from rfl, PhiS_castSucc]

  have h1 : ¬ t.val % 8 = 7 := by omega
  have hc : k0_chk1 (lo (grid0.coords t) (segV (iblk m c 3 t))) (hi (grid0.coords t) (segV (iblk m c 3 t))) := by
    have := hchk c t; unfold segT at this; rwa [tile0_first t h0] at this
  rw [leaves0_9_idle m hchk c t h1, scratchAt_first m hchk c t h0 hc]
  refine (Idealize.SL.BI.Laws.sep_mono_left (PhiS_any m hchk c t.val _)).trans ?_
  unfold anyScratch scratchWith
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (body_first c (grid0.coords t) _ _ _ _ _ _ _ _ _ _ _ _ _ _ _ _ _ _ _ _ _ _ _ _ _ _ _ _ _ _ _ _
    ((first_iff t).mpr h0) (fun h => h1 ((last_iff t).mp h)) (iblk m c 1 t) (iblk m c 2 t) (iblk m c 3 t) (iblk m c 4 t)
    (iblk m c 5 t) (iblk m c 6 t) (iblk m c 7 t) hc Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H1, H2, H3, H4, H5, H6, H7, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1000000 in
/-- The body between a tile's first point and its last. -/
theorem sound_mid (c : Dev nD) (t : Fin cfg0.N) (h0 : ¬ t.val % 8 = 0) (h1 : ¬ t.val % 8 = 7) :
    bodyPre m hchk c t ⊢ wp frame (wpE (defs₀ (F := F)) Variants.none c none) Set.univ (bodyAt0 t) (fun _ => bodyPost m hchk c t) := by
  unfold bodyPre bodyPost bodyAt0
  simp only [before0_0, before0_1, before0_2, before0_3, before0_4, before0_5, before0_6, before0_7, before0_8,
    leaves0_0, leaves0_1, leaves0_2, leaves0_3, leaves0_4, leaves0_5, leaves0_6, leaves0_7, leaves0_8]
  rw [show (dats m hchk 0 c).owesAt () t.succ = (dats m hchk 0 c).owesAt () t.castSucc from rfl]
  rw [show (dats m hchk 0 c).Φ t.succ = scratchAt m hchk c t.val t.isLt from rfl, PhiS_castSucc]

  rw [leaves0_9_idle m hchk c t h1]
  rw [PhiS_next m hchk c t h0 (by have := t.isLt; omega)]
  unfold scratchAt
  rw [rowsAt_next m hchk c t h0 (by have := t.isLt; omega)]
  unfold scratchWith rowsStep
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (body_mid c (grid0.coords t) _ _ _ _ _ _ _ _ _ _ _ _ _ _ _ _ _ _ _ _ _ _ _ _ _ _ _ _ _ _ _ _
    (fun h => h0 ((first_iff t).mp h)) (fun h => h1 ((last_iff t).mp h))
    (iblk m c 5 t) (iblk m c 6 t) (iblk m c 7 t) _ _ _ _ (hchk c t) Set.univ _)
  isplitl [H5]; · iexact H5
  isplitl [H6]; · iexact H6
  isplitl [H7]; · iexact H7
  isplitl [HS2]; · iexact HS2
  isplitl [HS3]; · iexact HS3
  isplitl [HS4]; · iexact HS4
  isplitl [HS5]; · iexact HS5
  iintro ⟨H5, H6, H7, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1000000 in
/-- The body at a tile's last point. -/
theorem sound_last (c : Dev nD) (t : Fin cfg0.N) (h0 : ¬ t.val % 8 = 0) (h1 : t.val % 8 = 7) :
    bodyPre m hchk c t ⊢ wp frame (wpE (defs₀ (F := F)) Variants.none c none) Set.univ (bodyAt0 t) (fun _ => bodyPost m hchk c t) := by
  unfold bodyPre bodyPost bodyAt0
  simp only [before0_0, before0_1, before0_2, before0_3, before0_4, before0_5, before0_6, before0_7, before0_8,
    leaves0_0, leaves0_1, leaves0_2, leaves0_3, leaves0_4, leaves0_5, leaves0_6, leaves0_7, leaves0_8]
  rw [show (dats m hchk 0 c).owesAt () t.succ = (dats m hchk 0 c).owesAt () t.castSucc from rfl]
  rw [show (dats m hchk 0 c).Φ t.succ = scratchAt m hchk c t.val t.isLt from rfl, PhiS_castSucc]

  rw [leaves0_9_last m hchk c t h1]
  unfold outT
  rw [PhiS_next m hchk c t h0 (by have := t.isLt; omega)]
  unfold scratchAt
  rw [rowsAt_next m hchk c t h0 (by have := t.isLt; omega)]
  unfold scratchWith rowsStep
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_last c (grid0.coords t) _ _ _ _ _ _ _ _ _ _ _ _ _ _ _ _ _ _ _ _ _ _ _ _ _ _ _ _ _ _ _ _
    (fun h => h0 ((first_iff t).mp h)) ((last_iff t).mpr h1) (iblk m c 0 t) (iblk m c 8 t) _
    (iblk m c 5 t) (iblk m c 6 t) (iblk m c 7 t) _ _ _ _ (hchk c t) Set.univ _)
  isplitl [H0]; · iexact H0
  isplitl [H8]; · iexact H8
  isplitl [HS1]; · iexact HS1
  isplitl [H5]; · iexact H5
  isplitl [H6]; · iexact H6
  isplitl [H7]; · iexact H7
  isplitl [HS2]; · iexact HS2
  isplitl [HS3]; · iexact HS3
  isplitl [HS4]; · iexact HS4
  isplitl [HS5]; · iexact HS5
  isplitl [H9]; · iexists _; iexact H9
  iintro ⟨H0, H8, HS1, H5, H6, H7, HS2, HS3, HS4, HS5, H9⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point meets its obligation. -/
theorem sound_body (c : Dev nD) (t : Fin cfg0.N) :
    bodyPre m hchk c t ⊢ wp frame (wpE (defs₀ (F := F)) Variants.none c none) Set.univ (bodyAt0 t) (fun _ => bodyPost m hchk c t) := by
  by_cases h0 : t.val % 8 = 0
  · exact sound_first m hchk c t h0
  by_cases h1 : t.val % 8 = 7
  · exact sound_last m hchk c t h0 h1
  · exact sound_mid m hchk c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hchk 0 c) (defs₀ (F := F)) Variants.none () Set.univ := fun t => by
  rw [bigSep_W0, bigSep_W0, defs₀_row]
  exact triple_restated (sound_body m hchk c t) rfl .rfl fun _ => .rfl

theorem hin (c : Dev nD) : Pipeline.ΦA spec0 c ⊢ (dats m hchk 0 c).Φ 0 := by
  rw [show (dats m hchk 0 c).Φ 0 = Pipeline.ΦA spec0 c from rfl]
  try exact Idealize.SL.BI.Entails.refl _

theorem hout (c : Dev nD) : (dats m hchk 0 c).Φ (Fin.last cfg0.N) ⊢ Pipeline.ΦA spec0 c := by
  rw [show (dats m hchk 0 c).Φ (Fin.last cfg0.N) = PhiS m hchk c (Fin.last cfg0.N).val (Nat.le_refl _) from rfl, PhiA0_eq]
  exact PhiS_any m hchk c _ _

/-! ## The run -/

include hchk

set_option backward.isDefEq.respectTransparency.types false in
/-- The program runs to the state that the proof data describe, every counter at zero. -/
theorem run_quiescent : θ_run defs (onTc (τ := τ) (main (F := F))) (s₀ m ρ)
    (fun r => Pipeline.FramePost cfgs (dats m hchk) 0 (V m) r ∧ r.2.sem = fun _ => 0) :=
  Pipeline.θ_run_frame_track (Q' := _) cfgs (dats m hchk) (0 : Fin 1) launch0 defs₀ Variants.none m ρ main
    (hbody := fun c => (body_obligation m hchk c).loose) (hshare := fun c => (dats m hchk 0 c).share_full fun _ => rfl)
    (howed := fun _ _ => rfl) (V := V m) (hmain := hmain m Variants.none) (hA := A_eq m hchk) (hin := hin m hchk)
    (hout := hout m hchk)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m hchk) (A_eq m hchk) ((θ_run defs _ _).mono (fun _ h => h.1) (run_quiescent m ρ hchk))

/-- The frame: the run ends, the arguments unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hchk) ((θ_run defs _ _).mono (fun _ h => h.2) (run_quiescent m ρ hchk))

end Cert.KernelIdeal.Moe

end
-- ==== Proof.Counting.lean ====
module

public import Idealize.ShloMosaic.Lib.StableHlo
public import Idealize.ShloMosaic.PureOps.Ideal.Laws
public import Idealize.ShloMosaic.Lib.Pointwise

@[expose] public section

noncomputable section

namespace Cert.Moe

open Idealize.ShloMosaic

/-- Floats that count exactly up to 1024: the naturals among them, what their sums are, and the block of 128 in which a
count lies (rounded down and up), as the integer conversion gives it. -/
structure Counting (F : FTy → Type) [FloatOps F] where
  nat : ℕ → F .f32
  zero : (Scalar.ofBits .f32 0x00000000#32 : F .f32) = nat 0
  add : ∀ a b, a + b ≤ 1024 → Scalar.addf (nat a) (nat b) = nat (a + b)
  lo : ∀ a, a ≤ 1024 →
    Scalar.fptosi 32 (Scalar.floor (Scalar.mulf (nat a) (Scalar.ofBits .f32 0x3C000000#32))) = BitVec.ofNat 32 (a / 128)
  hi : ∀ a, a ≤ 1024 →
    Scalar.fptosi 32 (Scalar.ceil (Scalar.mulf (nat a) (Scalar.ofBits .f32 0x3C000000#32))) = BitVec.ofNat 32 ((a + 127) / 128)
  sum : ∀ {s t : Shape} (axes : List (Fin s.rank)) (h : s.Reduces axes t) (src : FVec F s .f32) (j : t.Idx) (n : s.Idx → ℕ)
    (_ : ∀ b, t.size b = 1) (_ : ∀ i, src i = nat (n i)) (_ : ∑ i, n i ≤ 1024),
    multiReduction .add axes t src 0x00000000#32 h (.inl rfl) rfl j = nat (∑ i, n i)

/-- A reduction into a shape of one element reads the whole source. -/
theorem drop_all {s t : Shape} {axes : List (Fin s.rank)} (h : s.Reduces axes t) (ht : ∀ b, t.size b = 1) (j : t.Idx)
    (i : s.Idx) : h.drop i = j :=
  funext fun b => Fin.ext (by
    have := (h.drop i b).isLt; have := (j b).isLt; have := ht b; omega)

/-- One hundred and twenty-eighth, as the program's word for it reads over the extended reals. -/
theorem ofBits_inv128 : (Scalar.ofBits .f32 0x3C000000#32 : Ideal .f32) = ((1 / 128 : ℝ) : EReal) := by
  show Ideal.ofBits .f32 0x3C000000#32 = _
  simp [Ideal.ofBits, Ideal.ieee, -EReal.coe_mul]; norm_num

/-- A finite sum of naturals, as an extended real. -/
theorem coe_sum_nat {ι : Type*} (s : Finset ι) (n : ι → ℕ) : ∑ i ∈ s, ((n i : ℝ) : EReal) = ((∑ i ∈ s, n i : ℕ) : ℝ) := by
  classical
  induction s using Finset.induction_on with
  | empty => simp
  | insert a s h ih => rw [Finset.sum_insert h, Finset.sum_insert h, ih, ← EReal.coe_add, Nat.cast_add]

/-- The extended reals count. -/
def idealCounting : Counting Ideal where
  nat n := ((n : ℝ) : EReal)
  zero := by show Ideal.ofBits .f32 0x00000000#32 = _; simp
  add a b h := by
    show ((a : ℝ) : EReal) + ((b : ℝ) : EReal) = _
    rw [← EReal.coe_add]; push_cast; rfl
  lo a h := by
    rw [ofBits_inv128]
    show Ideal.fptosi 32 (Ideal.liftRound Int.floor (((a : ℝ) : EReal) * ((1 / 128 : ℝ) : EReal))) = _
    have hf : ⌊(a : ℝ) * (1 / 128)⌋ = ((a / 128 : ℕ) : ℤ) := by
      rw [Int.floor_eq_iff]
      have h1 : a / 128 * 128 ≤ a := Nat.div_mul_le_self _ _
      have h2 : a < (a / 128 + 1) * 128 := by omega
      have h1' : ((a / 128 : ℕ) : ℝ) * 128 ≤ a := by exact_mod_cast h1
      have h2' : (a : ℝ) < (((a / 128 : ℕ) : ℝ) + 1) * 128 := by exact_mod_cast h2
      constructor
      · rw [Int.cast_natCast]; linarith
      · rw [Int.cast_natCast]; linarith
    rw [← EReal.coe_mul, Ideal.liftRound_coe, hf]
    have h8 : a / 128 ≤ 8 := by omega
    generalize a / 128 = k at h8
    show BitVec.ofInt 32 (max _ (min _ (if (0 : ℝ) ≤ ((k : ℤ) : ℝ) then ⌊((k : ℤ) : ℝ)⌋ else ⌈((k : ℤ) : ℝ)⌉))) = _
    rw [if_pos (by positivity), Int.floor_intCast]
    interval_cases k <;> rfl
  hi a h := by
    rw [ofBits_inv128]
    show Ideal.fptosi 32 (Ideal.liftRound Int.ceil (((a : ℝ) : EReal) * ((1 / 128 : ℝ) : EReal))) = _
    have hf : ⌈(a : ℝ) * (1 / 128)⌉ = (((a + 127) / 128 : ℕ) : ℤ) := by
      rw [Int.ceil_eq_iff]
      have h1 : ((a + 127) / 128) * 128 ≤ a + 127 := Nat.div_mul_le_self _ _
      have h2 : a ≤ ((a + 127) / 128) * 128 := by omega
      have h1' : ((((a + 127) / 128 : ℕ) : ℝ)) * 128 ≤ a + 127 := by exact_mod_cast h1
      have h2' : (a : ℝ) ≤ (((a + 127) / 128 : ℕ) : ℝ) * 128 := by exact_mod_cast h2
      constructor
      · rw [Int.cast_natCast]; linarith
      · rw [Int.cast_natCast]; linarith
    rw [← EReal.coe_mul, Ideal.liftRound_coe, hf]
    have h8 : (a + 127) / 128 ≤ 8 := by omega
    generalize (a + 127) / 128 = k at h8
    show BitVec.ofInt 32 (max _ (min _ (if (0 : ℝ) ≤ ((k : ℤ) : ℝ) then ⌊((k : ℤ) : ℝ)⌋ else ⌈((k : ℤ) : ℝ)⌉))) = _
    rw [if_pos (by positivity), Int.floor_intCast]
    interval_cases k <;> rfl
  sum {s t} axes h src j n ht hsrc hn := by
    refine (Ideal.multiReduction_add_total src _ h ht _ _ j).trans ?_
    simp only [hsrc]
    exact coe_sum_nat Finset.univ n

end Cert.Moe

end
-- ==== Proof.Ranks.lean ====
module

public import Idealize.ShloMosaic.Lib.Pointwise

@[expose] public section

/-! # Sorting the tokens of a tile by their group

A tile has 1024 tokens, each of one of four groups. A token's position is the number of tokens of lower groups plus the
number of earlier tokens of its own group. -/

namespace Cert.Moe

variable (G : Fin 1024 → Fin 4)

/-- The number of tokens of group `g`. -/
def cnt (g : Fin 4) : ℕ := ∑ t : Fin 1024, if G t = g then 1 else 0
/-- The number of tokens of group `g` before token `t`. -/
def before (g : Fin 4) (t : Fin 1024) : ℕ := ∑ s : Fin 1024, (if G s = g then 1 else 0) * (if s.val < t.val then 1 else 0)
/-- The position at which group `g` starts. -/
def start : Fin 4 → ℕ
  | 0 => 0
  | 1 => cnt G 0
  | 2 => cnt G 0 + cnt G 1
  | 3 => cnt G 0 + cnt G 1 + cnt G 2
/-- The position of token `t`. -/
def pos (t : Fin 1024) : ℕ := start G (G t) + before G (G t) t

theorem cnt_total : cnt G 0 + cnt G 1 + cnt G 2 + cnt G 3 = 1024 := by
  unfold cnt
  rw [← Finset.sum_add_distrib, ← Finset.sum_add_distrib, ← Finset.sum_add_distrib]
  have h : ∀ t : Fin 1024, ((((if G t = 0 then 1 else 0) + if G t = 1 then 1 else 0) + if G t = 2 then 1 else 0)
      + if G t = 3 then 1 else 0) = 1 := by
    intro t
    generalize G t = g
    revert g; decide
  simp only [h, Finset.sum_const, Finset.card_univ, Fintype.card_fin, smul_eq_mul, mul_one]

theorem start_add_cnt_le (g : Fin 4) : start G g + cnt G g ≤ 1024 := by
  have h := cnt_total G
  fin_cases g <;> simp only [start, Fin.zero_eta, Fin.mk_one, Fin.reduceFinMk] <;> omega

theorem before_lt (t : Fin 1024) : before G (G t) t < cnt G (G t) := by
  unfold before cnt
  refine Finset.sum_lt_sum (fun s _ => ?_) ⟨t, Finset.mem_univ t, ?_⟩
  · split <;> split <;> simp
  · simp

theorem before_lt_before {t u : Fin 1024} (h : t.val < u.val) : before G (G t) t < before G (G t) u := by
  unfold before
  refine Finset.sum_lt_sum (fun s _ => ?_) ⟨t, Finset.mem_univ t, ?_⟩
  · by_cases h1 : s.val < t.val
    · rw [if_pos h1, if_pos (h1.trans h)]
    · rw [if_neg h1, mul_zero]; exact Nat.zero_le _
  · simp [h]

theorem pos_lt (t : Fin 1024) : pos G t < 1024 := by
  have h1 := before_lt G t; have h2 := start_add_cnt_le G (G t); unfold pos; omega

/-- A group ends before the next one starts. -/
theorem start_mono {g h : Fin 4} (hgh : g.val < h.val) : start G g + cnt G g ≤ start G h := by
  fin_cases g <;> fin_cases h <;> simp only [start, Fin.zero_eta, Fin.mk_one, Fin.reduceFinMk] at * <;> omega

/-- Two tokens have two positions. -/
theorem pos_inj {t u : Fin 1024} (h : pos G t = pos G u) : t = u := by
  have ht := before_lt G t; have hu := before_lt G u
  unfold pos at h
  rcases lt_trichotomy (G t).val (G u).val with hg | hg | hg
  · have := start_mono G hg; omega
  · have hg' : G t = G u := Fin.ext hg
    rcases lt_trichotomy t.val u.val with h1 | h1 | h1
    · have := before_lt_before G h1; rw [← hg'] at h; omega
    · exact Fin.ext h1
    · have := before_lt_before G h1; rw [hg'] at h; omega
  · have := start_mono G hg; omega

/-- A token's block of 128 lies among its group's blocks. -/
theorem pos_block (t : Fin 1024) : start G (G t) / 128 ≤ pos G t / 128 ∧ pos G t / 128 < (start G (G t) + cnt G (G t) + 127) / 128 := by
  have h1 := before_lt G t
  unfold pos
  omega

theorem cnt_le (g : Fin 4) : cnt G g ≤ 1024 := by have := start_add_cnt_le G g; omega
theorem before_le (g : Fin 4) (t : Fin 1024) : before G g t ≤ cnt G g := by
  unfold before cnt
  refine Finset.sum_le_sum fun s _ => ?_
  split <;> split <;> simp

end Cert.Moe

end
-- ==== Proof.SegKernelIdeal.lean ====
module

public import proofs.«01_k».proof.Proof.BodyFirstKernelIdeal
public import proofs.«01_k».proof.Proof.Counting
public import proofs.«01_k».proof.Proof.Ranks
public import Idealize.ShloMosaic.Lib.Pointwise

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.Moe (Counting cnt before start pos)
open Idealize.ShloMosaic.Pointwise

section Words

variable (K : Counting F) (G : Fin 1024 → Fin 4) (x3 : Vec F S8x1024 .f32)

/-- The tile's group rows are the tokens' one-hot group vectors. -/
def OneHot : Prop := ∀ (g : Fin 4) (t : Fin 1024),
  x3 (ix2 (n0 := 8) (n1 := 1024) ⟨g.val, by omega⟩ t) = K.nat (if G t = g then 1 else 0)

variable (hx : OneHot K G x3)
include hx

omit K x3 hx in
theorem hsum (g : Fin 4) : (∑ i : S1x1x1024.Idx, if G (i 2) = g then 1 else 0) = cnt G g := by
  rw [sum_idx3]
  exact (Fintype.sum_eq_single 0 (fun a h => absurd (Subsingleton.elim a 0) h)).trans
    (Fintype.sum_eq_single 0 (fun a h => absurd (Subsingleton.elim a 0) h))

/-- The sum of a group's row counts the group's tokens. -/
theorem row_count (r : ℕ) (hr : r < 4) (hs : S8x1024.Slices ![r, 0] S1x1024) (j : S1.Idx) :
    multiReduction .add [1, 2] S1 (shapeCast S1x1x1024 (extractStridedSlice S1x1024 ![r, 0] x3 hs) shapeCasts_S1x1024_S1x1x1024)
      0x00000000#32 reduces_S1x1x1024_S1 (.inl rfl) rfl j = K.nat (cnt G ⟨r, hr⟩) := by
  refine (K.sum [1, 2] _ _ j (fun i => if G (i 2) = ⟨r, hr⟩ then 1 else 0) (by decide) (fun i => ?_) ?_).trans ?_
  · idx_vars i
    refine Eq.trans ?_ (hx ⟨r, hr⟩ i2)
    pointwise []
  · exact (le_of_eq (hsum G _)).trans (Cert.Moe.cnt_le G ⟨r, hr⟩)
  · exact congrArg K.nat (hsum G _)

theorem row0 : k0_pay8 x3 = K.nat (cnt G 0) := row_count K G x3 hx 0 (by decide) _ _
theorem row1 : k0_pay13 x3 = K.nat (cnt G 1) := row_count K G x3 hx 1 (by decide) _ _
theorem row2 : k0_pay18 x3 = K.nat (cnt G 2) := row_count K G x3 hx 2 (by decide) _ _

theorem at1 : k0_pay12 x3 = K.nat (start G 1) := by
  have h := Cert.Moe.start_add_cnt_le G 0
  show Scalar.addf (Scalar.ofBits .f32 0x00000000#32) (k0_pay8 x3) = _
  rw [row0 K G x3 hx, K.zero, K.add _ _ (by simpa [start] using h), Nat.zero_add]; rfl
theorem at2 : k0_pay17 (k0_pay12 x3) (k0_pay13 x3) = K.nat (start G 2) := by
  have h := Cert.Moe.start_add_cnt_le G 1
  show Scalar.addf (k0_pay12 x3) (k0_pay13 x3) = _
  rw [row1 K G x3 hx, at1 K G x3 hx, K.add _ _ h]; rfl
theorem at3 : k0_pay22 x3 (k0_pay12 x3) (k0_pay13 x3) = K.nat (start G 3) := by
  have h := Cert.Moe.start_add_cnt_le G 2
  show Scalar.addf (k0_pay17 (k0_pay12 x3) (k0_pay13 x3)) (k0_pay18 x3) = _
  rw [row2 K G x3 hx, at2 K G x3 hx, K.add _ _ h]; rfl

theorem word_lo (g : Fin 4) (y : S8.Idx) (hy : (y 0).val = g.val) : segV x3 y = BitVec.ofNat 32 (start G g / 128) := by
  have hs : start G g ≤ 1024 := by have := Cert.Moe.start_add_cnt_le G g; omega
  rw [← K.lo _ hs]
  unfold segV
  rw [hy]
  revert hs
  fin_cases g <;> intro hs
  · show Scalar.fptosi 32 (Scalar.floor (Scalar.mulf (Scalar.ofBits .f32 0x00000000#32) _)) = _
    rw [K.zero]; rfl
  · show Scalar.fptosi 32 (Scalar.floor (Scalar.mulf (k0_pay12 x3) _)) = _
    rw [at1 K G x3 hx]; rfl
  · show Scalar.fptosi 32 (Scalar.floor (Scalar.mulf (k0_pay17 (k0_pay12 x3) (k0_pay13 x3)) _)) = _
    rw [at2 K G x3 hx]; rfl
  · show Scalar.fptosi 32 (Scalar.floor (Scalar.mulf (k0_pay22 x3 (k0_pay12 x3) (k0_pay13 x3)) _)) = _
    rw [at3 K G x3 hx]; rfl

theorem word_hi (g : Fin 4) (y : S8.Idx) (hy : (y 0).val = 4 + g.val) :
    segV x3 y = BitVec.ofNat 32 ((start G g + cnt G g + 127) / 128) := by
  have hs := Cert.Moe.start_add_cnt_le G g
  rw [← K.hi _ hs, ← K.add _ _ hs]
  unfold segV
  rw [hy]
  revert hs
  fin_cases g <;> intro hs
  · show Scalar.fptosi 32 (Scalar.ceil (Scalar.mulf (Scalar.addf (Scalar.ofBits .f32 0x00000000#32) (k0_pay8 x3)) _)) = _
    rw [row0 K G x3 hx, K.zero]; rfl
  · show Scalar.fptosi 32 (Scalar.ceil (Scalar.mulf (Scalar.addf (k0_pay12 x3) (k0_pay13 x3)) _)) = _
    rw [at1 K G x3 hx, row1 K G x3 hx]; rfl
  · show Scalar.fptosi 32 (Scalar.ceil (Scalar.mulf (Scalar.addf (k0_pay17 (k0_pay12 x3) (k0_pay13 x3)) (k0_pay18 x3)) _)) = _
    rw [at2 K G x3 hx, row2 K G x3 hx]; rfl
  · show Scalar.fptosi 32 (Scalar.ceil (Scalar.mulf (Scalar.addf (k0_pay22 x3 (k0_pay12 x3) (k0_pay13 x3)) _) _)) = _
    rw [at3 K G x3 hx]
    exact congrArg (fun v => Scalar.fptosi 32 (Scalar.ceil (Scalar.mulf (Scalar.addf (K.nat (start G 3)) v) (FloatOps.ofBits FTy.f32 1006632960#32))))
      (row_count K G x3 hx 3 (by decide) _ _)

/-- The group of a grid point's step. -/
def grp (i : grid0.Coords) : Fin 4 := ⟨(i 1).val / 2, by have : (i 1).val < 8 := (i 1).isLt; omega⟩

omit K G x3 hx in
theorem off1_val (i : grid0.Coords) : k0_off1 i 0 = (grp i).val := by
  show k0_off1 i 0 = (i 1).val / 2
  unfold k0_off1
  generalize i 1 = k
  revert k
  decide +kernel
omit K G x3 hx in
theorem off2_val (i : grid0.Coords) : k0_off2 i 0 = 4 + (grp i).val := by
  show k0_off2 i 0 = 4 + (i 1).val / 2
  unfold k0_off2
  generalize i 1 = k
  revert k
  decide +kernel

theorem lo_seg (i : grid0.Coords) : lo i (segV x3) = BitVec.ofNat 32 (start G (grp i) / 128) := by
  refine word_lo K G x3 hx (grp i) _ ?_
  exact off1_val i
theorem hi_seg (i : grid0.Coords) : hi i (segV x3) = BitVec.ofNat 32 ((start G (grp i) + cnt G (grp i) + 127) / 128) := by
  refine word_hi K G x3 hx (grp i) _ ?_
  exact off2_val i

end Words

/-- Every pair of block numbers up to eight bounds blocks of the tile's rows. -/
theorem chk_ok : ∀ a b : Fin 9, k0_chk1 (BitVec.ofNat 32 a.val) (BitVec.ofNat 32 b.val) := by decide +kernel

theorem chk_seg {F : FTy → Type} [FloatOps F] (K : Counting F) (G : Fin 1024 → Fin 4) (x3 : Vec F S8x1024 .f32) (hx : OneHot K G x3) (i : grid0.Coords) :
    k0_chk1 (lo i (segV x3)) (hi i (segV x3)) := by
  rw [lo_seg K G x3 hx, hi_seg K G x3 hx]
  have hs := Cert.Moe.start_add_cnt_le G (grp i)
  exact chk_ok ⟨start G (grp i) / 128, by omega⟩ ⟨(start G (grp i) + cnt G (grp i) + 127) / 128, by omega⟩

end Cert.KernelIdeal.Moe

end
-- ==== Proof.Given.lean ====
module

public import proofs.«01_k».proof.Defs
public import proofs.«01_k».proof.Proof.Gen.Pre_grouped
public import proofs.«01_k».proof.Proof.Gen.Pre_routed
public import Idealize.ShloMosaic.Lib.Pointwise

@[expose] public section

noncomputable section

namespace Cert.Moe

open Idealize.ShloMosaic Idealize.ShloMosaic.Pointwise
open Cert.Pre_grouped

theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide
theorem ofBool_one (p : Prop) [Decidable p] : BitVec.ofBool (decide p) = 1#1 ↔ p := by by_cases h : p <;> simp [h]

/-- Column `j` of the group rows is the one-hot vector of group `g`. -/
def InGroup (x3 : FVec Ideal S8x32768 .f32) (j : Fin 32768) (g : Fin 4) : Prop :=
  ∀ k : Fin 4, x3 (ix2 (n0 := 8) (n1 := 32768) ⟨k.val, by omega⟩ j) = (((if g = k then 1 else 0 : ℕ) : ℝ) : EReal)

/-- The four alternatives of the one-hot condition name the group. -/
theorem inGroup_of (x3 : FVec Ideal S8x32768 .f32) (j : Fin 32768)
    (h : (((((x3 (ix2 0 j) = 1 ∧ x3 (ix2 1 j) = 0) ∧ x3 (ix2 2 j) = 0) ∧ x3 (ix2 3 j) = 0) ∨
        ((x3 (ix2 1 j) = 1 ∧ x3 (ix2 0 j) = 0) ∧ x3 (ix2 2 j) = 0) ∧ x3 (ix2 3 j) = 0) ∨
        ((x3 (ix2 2 j) = 1 ∧ x3 (ix2 0 j) = 0) ∧ x3 (ix2 1 j) = 0) ∧ x3 (ix2 3 j) = 0) ∨
        ((x3 (ix2 3 j) = 1 ∧ x3 (ix2 0 j) = 0) ∧ x3 (ix2 1 j) = 0) ∧ x3 (ix2 2 j) = 0) :
    ∃ g, InGroup x3 j g := by
  rcases h with ((h | h) | h) | h <;> obtain ⟨⟨⟨h1, h2⟩, h3⟩, h4⟩ := h
  · refine ⟨0, fun k => ?_⟩
    fin_cases k
    · exact h1.trans (by simp)
    · exact h2.trans (by simp)
    · exact h3.trans (by simp)
    · exact h4.trans (by simp)
  · refine ⟨1, fun k => ?_⟩
    fin_cases k
    · exact h2.trans (by simp)
    · exact h1.trans (by simp)
    · exact h3.trans (by simp)
    · exact h4.trans (by simp)
  · refine ⟨2, fun k => ?_⟩
    fin_cases k
    · exact h2.trans (by simp)
    · exact h3.trans (by simp)
    · exact h1.trans (by simp)
    · exact h4.trans (by simp)
  · refine ⟨3, fun k => ?_⟩
    fin_cases k
    · exact h2.trans (by simp)
    · exact h3.trans (by simp)
    · exact h4.trans (by simp)
    · exact h1.trans (by simp)

/-- Under the first condition every token has one group. -/
theorem grouped_spec (x1 h2 x2 x3 wg wu wd gf) (h : Cert.Pre_grouped.fn (F := Ideal) x1 h2 x2 x3 wg wu wd gf = fun _ => 1#1)
    (j : Fin 32768) : ∃ g, InGroup x3 j g := by
  have h' := congrFun h (ix2 (n0 := 1) (n1 := 32768) 0 j)
  apply inGroup_of
  revert h'
  pointwise [Cert.Pre_grouped.fn, Cert.Pre_grouped.fn_part1]
  simp only [andi_one, ori_one, ofBool_one]
  exact id

/-- What the second condition says of token `j` of group `g`. -/
def Routed (x2 : FVec Ideal S32768x128 .f32) (j : Fin 32768) (g : Fin 4) : Prop :=
  ∀ e : Fin 32, 0 ≤ x2 (ix2 (n0 := 32768) (n1 := 128) j ⟨e.val, by omega⟩)
    ∧ x2 (ix2 (n0 := 32768) (n1 := 128) j ⟨e.val, by omega⟩) ≠ ⊤
    ∧ (e.val / 8 ≠ g.val → x2 (ix2 (n0 := 32768) (n1 := 128) j ⟨e.val, by omega⟩) = 0)

theorem other_group (x3 : FVec Ideal S8x32768 .f32) (j : Fin 32768) (g : Fin 4) (hg : InGroup x3 j g) (k : Fin 4)
    (h : x3 (ix2 (n0 := 8) (n1 := 32768) ⟨k.val, by omega⟩ j) = 1) : k.val = g.val := by
  rw [hg k] at h
  by_cases e : g = k
  · rw [e]
  · rw [if_neg e] at h; simp at h

/-- Under the second condition every token has one group, finite weights that are at least zero, and no weight outside its group. -/
theorem routed_spec (x1 h2 x2 x3 wg wu wd gf) (h : Cert.Pre_routed.fn (F := Ideal) x1 h2 x2 x3 wg wu wd gf = fun _ => 1#1)
    (j : Fin 32768) : ∃ g, InGroup x3 j g ∧ Routed x2 j g := by
  have key : ∀ k : Fin 8, _ := fun k => by
    have h' := congrFun h (ix2 (n0 := 8) (n1 := 32768) k j)
    revert h'
    pointwise [Cert.Pre_routed.fn, Cert.Pre_routed.fn_part1, Cert.Pre_routed.fn_part2, Cert.Pre_routed.fn_part3, Cert.Pre_routed.fn_part4]
    simp only [andi_one, ori_one, ofBool_one]
    exact id
  obtain ⟨g, hg⟩ := inGroup_of x3 j (key 0).1.1.1.1.1.1.1.1.1.1.1.1
  refine ⟨g, hg, fun e => ?_⟩
  obtain ⟨⟨⟨⟨⟨⟨⟨⟨⟨⟨⟨⟨-, a0⟩, b0⟩, c0⟩, a1⟩, b1⟩, c1⟩, a2⟩, b2⟩, c2⟩, a3⟩, b3⟩, c3⟩ := key ⟨e.val % 8, by omega⟩
  have he : e.val / 8 = 0 ∨ e.val / 8 = 1 ∨ e.val / 8 = 2 ∨ e.val / 8 = 3 := by omega
  have fin : ∀ (k : Fin 4) (E : Fin 128), E.val = e.val → e.val / 8 = k.val → 0 ≤ x2 (ix2 j E) → x2 (ix2 j E) < Ideal.ofBits FTy.f32 2139095040#32 →
      (x2 (ix2 j E) = 0 ∨ x3 (ix2 (n0 := 8) (n1 := 32768) ⟨k.val, by omega⟩ j) = 1) →
      0 ≤ x2 (ix2 (n0 := 32768) (n1 := 128) j ⟨e.val, by omega⟩)
    ∧ x2 (ix2 (n0 := 32768) (n1 := 128) j ⟨e.val, by omega⟩) ≠ ⊤
    ∧ (e.val / 8 ≠ g.val → x2 (ix2 (n0 := 32768) (n1 := 128) j ⟨e.val, by omega⟩) = 0) := by
    intro k E hE hk a b c
    have hE' : (⟨e.val, by omega⟩ : Fin 128) = E := Fin.ext hE.symm
    rw [hE']
    refine ⟨a, ne_top_of_lt b, fun hn => ?_⟩
    rcases c with c | c
    · exact c
    · exact absurd (hk.trans (other_group x3 j g hg k c)) hn
  rcases he with he | he | he | he
  · exact fin 0 _ (by show e.val % 8 = e.val; omega) he a0 b0 c0
  · exact fin 1 _ (by show 8 + e.val % 8 = e.val; omega) he a1 b1 c1
  · exact fin 2 _ (by show 16 + e.val % 8 = e.val; omega) he a2 b2 c2
  · exact fin 3 _ (by show 24 + e.val % 8 = e.val; omega) he a3 b3 c3

end Cert.Moe
-- ==== Proof.Tile.lean ====
module

public import proofs.«01_k».proof.Proof.RunKernelIdeal
public import proofs.«01_k».proof.Proof.SegKernelIdeal
public import proofs.«01_k».proof.Proof.Given
public import Idealize.ShloMosaic.Lib.Pipeline.ValueKit

@[expose] public section

set_option maxRecDepth 16384

noncomputable section

namespace Cert.KernelIdeal.Moe

open Idealize.ShloMosaic Idealize.ShloMosaic.TcCoe Idealize.ShloMosaic.Pointwise
open Cert.KernelIdeal Cert.KernelIdeal.Gen
open Cert.Moe (InGroup Routed)

variable (m : (ℓ : Loc nD τ sig) → Buf (Elt Ideal) ℓ)

/-- A token of a tile as a row of the whole arrays. -/
def tok (T : ℕ) (hT : T < 32) (r : Fin 1024) : Fin 32768 := ⟨1024 * T + r.val, by omega⟩
theorem tile_lt (t : Fin cfg0.N) : t.val / 8 < 32 := by
  have ht : t.val < 256 := Nat.lt_of_lt_of_eq t.isLt N_0
  omega

theorem idx0 : ∀ t : Fin cfg0.N, win0_0.index t = ![t.val / 8, 0] := by decide +kernel
/-- Window 0's block at a point. -/
theorem read0 (c : Dev nD) (t : Fin cfg0.N) (r j : Fin 1024) :
    iblk m c 0 t (ix2 (n0 := 1024) (n1 := 1024) r j) = m ((c : Thread nD τ).loc main_arg0) (ix2 (n0 := 32768) (n1 := 1024) (tok (t.val / 8) (tile_lt t) r) j) := by
  blk_ext [iblk, V, idx0 t, tok]
theorem idx1 : ∀ t : Fin cfg0.N, win0_1.index t = ![t.val / 8, 0] := by decide +kernel
/-- Window 1's block at a point. -/
theorem read1 (c : Dev nD) (t : Fin cfg0.N) (r j : Fin 1024) :
    iblk m c 1 t (ix2 (n0 := 1024) (n1 := 1024) r j) = m ((c : Thread nD τ).loc main_arg1) (ix2 (n0 := 32768) (n1 := 1024) (tok (t.val / 8) (tile_lt t) r) j) := by
  blk_ext [iblk, V, idx1 t, tok]
theorem idx2 : ∀ t : Fin cfg0.N, win0_2.index t = ![t.val / 8, 0] := by decide +kernel
/-- Window 2's block at a point. -/
theorem read2 (c : Dev nD) (t : Fin cfg0.N) (r : Fin 1024) (j : Fin 128) :
    iblk m c 2 t (ix2 (n0 := 1024) (n1 := 128) r j) = m ((c : Thread nD τ).loc main_arg2) (ix2 (n0 := 32768) (n1 := 128) (tok (t.val / 8) (tile_lt t) r) j) := by
  blk_ext [iblk, V, idx2 t, tok]
theorem idx3 : ∀ t : Fin cfg0.N, win0_3.index t = ![0, t.val / 8] := by decide +kernel
/-- Window 3's block at a point. -/
theorem read3 (c : Dev nD) (t : Fin cfg0.N) (g : Fin 8) (r : Fin 1024) :
    iblk m c 3 t (ix2 (n0 := 8) (n1 := 1024) g r) = m ((c : Thread nD τ).loc main_arg3) (ix2 (n0 := 8) (n1 := 32768) g (tok (t.val / 8) (tile_lt t) r)) := by
  blk_ext [iblk, V, idx3 t, tok]
theorem idx5 : ∀ t : Fin cfg0.N, win0_5.index t = ![t.val % 8, 0, 0] := by decide +kernel
/-- Window 5's block at a point. -/
theorem read5 (c : Dev nD) (t : Fin cfg0.N) (k : Fin 4) (i : Fin 1024) (j : Fin 256) :
    iblk m c 5 t (ix3 (n0 := 4) (n1 := 1024) (n2 := 256) k i j) = m ((c : Thread nD τ).loc main_arg4) (ix3 (n0 := 32) (n1 := 1024) (n2 := 256) ⟨4 * (t.val % 8) + k.val, by omega⟩ i j) := by
  blk_ext [iblk, V, idx5 t, tok]
theorem idx6 : ∀ t : Fin cfg0.N, win0_6.index t = ![t.val % 8, 0, 0] := by decide +kernel
/-- Window 6's block at a point. -/
theorem read6 (c : Dev nD) (t : Fin cfg0.N) (k : Fin 4) (i : Fin 1024) (j : Fin 256) :
    iblk m c 6 t (ix3 (n0 := 4) (n1 := 1024) (n2 := 256) k i j) = m ((c : Thread nD τ).loc main_arg5) (ix3 (n0 := 32) (n1 := 1024) (n2 := 256) ⟨4 * (t.val % 8) + k.val, by omega⟩ i j) := by
  blk_ext [iblk, V, idx6 t, tok]
theorem idx7 : ∀ t : Fin cfg0.N, win0_7.index t = ![t.val % 8, 0, 0] := by decide +kernel
/-- Window 7's block at a point. -/
theorem read7 (c : Dev nD) (t : Fin cfg0.N) (k : Fin 4) (i : Fin 256) (j : Fin 1024) :
    iblk m c 7 t (ix3 (n0 := 4) (n1 := 256) (n2 := 1024) k i j) = m ((c : Thread nD τ).loc main_arg6) (ix3 (n0 := 32) (n1 := 256) (n2 := 1024) ⟨4 * (t.val % 8) + k.val, by omega⟩ i j) := by
  blk_ext [iblk, V, idx7 t, tok]
theorem idx8 : ∀ t : Fin cfg0.N, win0_8.index t = ![0, 0] := by decide +kernel
/-- Window 8's block at a point. -/
theorem read8 (c : Dev nD) (t : Fin cfg0.N) (i : Fin 1) (j : Fin 1024) :
    iblk m c 8 t (ix2 (n0 := 1) (n1 := 1024) i j) = m ((c : Thread nD τ).loc main_arg7) (ix2 (n0 := 1) (n1 := 1024) i j) := by
  blk_ext [iblk, V, idx8 t, tok]

theorem idx4 : ∀ t : Fin cfg0.N, win0_4.index t = ![0, 0] := by decide +kernel

theorem word_lt (i j : Fin 1024) : IntOp.cmpi .slt (BitVec.ofNat 32 i.val) (BitVec.ofNat 32 j.val) = BitVec.ofBool (decide (i.val < j.val)) := by
  have hi : (BitVec.ofNat 32 i.val).toInt = i.val := by rw [BitVec.toInt_eq_toNat_cond, BitVec.toNat_ofNat, Nat.mod_eq_of_lt (by omega), if_pos (by omega)]
  have hj : (BitVec.ofNat 32 j.val).toInt = j.val := by rw [BitVec.toInt_eq_toNat_cond, BitVec.toNat_ofNat, Nat.mod_eq_of_lt (by omega), if_pos (by omega)]
  show BitVec.ofBool (BitVec.slt _ _) = _
  unfold BitVec.slt
  rw [hi, hj]
  congr 2
  exact propext Nat.cast_lt

theorem uitofp_one : FloatOps.uitofp (F := Ideal) .bf16 (BitVec.ofBool true) = (1 : EReal) := by
  show (((1 : ℕ) : ℝ) : EReal) = 1
  simp
theorem uitofp_zero : FloatOps.uitofp (F := Ideal) .bf16 (BitVec.ofBool false) = (0 : EReal) := by
  show (((0 : ℕ) : ℝ) : EReal) = 0
  simp

/-- The host's triangle, at an index. -/
theorem read4 (c : Dev nD) (t : Fin cfg0.N) (i j : Fin 1024) :
    iblk m c 4 t (ix2 (n0 := 1024) (n1 := 1024) i j) = (if i.val < j.val then (1 : EReal) else (0 : EReal)) := by
  have hi : ((cfg0.win 4).blk t).view.emb (ix2 (n0 := 1024) (n1 := 1024) i j) = ix2 (n0 := 1024) (n1 := 1024) i j := by
    blk_ext [idx4 t]
  unfold iblk
  entry_read
  show (uitofp _ _ : FVec Ideal S1024x1024 .bf16) (((cfg0.win 4).blk t).view.emb (ix2 (n0 := 1024) (n1 := 1024) i j)) = _
  rw [hi]
  pointwise []
  rw [word_lt]
  by_cases h : i.val < j.val
  · rw [if_pos h, decide_eq_true h]; exact uitofp_one
  · rw [if_neg h, decide_eq_false h]; exact uitofp_zero

variable {m}

/-- A tile whose tokens lie in the groups `G` has one-hot group rows. -/
theorem oneHot_tile (c : Dev nD) (t : Fin cfg0.N) (G : Fin 1024 → Fin 4)
    (h : ∀ r, InGroup (m ((c : Thread nD τ).loc main_arg3)) (tok (t.val / 8) (tile_lt t) r) (G r)) :
    OneHot Cert.Moe.idealCounting G (iblk m c 3 t) := by
  intro g r
  rw [read3]
  exact h r g

/-- Where every token has a group, the block words bound blocks of the rows. -/
theorem chk_of_groups (h : ∀ (c : Dev nD) (j : Fin 32768), ∃ g, InGroup (m ((c : Thread nD τ).loc main_arg3)) j g) : Chk m := by
  intro c t
  choose G hG using h c
  exact chk_seg Cert.Moe.idealCounting _ _
    (oneHot_tile c (tile0 t.val t.isLt) (fun r => G (tok _ (tile_lt _) r)) fun r => hG _) (grid0.coords t)

end Cert.KernelIdeal.Moe
-- ==== Proof.Expert.lean ====
module

public import proofs.«01_k».proof.Proof.Tile

@[expose] public section

set_option maxRecDepth 16384

noncomputable section

namespace Cert.Moe

open Idealize.ShloMosaic

/-- One hidden unit of a row. -/
def unit (h : Fin 1024 → EReal) (g : Fin 1024 → EReal) : EReal := ∑ x, h x * g x
/-- The gated hidden unit of a row. -/
def gated (h g u : Fin 1024 → EReal) : EReal := unit h g * Ideal.logistic (unit h g) * unit h u
/-- One expert's weighted output of a row, at one column. -/
def expert (h : Fin 1024 → EReal) (g u : Fin 1024 → Fin 256 → EReal) (d : Fin 256 → EReal) (w : EReal) : EReal :=
  ∑ f, gated h (fun x => g x f) (fun x => u x f) * w * d f

/-- An expert of no weight adds nothing. -/
theorem expert_zero (h : Fin 1024 → EReal) (g u : Fin 1024 → Fin 256 → EReal) (d : Fin 256 → EReal) : expert h g u d 0 = 0 := by
  unfold expert
  simp only [mul_zero, zero_mul, Finset.sum_const_zero]

/-- A row's four experts of step `s`. -/
def four (s : ℕ) (hs : s < 8) (h : Fin 1024 → EReal) (w : Fin 128 → EReal) (g u : Fin 4 → Fin 1024 → Fin 256 → EReal)
    (d : Fin 4 → Fin 256 → EReal) : EReal :=
  ∑ k : Fin 4, expert h (g k) (u k) (d k) (w ⟨4 * s + k.val, by omega⟩)

end Cert.Moe

namespace Cert.KernelIdeal.Moe

open Idealize.ShloMosaic Idealize.ShloMosaic.TcCoe Idealize.ShloMosaic.Pointwise
open Cert.KernelIdeal Cert.KernelIdeal.Gen
open Cert.Moe (unit gated expert four)

/-- The lane a step's expert reads is the one lane that the comparison keeps. -/
theorem lane (f : Fin 128 → EReal) (s k : ℕ) (hs : s < 8) (hk : k < 4) :
    (∑ x : Fin 128, Scalar.select (IntOp.cmpi .eq (BitVec.ofNat 32 x.val) (Scalar.addi (Scalar.muli (BitVec.ofNat 32 s) 4#32) (BitVec.ofNat 32 k))) (f x) 0)
      = f ⟨4 * s + k, by omega⟩ := by
  have e : Scalar.addi (Scalar.muli (BitVec.ofNat 32 s) 4#32) (BitVec.ofNat 32 k) = BitVec.ofNat 32 (4 * s + k) := by
    show BitVec.ofNat 32 s * 4#32 + BitVec.ofNat 32 k = _
    rw [← BitVec.ofNat_mul, ← BitVec.ofNat_add, Nat.mul_comm]
  rw [e]
  refine (Fintype.sum_eq_single ⟨4 * s + k, by omega⟩ fun x hx => ?_).trans ?_
  · have hne : ¬ BitVec.ofNat 32 x.val = BitVec.ofNat 32 (4 * s + k) := fun h => hx (Fin.ext (by
      have h := congrArg BitVec.toNat h
      rw [BitVec.toNat_ofNat, BitVec.toNat_ofNat, Nat.mod_eq_of_lt (by omega), Nat.mod_eq_of_lt (by omega)] at h
      exact h))
    show Scalar.select (BitVec.ofBool (decide _)) _ _ = _
    rw [decide_eq_false hne]
    rfl
  · show Scalar.select (BitVec.ofBool (decide _)) _ _ = _
    rw [decide_eq_true rfl]
    rfl

theorem blk_at (s : ℕ) (hs : s < 8) (hb : Vec Ideal S128x1024 .bf16) (cb : Vec Ideal S128x128 .f32)
    (g u : Fin 4 → Vec Ideal S1x1024x256 .bf16) (d : Fin 4 → Vec Ideal S1x256x1024 .bf16) (y : Vec Ideal S128x1024 .f32)
    (r : Fin 128) (c : Fin 1024) :
    blk (BitVec.ofNat 32 s) hb cb g u d y (ix2 (n0 := 128) (n1 := 1024) r c)
      = (y (ix2 (n0 := 128) (n1 := 1024) r c) : EReal) + four s hs (fun x => hb (ix2 (n0 := 128) (n1 := 1024) r x)) (fun l => cb (ix2 (n0 := 128) (n1 := 128) r l))
        (fun k x f => g k (ix3 (n0 := 1) (n1 := 1024) (n2 := 256) 0 x f)) (fun k x f => u k (ix3 (n0 := 1) (n1 := 1024) (n2 := 256) 0 x f))
        (fun k f => d k (ix3 (n0 := 1) (n1 := 256) (n2 := 1024) 0 f c)) := by
  unfold blk k0_pay3 k0_pay40 k0_pay36 k0_pay34 k0_pay35 k0_pay37 k0_pay38 k0_pay39
  pointwise []
  have l := fun k hk => lane (fun l => cb (ix2 (n0 := 128) (n1 := 128) r l)) s k hs hk
  have l0 := l 0 (by decide)
  have l1 := l 1 (by decide)
  have l2 := l 2 (by decide)
  have l3 := l 3 (by decide)
  rw [l0, l1, l2, l3]
  unfold four
  rw [Fin.sum_univ_four]
  rfl

theorem slabA_at (x : Vec Ideal S4x1024x256 .bf16) (k : Fin 4) (i : Fin 1024) (j : Fin 256) :
    slabA x k (ix3 (n0 := 1) (n1 := 1024) (n2 := 256) 0 i j) = x (ix3 (n0 := 4) (n1 := 1024) (n2 := 256) k i j) := by
  fin_cases k <;> refine congrArg x (funext fun a => Fin.ext ?_) <;> fin_cases a <;>
    first | rfl | (show 0 + 1 * i.val = i.val; omega) | (show 0 + 1 * j.val = j.val; omega)
theorem slabB_at (x : Vec Ideal S4x256x1024 .bf16) (k : Fin 4) (i : Fin 256) (j : Fin 1024) :
    slabB x k (ix3 (n0 := 1) (n1 := 256) (n2 := 1024) 0 i j) = x (ix3 (n0 := 4) (n1 := 256) (n2 := 1024) k i j) := by
  fin_cases k <;> refine congrArg x (funext fun a => Fin.ext ?_) <;> fin_cases a <;>
    first | rfl | (show 0 + 1 * i.val = i.val; omega) | (show 0 + 1 * j.val = j.val; omega)

theorem off3_eq : ∀ (a b : Fin 9) (k : Fin (k0_t1_loop (BitVec.ofNat 32 a.val) (BitVec.ofNat 32 b.val)).trips),
    k0_off3 (BitVec.ofNat 32 a.val) (BitVec.ofNat 32 b.val) k = ![(a.val + k.val) * 128, 0] := by decide +kernel
theorem off4_eq : ∀ (a b : Fin 9) (k : Fin (k0_t1_loop (BitVec.ofNat 32 a.val) (BitVec.ofNat 32 b.val)).trips),
    k0_off4 (BitVec.ofNat 32 a.val) (BitVec.ofNat 32 b.val) k = ![(a.val + k.val) * 128, 0] := by decide +kernel
theorem trips_eq : ∀ (a b : Fin 9), (k0_t1_loop (BitVec.ofNat 32 a.val) (BitVec.ofNat 32 b.val)).trips = b.val - a.val := by decide +kernel

/-- What step `s` adds to row `ρ` of the grouped rows at column `c`. -/
def add (s : ℕ) (hs : s < 8) (x5 x6 : Vec Ideal S4x1024x256 .bf16) (x7 : Vec Ideal S4x256x1024 .bf16)
    (H : Vec Ideal S1024x1024 .bf16) (C : Vec Ideal S1024x128 .f32) (ρ c : Fin 1024) : EReal :=
  four s hs (fun x => H (ix2 (n0 := 1024) (n1 := 1024) ρ x)) (fun l => C (ix2 (n0 := 1024) (n1 := 128) ρ l))
    (fun k x f => x5 (ix3 (n0 := 4) (n1 := 1024) (n2 := 256) k x f)) (fun k x f => x6 (ix3 (n0 := 4) (n1 := 1024) (n2 := 256) k x f))
    (fun k f => x7 (ix3 (n0 := 4) (n1 := 256) (n2 := 1024) k f c))

/-- A window of whole rows, at an index. -/
theorem window_rows {α : Type} {n q : ℕ} (x : (⟨2, ![1024, n]⟩ : Shape).Idx → α) (inb) (i : Fin 128) (j : Fin n) (ρ : Fin 1024) (hρ : ρ.val = q + i.val) :
    VecWindow.window (s := ⟨2, ![1024, n]⟩) x ![q, 0] ![128, n] inb (ix2 (n0 := 128) (n1 := n) i j) = x (ix2 (n0 := 1024) (n1 := n) ρ j) := by
  refine congrArg x (funext fun a => Fin.ext ?_)
  fin_cases a
  · show q + 1 * i.val = ρ.val
    omega
  · show 0 + 1 * j.val = j.val
    omega

theorem trip_at (s : ℕ) (hs : s < 8) (q : ℕ) (off3 off4 : Fin 2 → ℕ) (e3 : off3 = ![q * 128, 0]) (e4 : off4 = ![q * 128, 0])
    (inb3 : ∀ a, off3 a + S128x1024.size a ≤ S1024x1024.size a) (inb4 : ∀ a, off4 a + S128x128.size a ≤ S1024x128.size a)
    (x5 x6 : Vec Ideal S4x1024x256 .bf16) (x7 : Vec Ideal S4x256x1024 .bf16)
    (H : Vec Ideal S1024x1024 .bf16) (C : Vec Ideal S1024x128 .f32) (Y : Vec Ideal S1024x1024 .f32) (ρ c : Fin 1024) :
    VecWindow.put Y off3 S128x1024.size
      (blk (BitVec.ofNat 32 s) (VecWindow.window H off3 S128x1024.size inb3) (VecWindow.window C off4 S128x128.size inb4)
        (slabA x5) (slabA x6) (slabB x7) (VecWindow.window Y off3 S128x1024.size inb3)) (ix2 (n0 := 1024) (n1 := 1024) ρ c)
      = if ρ.val / 128 = q then (Y (ix2 (n0 := 1024) (n1 := 1024) ρ c) : EReal) + add s hs x5 x6 x7 H C ρ c
        else Y (ix2 (n0 := 1024) (n1 := 1024) ρ c) := by
  subst e3 e4
  by_cases hq : ρ.val / 128 = q
  · have h : ∀ a, (![q * 128, 0] : Fin 2 → ℕ) a ≤ ((ix2 (n0 := 1024) (n1 := 1024) ρ c) a).val
        ∧ ((ix2 (n0 := 1024) (n1 := 1024) ρ c) a).val < (![q * 128, 0] : Fin 2 → ℕ) a + S128x1024.size a := by
      intro a
      fin_cases a
      · show q * 128 ≤ ρ.val ∧ ρ.val < q * 128 + 128
        omega
      · show 0 ≤ c.val ∧ c.val < 0 + 1024
        omega
    have hi : Rect.unitLocal (s := S1024x1024) (off := ![q * 128, 0]) (size := S128x1024.size) (ix2 (n0 := 1024) (n1 := 1024) ρ c) h
        = ix2 (n0 := 128) (n1 := 1024) ⟨ρ.val - q * 128, by omega⟩ c := by
      funext a
      refine Fin.ext ?_
      fin_cases a <;> rfl
    have hρ : ρ.val = q * 128 + (ρ.val - q * 128) := by omega
    rw [if_pos hq]
    refine (dif_pos h).trans ?_
    rw [hi]
    refine (blk_at s hs _ _ _ _ _ _ _ _).trans ?_
    refine congrArg₂ (· + ·) (window_rows Y _ _ _ ρ hρ) ?_
    unfold add
    simp only [slabA_at, slabB_at]
    congr 1
    · exact funext fun x => window_rows H _ _ _ ρ hρ
    · exact funext fun x => window_rows C _ _ _ ρ hρ
  · rw [if_neg hq]
    refine dif_neg fun h => hq ?_
    have h0 : q * 128 ≤ ρ.val ∧ ρ.val < q * 128 + 128 := h 0
    omega

theorem loop_at (s : ℕ) (hs : s < 8) (a b : Fin 9) (hw : k0_chk1 (BitVec.ofNat 32 a.val) (BitVec.ofNat 32 b.val))
    (x5 x6 : Vec Ideal S4x1024x256 .bf16) (x7 : Vec Ideal S4x256x1024 .bf16)
    (H : Vec Ideal S1024x1024 .bf16) (C : Vec Ideal S1024x128 .f32) (Y : Vec Ideal S1024x1024 .f32) (ρ c : Fin 1024) :
    ∀ n : ℕ, n ≤ b.val - a.val →
    loopV (BitVec.ofNat 32 s) (BitVec.ofNat 32 a.val) (BitVec.ofNat 32 b.val) hw x5 x6 x7 H C Y n (ix2 (n0 := 1024) (n1 := 1024) ρ c)
      = if a.val ≤ ρ.val / 128 ∧ ρ.val / 128 < a.val + n then (Y (ix2 (n0 := 1024) (n1 := 1024) ρ c) : EReal) + add s hs x5 x6 x7 H C ρ c
        else Y (ix2 (n0 := 1024) (n1 := 1024) ρ c)
  | 0, _ => (if_neg (by omega)).symm
  | n + 1, h => by
    have ht : n < (k0_t1_loop (BitVec.ofNat 32 a.val) (BitVec.ofNat 32 b.val)).trips := by rw [trips_eq]; omega
    have ih := loop_at s hs a b hw x5 x6 x7 H C Y ρ c n (by omega)
    unfold loopV
    rw [dif_pos ht]
    unfold tripV
    refine (trip_at s hs (a.val + n) _ _ (off3_eq a b ⟨n, ht⟩) (off4_eq a b ⟨n, ht⟩) _ _ x5 x6 x7 H C _ ρ c).trans ?_
    rw [ih]
    by_cases hq : ρ.val / 128 = a.val + n
    · rw [if_pos hq, if_neg (by omega), if_pos (by omega)]
    · rw [if_neg hq]
      exact if_congr (by omega) rfl rfl

end Cert.KernelIdeal.Moe
-- ==== Proof.Place.lean ====
module

public import proofs.«01_k».proof.Proof.Tile

@[expose] public section

set_option maxRecDepth 16384

noncomputable section

namespace Cert.KernelIdeal.Moe

open Idealize.ShloMosaic Idealize.ShloMosaic.TcCoe Idealize.ShloMosaic.Pointwise
open Cert.KernelIdeal Cert.KernelIdeal.Gen
open Cert.Moe (cnt before start pos idealCounting)

/-- One group of four carries the position. -/
theorem pos_sum (g : Fin 4) (s b : Fin 4 → ℕ) (h0 : s 0 = 0) :
    (((if g = 0 then 1 else 0 : ℕ) : ℝ) : EReal) * ((b 0 : ℝ) : EReal) + (((if g = 1 then 1 else 0 : ℕ) : ℝ) : EReal) * (((s 1 : ℝ) : EReal) + ((b 1 : ℝ) : EReal))
      + (((if g = 2 then 1 else 0 : ℕ) : ℝ) : EReal) * (((s 2 : ℝ) : EReal) + ((b 2 : ℝ) : EReal))
      + (((if g = 3 then 1 else 0 : ℕ) : ℝ) : EReal) * (((s 3 : ℝ) : EReal) + ((b 3 : ℝ) : EReal)) = ((s g + b g : ℕ) : ℝ) := by
  simp only [← EReal.coe_add, ← EReal.coe_mul]
  congr 1
  fin_cases g <;> simp [h0]

/-- A number below two thousand as a word, read back as a float. -/
theorem sitofp_word (a b : ℕ) (h : a + b < 2048) : FloatOps.sitofp (F := Ideal) .f32 (IntOp.addi (BitVec.ofNat 32 a) (BitVec.ofNat 32 b)) = (((a + b : ℕ) : ℝ) : EReal) := by
  show (((BitVec.ofNat 32 a + BitVec.ofNat 32 b).toInt : ℝ) : EReal) = _
  rw [← BitVec.ofNat_add, BitVec.toInt_eq_toNat_cond, BitVec.toNat_ofNat, Nat.mod_eq_of_lt (by omega), if_pos (by omega), Int.cast_natCast]

/-- Two numbers agree as floats where they agree. -/
theorem same_place {a b : ℕ} {x : EReal} (hx : x = ((a : ℝ) : EReal)) :
    (if x = ((b : ℝ) : EReal) then (1 : EReal) else 0) = (if a = b then (1 : EReal) else 0) := by
  subst hx
  simp [EReal.coe_eq_coe_iff]

section

variable (G : Fin 1024 → Fin 4) (x3 : Vec Ideal S8x1024 .f32) (x4 : Vec Ideal S1024x1024 .bf16)
variable (hx : OneHot idealCounting G x3)
variable (h4 : ∀ i j : Fin 1024, x4 (ix2 (n0 := 1024) (n1 := 1024) i j) = (if i.val < j.val then (1 : EReal) else (0 : EReal)))

include hx h4

/-- A row of the group vectors times the triangle counts the earlier tokens of the group. -/
theorem row_before (g : Fin 4) (t : Fin 1024) :
    k0_pay7 x3 x4 (ix2 (n0 := 8) (n1 := 1024) ⟨g.val, by omega⟩ t) = ((before G g t : ℝ) : EReal) := by
  unfold k0_pay7
  pointwise []
  rw [before, ← Cert.Moe.coe_sum_nat]
  refine Finset.sum_congr rfl fun s _ => ?_
  rw [h4]
  refine (congrArg (· * _) (hx g s)).trans ?_
  show ((_ : ℝ) : EReal) * _ = _
  split <;> split <;> simp

theorem posU_at (t : Fin 1024) : posU x3 x4 (ix2 (n0 := 1) (n1 := 1024) 0 t) = ((pos G t : ℝ) : EReal) := by
  unfold posU k0_pay25 k0_pay21 k0_pay11
  rw [at3 idealCounting G x3 hx, at2 idealCounting G x3 hx, at1 idealCounting G x3 hx]
  pointwise []
  have e (g : Fin 4) (g' : Fin 8) (h : g'.val = g.val) : x3 (ix2 (n0 := 8) (n1 := 1024) g' t) = (((if G t = g then 1 else 0 : ℕ) : ℝ) : EReal) :=
    (congrArg (fun i => x3 (ix2 (n0 := 8) (n1 := 1024) i t)) (Fin.ext h)).trans (hx g t)
  have b (g : Fin 4) (g' : Fin 8) (h : g'.val = g.val) : k0_pay7 x3 x4 (ix2 (n0 := 8) (n1 := 1024) g' t) = ((before G g t : ℝ) : EReal) :=
    (congrArg (fun i => k0_pay7 x3 x4 (ix2 (n0 := 8) (n1 := 1024) i t)) (Fin.ext h)).trans (row_before G x3 x4 hx h4 g t)
  rw [e 0 0 rfl, e 1 1 rfl, e 2 2 rfl, e 3 3 rfl, b 0 0 rfl, b 1 1 rfl, b 2 2 rfl, b 3 3 rfl]
  exact pos_sum (G t) (start G) (fun g => before G g t) rfl

theorem posV_at (t : Fin 1024) : posV x3 x4 (ix2 (n0 := 1) (n1 := 1024) 0 t) = ((pos G t : ℝ) : EReal) := by
  refine Eq.trans ?_ (posU_at G x3 x4 hx h4 t)
  unfold posV k0_pay26
  pointwise []
  rfl

theorem permV_at (r t : Fin 1024) : permV x3 x4 (ix2 (n0 := 1024) (n1 := 1024) r t) = (if pos G t = r.val then (1 : EReal) else (0 : EReal)) := by
  have hp := posU_at G x3 x4 hx h4 t
  have hp' := hp
  unfold posU at hp
  unfold permV bands k0_pay27 k0_pay28 k0_pay30 k0_pay29 k0_pay31
  pointwise []
  have hr := r.isLt
  have hm : r.val % 256 < 256 := Nat.mod_lt _ (by decide)
  split
  · refine (congrArg (fun z : EReal => if _ = z then (1 : EReal) else 0) (sitofp_word (r.val % 256) 0 (by omega))).trans ?_
    rw [same_place hp, show r.val % 256 + 0 = r.val by omega]
  split
  · refine (congrArg (fun z : EReal => if _ = z then (1 : EReal) else 0) (sitofp_word (r.val % 256) 256 (by omega))).trans ?_
    rw [same_place hp, show r.val % 256 + 256 = r.val by omega]
  split
  · refine (congrArg (fun z : EReal => if _ = z then (1 : EReal) else 0) (sitofp_word (r.val % 256) 512 (by omega))).trans ?_
    rw [same_place hp, show r.val % 256 + 512 = r.val by omega]
  · refine (congrArg (fun z : EReal => if _ = z then (1 : EReal) else 0) (sitofp_word (r.val % 256) 768 (by omega))).trans ?_
    rw [same_place hp', show r.val % 256 + 768 = r.val by omega]

/-- A position of a token, as a row number. -/
def row (t : Fin 1024) : Fin 1024 := ⟨pos G t, Cert.Moe.pos_lt G t⟩

/-- A row of the one-hot matrix picks its token. -/
theorem perm_pick (t : Fin 1024) (f : Fin 1024 → EReal) : (∑ x, permV x3 x4 (ix2 (n0 := 1024) (n1 := 1024) (row G t) x) * f x) = f t := by
  refine (Fintype.sum_eq_single t fun u hu => ?_).trans ?_
  · rw [permV_at G x3 x4 hx h4]; exact (congrArg (· * f u) (if_neg fun h => hu (Cert.Moe.pos_inj G h))).trans (zero_mul _)
  · rw [permV_at G x3 x4 hx h4]; exact (congrArg (· * f t) (if_pos rfl)).trans (one_mul _)

theorem valV_at (x1 : Vec Ideal S1024x1024 .bf16) (t j : Fin 1024) :
    valV x1 x3 x4 (ix2 (n0 := 1024) (n1 := 1024) (row G t) j) = x1 (ix2 (n0 := 1024) (n1 := 1024) t j) := by
  unfold valV k0_pay32
  pointwise []
  exact perm_pick G x3 x4 hx h4 t fun x => x1 (ix2 (n0 := 1024) (n1 := 1024) x j)

theorem wtV_at (x2 : Vec Ideal S1024x128 .f32) (t : Fin 1024) (j : Fin 128) (h1 : x2 (ix2 (n0 := 1024) (n1 := 128) t j) ≠ (⊤ : EReal))
    (h2 : x2 (ix2 (n0 := 1024) (n1 := 128) t j) ≠ (⊥ : EReal)) :
    wtV x2 x3 x4 (ix2 (n0 := 1024) (n1 := 128) (row G t) j) = x2 (ix2 (n0 := 1024) (n1 := 128) t j) := by
  unfold wtV k0_pay1 k0_pay33
  pointwise []
  refine (congrArg₂ (· + ·) (perm_pick G x3 x4 hx h4 t fun x => x2 (ix2 (n0 := 1024) (n1 := 128) x j))
    (perm_pick G x3 x4 hx h4 t fun x => x2 (ix2 (n0 := 1024) (n1 := 128) x j) - x2 (ix2 (n0 := 1024) (n1 := 128) x j))).trans ?_
  rw [EReal.sub_self h1 h2, add_zero]
end
end Cert.KernelIdeal.Moe
-- ==== Proof.Rows.lean ====
module

public import proofs.«01_k».proof.Proof.Expert
public import proofs.«01_k».proof.Proof.Place

@[expose] public section

set_option maxRecDepth 16384

noncomputable section

namespace Cert.KernelIdeal.Moe

open Idealize.ShloMosaic Idealize.ShloMosaic.TcCoe Idealize.ShloMosaic.Pointwise
open Cert.KernelIdeal Cert.KernelIdeal.Gen
open Cert.Moe (InGroup Routed idealCounting four expert start cnt)

/-- A point's trips over blocks named by two numbers, at a row. -/
theorem range_at (s : ℕ) (hs : s < 8) (a b : ℕ) (ha : a < 9) (hb : b < 9) (w l h : BitVec 32) (ew : w = BitVec.ofNat 32 s)
    (el : l = BitVec.ofNat 32 a) (eh : h = BitVec.ofNat 32 b) (hw : k0_chk1 l h)
    (x5 x6 : Vec Ideal S4x1024x256 .bf16) (x7 : Vec Ideal S4x256x1024 .bf16)
    (H : Vec Ideal S1024x1024 .bf16) (C : Vec Ideal S1024x128 .f32) (Y : Vec Ideal S1024x1024 .f32) (ρ c : Fin 1024) :
    loopV w l h hw x5 x6 x7 H C Y (k0_t1_loop l h).trips (ix2 (n0 := 1024) (n1 := 1024) ρ c)
      = if a ≤ ρ.val / 128 ∧ ρ.val / 128 < b then (Y (ix2 (n0 := 1024) (n1 := 1024) ρ c) : EReal) + add s hs x5 x6 x7 H C ρ c
        else Y (ix2 (n0 := 1024) (n1 := 1024) ρ c) := by
  subst ew el eh
  have ht := trips_eq ⟨a, ha⟩ ⟨b, hb⟩
  refine (loop_at s hs ⟨a, ha⟩ ⟨b, hb⟩ hw x5 x6 x7 H C Y ρ c _ (le_of_eq ht)).trans ?_
  refine if_congr ?_ rfl rfl
  rw [ht]
  dsimp only
  omega

variable (m : (ℓ : Loc nD τ sig) → Buf (Elt Ideal) ℓ)

/-- What step `s` adds to token `j` at column `col`. -/
def contrib (c : Dev nD) (j : Fin 32768) (col : Fin 1024) (s : ℕ) : EReal :=
  if hs : s < 8 then
    four s hs (fun x => m ((c : Thread nD τ).loc main_arg1) (ix2 (n0 := 32768) (n1 := 1024) j x))
      (fun l => m ((c : Thread nD τ).loc main_arg2) (ix2 (n0 := 32768) (n1 := 128) j l))
      (fun k x f => m ((c : Thread nD τ).loc main_arg4) (ix3 (n0 := 32) (n1 := 1024) (n2 := 256) ⟨4 * s + k.val, by omega⟩ x f))
      (fun k x f => m ((c : Thread nD τ).loc main_arg5) (ix3 (n0 := 32) (n1 := 1024) (n2 := 256) ⟨4 * s + k.val, by omega⟩ x f))
      (fun k f => m ((c : Thread nD τ).loc main_arg6) (ix3 (n0 := 32) (n1 := 256) (n2 := 1024) ⟨4 * s + k.val, by omega⟩ f col))
  else 0

variable (hchk : Chk m) (c : Dev nD) (Gd : Fin 32768 → Fin 4)
variable (hG : ∀ j, InGroup (m ((c : Thread nD τ).loc main_arg3)) j (Gd j))
variable (hR : ∀ j, Routed (m ((c : Thread nD τ).loc main_arg2)) j (Gd j))

/-- The groups of a tile's tokens. -/
def grpT (t : Fin cfg0.N) (r : Fin 1024) : Fin 4 := Gd (tok (t.val / 8) (tile_lt t) r)

theorem tok_tile0 (t : Fin cfg0.N) (r : Fin 1024) :
    tok ((tile0 t.val t.isLt).val / 8) (tile_lt _) r = tok (t.val / 8) (tile_lt t) r := by
  refine Fin.ext ?_
  show 1024 * (t.val / 8 * 8 / 8) + r.val = 1024 * (t.val / 8) + r.val
  omega

include hG in
theorem oneHot_at (t : Fin cfg0.N) : OneHot idealCounting (grpT Gd t) (iblk m c 3 (tile0 t.val t.isLt)) :=
  oneHot_tile c _ _ fun r => by rw [tok_tile0]; exact hG _

include hR in
/-- A step of another group adds nothing. -/
theorem contrib_other (j : Fin 32768) (col : Fin 1024) (s : ℕ) (h : ¬ s / 2 = (Gd j).val) : contrib m c j col s = 0 := by
  unfold contrib
  split
  · rename_i hs
    unfold four
    refine Finset.sum_eq_zero fun k _ => ?_
    have h0 := ((hR j) ⟨4 * s + k.val, by omega⟩).2.2 (by dsimp only; omega)
    refine (congrArg (expert _ _ _ _) h0).trans (Cert.Moe.expert_zero _ _ _ _)
  · rfl

include hG hR in
theorem add_at (t : Fin cfg0.N) (u col : Fin 1024) :
    add (t.val % 8) (Nat.mod_lt _ (by decide)) (iblk m c 5 t) (iblk m c 6 t) (iblk m c 7 t) (valT m c t.val t.isLt) (wtT m c t.val t.isLt)
      (row (grpT Gd t) u) col = contrib m c (tok (t.val / 8) (tile_lt t) u) col (t.val % 8) := by
  have hx := oneHot_at m c Gd hG t
  have h4 := read4 m c (tile0 t.val t.isLt)
  unfold add contrib
  rw [dif_pos (Nat.mod_lt _ (by decide))]
  simp only [read5, read6, read7]
  unfold four
  refine Finset.sum_congr rfl fun k _ => ?_
  congr 1
  · funext x
    refine (valV_at (grpT Gd t) _ _ hx h4 _ u x).trans ?_
    rw [read1, tok_tile0]
  · have e : iblk m c 2 (tile0 t.val t.isLt) (ix2 (n0 := 1024) (n1 := 128) u ⟨4 * (t.val % 8) + k.val, by omega⟩)
        = m ((c : Thread nD τ).loc main_arg2) (ix2 (n0 := 32768) (n1 := 128) (tok (t.val / 8) (tile_lt t) u) ⟨4 * (t.val % 8) + k.val, by omega⟩) := by
      rw [read2, tok_tile0]
    have hr := (hR (tok (t.val / 8) (tile_lt t) u)) ⟨4 * (t.val % 8) + k.val, by omega⟩
    refine (wtV_at (grpT Gd t) _ _ hx h4 _ u _ ?_ ?_).trans e
    · rw [e]; exact hr.2.1
    · rw [e]; exact fun h => absurd (h ▸ hr.1) (by simp)

include hG hR in
theorem step_at (t : Fin cfg0.N) (Y : Vec Ideal S1024x1024 .f32) (u col : Fin 1024) :
    rowsStep m hchk c t Y (ix2 (n0 := 1024) (n1 := 1024) (row (grpT Gd t) u) col)
      = (Y (ix2 (n0 := 1024) (n1 := 1024) (row (grpT Gd t) u) col) : EReal) + contrib m c (tok (t.val / 8) (tile_lt t) u) col (t.val % 8) := by
  have hx := oneHot_at m c Gd hG t
  have hs := Cert.Moe.start_add_cnt_le (grpT Gd t) (grp (grid0.coords t))
  unfold rowsStep rowsV
  refine (range_at (t.val % 8) (Nat.mod_lt _ (by decide)) _ _ (by omega) (by omega) _ _ _ (congrArg (BitVec.ofNat 32) (coord1 t))
    (lo_seg idealCounting _ _ hx _) (hi_seg idealCounting _ _ hx _) _ _ _ _ _ _ _ _ _).trans ?_
  split
  · rw [add_at m c Gd hG hR]
  · rename_i hn
    rw [contrib_other m c Gd hR, add_zero]
    intro hg
    have e : grp (grid0.coords t) = grpT Gd t u := Fin.ext (by
      show (grid0.coords t 1).val / 2 = _
      rw [coord1]; exact hg)
    rw [e] at hn
    exact hn (Cert.Moe.pos_block (grpT Gd t) u)

include hG hR in
/-- After a point the row of a token holds what the steps so far have added. -/
theorem rows_at (u col : Fin 1024) : ∀ (n : ℕ) (h : n < cfg0.N),
    rowsAt m hchk c n h (ix2 (n0 := 1024) (n1 := 1024) (row (grpT Gd ⟨n, h⟩) u) col)
      = (∑ s ∈ Finset.range (n % 8 + 1), contrib m c (tok (n / 8) (tile_lt ⟨n, h⟩) u) col s : EReal)
  | n, h => by
    by_cases h0 : n % 8 = 0
    · rw [rowsAt_first m hchk c ⟨n, h⟩ h0]
      refine (step_at m hchk c Gd hG hR ⟨n, h⟩ _ u col).trans ?_
      dsimp only
      rw [h0, Finset.sum_range_one]
      have hz : (k0_pay2 (F := Ideal)) (ix2 (n0 := 1024) (n1 := 1024) (row (grpT Gd ⟨n, h⟩) u) col) = (0 : EReal) := by
        unfold k0_pay2
        pointwise []
      rw [hz, zero_add]
    · have h' : n - 1 < cfg0.N := by omega
      rw [rowsAt_next m hchk c ⟨n, h⟩ h0 h']
      refine (step_at m hchk c Gd hG hR ⟨n, h⟩ _ u col).trans ?_
      have ih := rows_at u col (n - 1) h'
      have hd : (n - 1) / 8 = n / 8 := by omega
      have hm : (n - 1) % 8 + 1 = n % 8 := by omega
      have et : ∀ r, tok ((n - 1) / 8) (tile_lt ⟨n - 1, h'⟩) r = tok (n / 8) (tile_lt ⟨n, h⟩) r := fun r => Fin.ext (by
        show 1024 * ((n - 1) / 8) + r.val = 1024 * (n / 8) + r.val
        rw [hd])
      have eg : grpT Gd ⟨n - 1, h'⟩ = grpT Gd ⟨n, h⟩ := funext fun r => congrArg Gd (et r)
      rw [eg] at ih
      rw [ih, hm, et, Finset.sum_range_succ]
termination_by n => n
decreasing_by omega

end Cert.KernelIdeal.Moe
-- ==== Proof.Out.lean ====
module

public import proofs.«01_k».proof.Proof.Rows

@[expose] public section

set_option maxRecDepth 16384

noncomputable section

namespace Cert.Moe

open Idealize.ShloMosaic

/-- A row divided by its root mean square and scaled, at one column. -/
def normed (x : Fin 1024 → EReal) (gf : EReal) (col : Fin 1024) : EReal :=
  x col * Ideal.rsqrt (Ideal.div (∑ k, x k * x k) (Ideal.ofBits FTy.f32 1149239296#32) + Ideal.ofBits FTy.f32 897988541#32) * gf

/-- The layer's result at a token and a column: the residual with every expert's weighted output, normalised and scaled. -/
def layer (x1 h2 : (⟨2, ![32768, 1024]⟩ : Shape).Idx → EReal) (comb : (⟨2, ![32768, 128]⟩ : Shape).Idx → EReal)
    (wg wu : (⟨3, ![32, 1024, 256]⟩ : Shape).Idx → EReal) (wd : (⟨3, ![32, 256, 1024]⟩ : Shape).Idx → EReal)
    (gf : (⟨2, ![1, 1024]⟩ : Shape).Idx → EReal) (j : Fin 32768) (col : Fin 1024) : EReal :=
  normed (fun y => x1 (ix2 (n0 := 32768) (n1 := 1024) j y) + ∑ e : Fin 32, expert (fun x => h2 (ix2 (n0 := 32768) (n1 := 1024) j x))
      (fun x f => wg (ix3 (n0 := 32) (n1 := 1024) (n2 := 256) e x f)) (fun x f => wu (ix3 (n0 := 32) (n1 := 1024) (n2 := 256) e x f))
      (fun f => wd (ix3 (n0 := 32) (n1 := 256) (n2 := 1024) e f y)) (comb (ix2 (n0 := 32768) (n1 := 128) j ⟨e.val, by omega⟩)))
    (gf (ix2 (n0 := 1) (n1 := 1024) 0 col)) col

end Cert.Moe

namespace Cert.KernelIdeal.Moe

open Idealize.ShloMosaic Idealize.ShloMosaic.TcCoe Idealize.ShloMosaic.Pointwise
open Cert.KernelIdeal Cert.KernelIdeal.Gen
open Cert.Moe (normed)

/-- A row of the one-hot matrix back from the positions picks the token's row. -/
theorem back_pick (p : Fin 1024) (v : EReal) (hv : v = ((p.val : ℝ) : EReal)) (f : Fin 1024 → EReal) :
    (∑ x : Fin 1024, (if v = FloatOps.sitofp (F := Ideal) FTy.f32 (BitVec.ofNat 32 x.val) then (1 : EReal) else 0) * f x) = f p := by
  have e (x : Fin 1024) : (if v = FloatOps.sitofp (F := Ideal) FTy.f32 (BitVec.ofNat 32 x.val) then (1 : EReal) else 0) = if p.val = x.val then (1 : EReal) else 0 := by
    have h := sitofp_word x.val 0 (by omega)
    have h' : IntOp.addi (BitVec.ofNat 32 x.val) (BitVec.ofNat 32 0) = BitVec.ofNat 32 x.val := by
      show BitVec.ofNat 32 x.val + 0#32 = _
      rw [BitVec.add_zero]
    rw [h', Nat.add_zero] at h
    refine (congrArg (fun z : EReal => if v = z then (1 : EReal) else 0) h).trans ?_
    exact same_place hv
  simp only [e]
  refine (Fintype.sum_eq_single p fun u hu => ?_).trans ?_
  · rw [if_neg (fun h => hu (Fin.ext h.symm)), zero_mul]
  · rw [if_pos rfl, one_mul]

section

variable (Y : Vec Ideal S1024x1024 .f32) (P : Vec Ideal S1x1024 .f32) (X : Vec Ideal S256x1024 .f32) (x8 : Vec Ideal S1x1024 .f32)
variable (t p : Fin 1024) (i : Fin 256) (col : Fin 1024) (hP : P (ix2 (n0 := 1) (n1 := 1024) 0 t) = ((p.val : ℝ) : EReal))

include hP

theorem part0 (ht : t = ⟨i.val, by omega⟩) :
    k0_pay50 Y P X x8 (ix2 (n0 := 256) (n1 := 1024) i col)
      = normed (fun x => (X (ix2 (n0 := 256) (n1 := 1024) i x) : EReal) + Y (ix2 (n0 := 1024) (n1 := 1024) p x)) (x8 (ix2 (n0 := 1) (n1 := 1024) 0 col)) col := by
  subst ht
  unfold k0_pay50 k0_pay49 k0_pay48
  pointwise []
  simp only [back_pick p _ hP]
  rfl
theorem part1 (ht : t = ⟨256 + i.val, by omega⟩) :
    k0_pay52 (k0_pay48 Y) (k0_pay51 P) X x8 (ix2 (n0 := 256) (n1 := 1024) i col)
      = normed (fun x => (X (ix2 (n0 := 256) (n1 := 1024) i x) : EReal) + Y (ix2 (n0 := 1024) (n1 := 1024) p x)) (x8 (ix2 (n0 := 1) (n1 := 1024) 0 col)) col := by
  subst ht
  unfold k0_pay52 k0_pay51 k0_pay49 k0_pay48
  pointwise []
  simp only [back_pick p _ hP]
  rfl
theorem part2 (ht : t = ⟨512 + i.val, by omega⟩) :
    k0_pay5 (k0_pay53 (k0_pay48 Y) (k0_pay49 P) X) x8 (k0_pay54 (k0_pay48 Y) (k0_pay49 P) X) (ix2 (n0 := 256) (n1 := 1024) i col)
      = normed (fun x => (X (ix2 (n0 := 256) (n1 := 1024) i x) : EReal) + Y (ix2 (n0 := 1024) (n1 := 1024) p x)) (x8 (ix2 (n0 := 1) (n1 := 1024) 0 col)) col := by
  subst ht
  unfold k0_pay5 k0_pay53 k0_pay54 k0_pay53 k0_pay49 k0_pay48
  pointwise []
  simp only [back_pick p _ hP]
  rfl
theorem part3 (ht : t = ⟨768 + i.val, by omega⟩) :
    k0_pay6 (k0_pay48 Y) (k0_pay49 P) X x8 (ix2 (n0 := 256) (n1 := 1024) i col)
      = normed (fun x => (X (ix2 (n0 := 256) (n1 := 1024) i x) : EReal) + Y (ix2 (n0 := 1024) (n1 := 1024) p x)) (x8 (ix2 (n0 := 1) (n1 := 1024) 0 col)) col := by
  subst ht
  unfold k0_pay6 k0_pay49 k0_pay48
  pointwise []
  simp only [back_pick p _ hP]
  rfl

end

/-- A window of 256 whole rows, at an index. -/
theorem window_part {α : Type} {q : ℕ} (x : S1024x1024.Idx → α) (inb) (i : Fin 256) (j : Fin 1024) (ρ : Fin 1024) (hρ : ρ.val = q + i.val) :
    VecWindow.window (s := S1024x1024) x ![q, 0] S256x1024.size inb (ix2 (n0 := 256) (n1 := 1024) i j) = x (ix2 (n0 := 1024) (n1 := 1024) ρ j) := by
  refine congrArg x (funext fun a => Fin.ext ?_)
  fin_cases a
  · show q + 1 * i.val = ρ.val
    omega
  · show 0 + 1 * j.val = j.val
    omega

theorem bands_at {α : Type} (p0 p1 p2 p3 : S256x1024.Idx → α) (t col : Fin 1024) :
    bands p0 p1 p2 p3 (ix2 (n0 := 1024) (n1 := 1024) t col)
      = if t.val < 256 then p0 (ix2 (n0 := 256) (n1 := 1024) ⟨t.val % 256, Nat.mod_lt _ (by decide)⟩ col)
        else if t.val < 512 then p1 (ix2 (n0 := 256) (n1 := 1024) ⟨t.val % 256, Nat.mod_lt _ (by decide)⟩ col)
        else if t.val < 768 then p2 (ix2 (n0 := 256) (n1 := 1024) ⟨t.val % 256, Nat.mod_lt _ (by decide)⟩ col)
        else p3 (ix2 (n0 := 256) (n1 := 1024) ⟨t.val % 256, Nat.mod_lt _ (by decide)⟩ col) := by
  have e : (fun | 0 => ⟨t.val % 256, Nat.mod_lt _ (by decide)⟩ | 1 => col : S256x1024.Idx) = ix2 (n0 := 256) (n1 := 1024) ⟨t.val % 256, Nat.mod_lt _ (by decide)⟩ col := by
    funext a
    fin_cases a <;> rfl
  rw [← e]
  rfl

theorem outV_at (x0 : Vec Ideal S1024x1024 .f32) (x8 : Vec Ideal S1x1024 .f32) (P : Vec Ideal S1x1024 .f32) (Y : Vec Ideal S1024x1024 .f32)
    (t p col : Fin 1024) (hP : P (ix2 (n0 := 1) (n1 := 1024) 0 t) = ((p.val : ℝ) : EReal)) :
    outV x0 x8 P Y (ix2 (n0 := 1024) (n1 := 1024) t col)
      = normed (fun x => (x0 (ix2 (n0 := 1024) (n1 := 1024) t x) : EReal) + Y (ix2 (n0 := 1024) (n1 := 1024) p x)) (x8 (ix2 (n0 := 1) (n1 := 1024) 0 col)) col := by
  have ht := t.isLt
  unfold outV
  rw [bands_at]
  split
  · refine (part0 Y P _ x8 t p _ col hP (Fin.ext (by dsimp only; omega))).trans ?_
    exact congrArg (normed · _ _) (funext fun x => congrArg (· + (_ : EReal)) (window_part x0 _ _ _ t (by dsimp only; omega)))
  split
  · refine (part1 Y P _ x8 t p _ col hP (Fin.ext (by dsimp only; omega))).trans ?_
    exact congrArg (normed · _ _) (funext fun x => congrArg (· + (_ : EReal)) (window_part x0 _ _ _ t (by dsimp only; omega)))
  split
  · refine (part2 Y P _ x8 t p _ col hP (Fin.ext (by dsimp only; omega))).trans ?_
    exact congrArg (normed · _ _) (funext fun x => congrArg (· + (_ : EReal)) (window_part x0 _ _ _ t (by dsimp only; omega)))
  · refine (part3 Y P _ x8 t p _ col hP (Fin.ext (by dsimp only; omega))).trans ?_
    exact congrArg (normed · _ _) (funext fun x => congrArg (· + (_ : EReal)) (window_part x0 _ _ _ t (by dsimp only; omega)))

end Cert.KernelIdeal.Moe
-- ==== Proof.Result.lean ====
module

public import proofs.«01_k».proof.Proof.Out

@[expose] public section

set_option maxRecDepth 16384

noncomputable section

namespace Cert.KernelIdeal.Moe

open Idealize.ShloMosaic Idealize.ShloMosaic.TcCoe Idealize.ShloMosaic.Pointwise Idealize.SL.Sem
open Cert.KernelIdeal Cert.KernelIdeal.Gen
open Cert.Moe (InGroup Routed idealCounting four expert normed)

variable (m : (ℓ : Loc nD τ sig) → Buf (Elt Ideal) ℓ)

/-- The layer's result at a token and a column. -/
def resAt (c : Dev nD) (j : Fin 32768) (col : Fin 1024) : EReal :=
  Cert.Moe.layer (m ((c : Thread nD τ).loc main_arg0)) (m ((c : Thread nD τ).loc main_arg1)) (m ((c : Thread nD τ).loc main_arg2))
          (m ((c : Thread nD τ).loc main_arg4)) (m ((c : Thread nD τ).loc main_arg5)) (m ((c : Thread nD τ).loc main_arg6)) (m ((c : Thread nD τ).loc main_arg7)) j col

/-- The layer's result. -/
def res (c : Dev nD) : Vec Ideal S32768x1024 .f32 := fun y => resAt m c (y 0) (y 1)

/-- The eight steps are the thirty-two experts. -/
theorem steps_sum (c : Dev nD) (j : Fin 32768) (x : Fin 1024) :
    (∑ s ∈ Finset.range 8, contrib m c j x s) = ∑ e : Fin 32, expert (fun x => m ((c : Thread nD τ).loc main_arg1) (ix2 (n0 := 32768) (n1 := 1024) j x))
            (fun x f => m ((c : Thread nD τ).loc main_arg4) (ix3 (n0 := 32) (n1 := 1024) (n2 := 256) e x f))
            (fun x f => m ((c : Thread nD τ).loc main_arg5) (ix3 (n0 := 32) (n1 := 1024) (n2 := 256) e x f))
            (fun f => m ((c : Thread nD τ).loc main_arg6) (ix3 (n0 := 32) (n1 := 256) (n2 := 1024) e f x))
            (m ((c : Thread nD τ).loc main_arg2) (ix2 (n0 := 32768) (n1 := 128) j ⟨e.val, by omega⟩)) := by
  rw [Fin.sum_univ_tiles 8 4 rfl, Finset.sum_range]
  refine Finset.sum_congr rfl fun s _ => ?_
  unfold contrib
  rw [dif_pos s.isLt]
  unfold four
  refine Finset.sum_congr rfl fun k _ => ?_
  simp only [Nat.mul_comm 4]

variable (hchk : Chk m) (c : Dev nD) (Gd : Fin 32768 → Fin 4)
variable (hG : ∀ j, InGroup (m ((c : Thread nD τ).loc main_arg3)) j (Gd j))
variable (hR : ∀ j, Routed (m ((c : Thread nD τ).loc main_arg2)) j (Gd j))

include hG hR in
theorem outT_at (t : Fin cfg0.N) (h7 : t.val % 8 = 7) (u col : Fin 1024) :
    outT m hchk c t (ix2 (n0 := 1024) (n1 := 1024) u col) = resAt m c (tok (t.val / 8) (tile_lt t) u) col := by
  have hx := oneHot_at m c Gd hG t
  have h4 := read4 m c (tile0 t.val t.isLt)
  unfold outT
  refine (outV_at _ _ _ _ u (row (grpT Gd t) u) col (posV_at (grpT Gd t) _ _ hx h4 u)).trans ?_
  unfold resAt Cert.Moe.layer
  rw [read8]
  refine congrArg (normed · _ _) (funext fun x => ?_)
  refine congrArg₂ (fun a b : EReal => a + b) ?_ ((Eq.trans ?_ (steps_sum m c _ x)))
  · rw [read0]
  · refine (rows_at m hchk c Gd hG hR u x t.val t.isLt).trans ?_
    rw [h7]

theorem idx9 : ∀ t : Fin cfg0.N, win0_9.index t = ![t.val / 8, 0] := by decide +kernel
theorem flush_iff : ∀ t : Fin cfg0.N, (cfg0.win 9).flush t = true ↔ t.val % 8 = 7 := by decide +kernel

include hG hR in
/-- The output array ends as the layer's result. -/
theorem out_array : (dats m hchk 0 c).arrAt 9 (cfg0.N) = res m c := by
  refine (dats m hchk 0 c).arrAt_eq_of_covers 9 (res m c) (by decide +kernel) fun t hf y => ?_
  have h7 : t.val % 8 = 7 := (flush_iff t).mp hf
  have e : ((cfg0.win 9).blk t).view.emb y = ix2 (n0 := 32768) (n1 := 1024) (tok (t.val / 8) (tile_lt t) ⟨(y 0).val, (y 0).isLt⟩) ⟨(y 1).val, (y 1).isLt⟩ := by
    clear hG hR hf
    funext a
    refine Fin.ext ?_
    fin_cases a
    · blk_simp [idx9 t]
      show t.val / 8 * 1024 + (y 0).val = 1024 * (t.val / 8) + (y 0).val
      omega
    · blk_simp [idx9 t]
      rfl
  refine Eq.trans ?_ ((outT_at m hchk c Gd hG hR t h7 _ _).trans (congrArg (res m c) e).symm)
  rw [after0_9]
  blk_simp
  refine congrArg (outT m hchk c t) ?_
  funext a
  fin_cases a <;> rfl

/-- The run ends with the layer's result, the arguments unchanged. -/
theorem value_run (ρ : Dev nD → PrngReg) (h : ∀ (c : Dev nD) (j : Fin 32768), ∃ g : Fin 4,
      InGroup (m ((c : Thread nD τ).loc main_arg3)) j g ∧ Routed (m ((c : Thread nD τ).loc main_arg2)) j g) :
    θ_run defs (onTc (τ := τ) (main (F := Ideal))) ⟨m, fun _ => 0, ρ⟩ (fun r => ∀ c : Dev nD,
      r.2.mem ((c.tc : Thread nD τ).loc main_v8) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have hk : Chk m := chk_of_groups fun c j => (h c j).imp fun _ h => h.1
  refine (θ_run defs _ _).mono (fun r h' c => ⟨?_, h'.1 c⟩) (θ_run_and (unchanged m ρ hk) (run_quiescent m ρ hk))
  choose Gd hGd using h c
  exact ((h'.2.1 c).1 9).trans (out_array m hk c Gd (fun j => (hGd j).1) (fun j => (hGd j).2))

end Cert.KernelIdeal.Moe
-- ==== Proof.Merge.lean ====
module

public import proofs.«01_k».proof.Proof.Gen.Kernel2Ideal.Skeleton
public import Idealize.ShloMosaic.Lib.Pointwise

@[expose] public section

set_option maxRecDepth 16384

noncomputable section

namespace Cert.Merge

open Idealize.ShloMosaic Idealize.ShloMosaic.Pointwise

/-- A token's attention output before its projection, at a feature: head `j / 64` of the value up-projection. -/
def heads (w : Fin 8 → Fin 64 → Fin 128 → EReal) (o : Fin 8 → Fin 128 → EReal) (j : Fin 512) : EReal :=
  ∑ k, w ⟨j.val / 64, by omega⟩ ⟨j.val % 64, by omega⟩ k * o ⟨j.val / 64, by omega⟩ k

/-- A token's spatial gate at a feature: the chunk's rows mixed by the token's row of the group's matrix. -/
def spatial (w : Fin 4 → Fin 128 → EReal) (v : Fin 128 → Fin 512 → EReal) (b : Fin 4 → EReal) (j : Fin 512) : EReal :=
  (∑ x, w ⟨j.val / 128, by omega⟩ x * v x j) + b ⟨j.val / 128, by omega⟩

/-- An entry of the spatial gate's matrix, zero above the diagonal. -/
def masked (w : EReal) (i x : Fin 128) : EReal :=
  Scalar.select (Scalar.select (IntOp.cmpi .sge (IntOp.addi (BitVec.ofNat 32 i.val) 0#32) (BitVec.ofNat 32 x.val)) 1#1 0#1) w (Ideal.ofBits .f32 0#32)

/-- A token's gated sum of the two branches at a column. -/
def merged (o s u : Fin 512 → EReal) (pa pb : Fin 512 → EReal) (ga gb : EReal) : EReal :=
  ga * (∑ j, o j * pa j) + gb * ∑ j, u j * s j * pb j

/-- A token's row after the merge: the residual and the projected gated sum. -/
def mergedRow (x : (⟨2, ![32768, 1024]⟩ : Shape).Idx → EReal) (o : (⟨2, ![128, 262144]⟩ : Shape).Idx → EReal)
    (u v : (⟨2, ![32768, 512]⟩ : Shape).Idx → EReal) (ga gb : (⟨2, ![32768, 1024]⟩ : Shape).Idx → EReal)
    (wuv : (⟨3, ![8, 64, 128]⟩ : Shape).Idx → EReal) (pa : (⟨2, ![512, 1024]⟩ : Shape).Idx → EReal)
    (ws : (⟨3, ![4, 128, 128]⟩ : Shape).Idx → EReal) (bs : (⟨2, ![4, 128]⟩ : Shape).Idx → EReal) (pb : (⟨2, ![512, 1024]⟩ : Shape).Idx → EReal)
    (wo : (⟨2, ![1024, 1024]⟩ : Shape).Idx → EReal) (j : Fin 32768) (d : Fin 1024) : EReal :=
  x (ix2 (n0 := 32768) (n1 := 1024) j d) + ∑ e : Fin 1024,
    merged (heads (fun h i k => wuv (ix3 (n0 := 8) (n1 := 64) (n2 := 128) h i k))
        (fun h k => o (ix2 (n0 := 128) (n1 := 262144) k ⟨2048 * (j.val / 256) + 256 * h.val + j.val % 256, by omega⟩)))
      (spatial (fun g x => masked (ws (ix3 (n0 := 4) (n1 := 128) (n2 := 128) g ⟨j.val % 128, Nat.mod_lt _ (by decide)⟩ x)) ⟨j.val % 128, Nat.mod_lt _ (by decide)⟩ x)
          (fun x q => v (ix2 (n0 := 32768) (n1 := 512) ⟨128 * (j.val / 128) + x.val, by omega⟩ q))
          (fun g => bs (ix2 (n0 := 4) (n1 := 128) g ⟨j.val % 128, Nat.mod_lt _ (by decide)⟩)))
      (fun q => u (ix2 (n0 := 32768) (n1 := 512) j q))
      (fun q => pa (ix2 (n0 := 512) (n1 := 1024) q e)) (fun q => pb (ix2 (n0 := 512) (n1 := 1024) q e))
      (ga (ix2 (n0 := 32768) (n1 := 1024) j e)) (gb (ix2 (n0 := 32768) (n1 := 1024) j e)) * wo (ix2 (n0 := 1024) (n1 := 1024) e d)

end Cert.Merge

namespace Cert.Kernel2Ideal.Merge

open Idealize.ShloMosaic Idealize.ShloMosaic.TcCoe Idealize.ShloMosaic.Pointwise
open Cert.Kernel2Ideal Cert.Kernel2Ideal.Gen

set_option maxHeartbeats 2000000 in
/-- Eight bands of 64 rows, at a row. -/
theorem cat8_at (p : Fin 8 → FVec Ideal S64x256 .f32) (h : Fin 8) (i : Fin 64) (q : Fin 256) :
    concatenate S512x256 0 [⟨S64x256, p 0⟩, ⟨S64x256, p 1⟩, ⟨S64x256, p 2⟩, ⟨S64x256, p 3⟩, ⟨S64x256, p 4⟩, ⟨S64x256, p 5⟩, ⟨S64x256, p 6⟩, ⟨S64x256, p 7⟩]
      concatenates_S64x256_S64x256_S64x256_S64x256_S64x256_S64x256_S64x256_S64x256_S512x256_d0 (ix2 (n0 := 512) (n1 := 256) ⟨64 * h.val + i.val, by omega⟩ q)
      = p h (ix2 (n0 := 64) (n1 := 256) i q) := by
  fin_cases h <;> pointwise [] <;> split_ifs <;> first
    | omega
    | exact congrArg (p _) (congrArg (fun z => ix2 (n0 := 64) (n1 := 256) z q) (Fin.ext (by dsimp only; omega)))

/-- Four bands of 128 columns, at a column. -/
theorem cat4c_at (p : Fin 4 → FVec Ideal S128x128 .f32) (g : Fin 4) (i e : Fin 128) :
    concatenate S128x512 1 [⟨S128x128, p 0⟩, ⟨S128x128, p 1⟩, ⟨S128x128, p 2⟩, ⟨S128x128, p 3⟩]
      concatenates_S128x128_S128x128_S128x128_S128x128_S128x512_d1 (ix2 (n0 := 128) (n1 := 512) i ⟨128 * g.val + e.val, by omega⟩)
      = p g (ix2 (n0 := 128) (n1 := 128) i e) := by
  fin_cases g <;> pointwise [] <;> split_ifs <;> first
    | omega
    | exact congrArg (p _) (congrArg (fun z => ix2 (n0 := 128) (n1 := 128) i z) (Fin.ext (by dsimp only; omega)))

/-- Four bands of 128 rows, at a row. -/
theorem cat4r_at (p : Fin 4 → FVec Ideal S128x512 .f32) (c : Fin 4) (i : Fin 128) (j : Fin 512) :
    concatenate S512x512 0 [⟨S128x512, p 0⟩, ⟨S128x512, p 1⟩, ⟨S128x512, p 2⟩, ⟨S128x512, p 3⟩]
      concatenates_S128x512_S128x512_S128x512_S128x512_S512x512_d0 (ix2 (n0 := 512) (n1 := 512) ⟨128 * c.val + i.val, by omega⟩ j)
      = p c (ix2 (n0 := 128) (n1 := 512) i j) := by
  fin_cases c <;> pointwise [] <;> split_ifs <;> first
    | omega
    | exact congrArg (p _) (congrArg (fun z => ix2 (n0 := 128) (n1 := 512) z j) (Fin.ext (by dsimp only; omega)))

/-- One head of the value up-projection over one block of tokens. -/
def head (W : FVec Ideal S1x64x128 .bf16) (O : FVec Ideal S128x256 .bf16) : FVec Ideal S64x256 .f32 :=
  matmul dot_S64x128_S128x256_S64x256_1_0_0_1_n_n none (shapeCast S64x128 W shapeCasts_S1x64x128_S64x128) O (constant S64x256 .f32 0x00000000#32)

theorem head_at (W : FVec Ideal S1x64x128 .bf16) (O : FVec Ideal S128x256 .bf16) (i : Fin 64) (q : Fin 256) :
    head W O (ix2 (n0 := 64) (n1 := 256) i q) = ∑ k : Fin 128, W (ix3 (n0 := 1) (n1 := 64) (n2 := 128) 0 i k) * O (ix2 (n0 := 128) (n1 := 256) k q) := by
  pointwise [head]

/-- The eight heads of one block of tokens. -/
def block8 (W : Fin 8 → FVec Ideal S1x64x128 .bf16) (O : Fin 8 → FVec Ideal S128x256 .bf16) : FVec Ideal S512x256 .f32 :=
  concatenate S512x256 0 [⟨S64x256, head (W 0) (O 0)⟩, ⟨S64x256, head (W 1) (O 1)⟩, ⟨S64x256, head (W 2) (O 2)⟩, ⟨S64x256, head (W 3) (O 3)⟩,
      ⟨S64x256, head (W 4) (O 4)⟩, ⟨S64x256, head (W 5) (O 5)⟩, ⟨S64x256, head (W 6) (O 6)⟩, ⟨S64x256, head (W 7) (O 7)⟩]
      concatenates_S64x256_S64x256_S64x256_S64x256_S64x256_S64x256_S64x256_S64x256_S512x256_d0

theorem block8_at (W : Fin 8 → FVec Ideal S1x64x128 .bf16) (O : Fin 8 → FVec Ideal S128x256 .bf16) (j : Fin 512) (q : Fin 256) :
    block8 W O (ix2 (n0 := 512) (n1 := 256) j q)
      = Cert.Merge.heads (fun h i k => W h (ix3 (n0 := 1) (n1 := 64) (n2 := 128) 0 i k)) (fun h k => O h (ix2 (n0 := 128) (n1 := 256) k q)) j := by
  have e : j = ⟨64 * (⟨j.val / 64, by omega⟩ : Fin 8).val + (⟨j.val % 64, by omega⟩ : Fin 64).val, by dsimp only; omega⟩ := Fin.ext (by dsimp only; omega)
  have w := cat8_at (fun h => head (W h) (O h)) ⟨j.val / 64, by omega⟩ ⟨j.val % 64, by omega⟩ q
  rw [← e] at w
  exact w.trans (head_at _ _ _ _)

/-- The projected attention output of two blocks of tokens. -/
def yA (A B : FVec Ideal S512x256 .f32) (p : FVec Ideal S512x1024 .bf16) : FVec Ideal S512x1024 .f32 :=
  matmul dot_S512x512_S512x1024_S512x1024_1_0_0_1_n_n none
    (truncf .bf16 (transpose S512x512 [1, 0] (concatenate S512x512 1 [⟨S512x256, A⟩, ⟨S512x256, B⟩] concatenates_S512x256_S512x256_S512x512_d1)
      transposes_S512x512_p1_0_S512x512) bitsLt_bf16_f32) p (constant S512x1024 .f32 0x00000000#32)

theorem yA_at (A B : FVec Ideal S512x256 .f32) (p : FVec Ideal S512x1024 .bf16) (r : Fin 512) (col : Fin 1024) :
    yA A B p (ix2 (n0 := 512) (n1 := 1024) r col)
      = ∑ j : Fin 512, (if r.val < 256 then A (ix2 (n0 := 512) (n1 := 256) j ⟨r.val % 256, Nat.mod_lt _ (by decide)⟩)
          else B (ix2 (n0 := 512) (n1 := 256) j ⟨r.val % 256, Nat.mod_lt _ (by decide)⟩) : EReal) * p (ix2 (n0 := 512) (n1 := 1024) j col) := by
  pointwise [yA]
  refine Finset.sum_congr rfl fun j _ => congrArg (· * (_ : EReal)) ?_
  by_cases h : r.val < 256
  · rw [dif_pos h, if_pos h]
    exact congrArg A (congrArg (fun z => ix2 (n0 := 512) (n1 := 256) j z) (Fin.ext (by dsimp only; omega)))
  · rw [dif_neg h, if_neg h]
    exact congrArg B (congrArg (fun z => ix2 (n0 := 512) (n1 := 256) j z) (Fin.ext (by dsimp only; omega)))

/-- One group of one chunk: the group's matrix over the chunk's rows, and the bias. -/
def cell (V : FVec Ideal S128x128 .bf16) (W : FVec Ideal S1x128x128 .bf16) (B : FVec Ideal S1x128x128 .f32) : FVec Ideal S128x128 .f32 :=
  addf (matmul dot_S128x128_S128x128_S128x128_1_0_0_1_n_n none (shapeCast S128x128 W shapeCasts_S1x128x128_S128x128) V (constant S128x128 .f32 0x00000000#32))
    (shapeCast S128x128 B shapeCasts_S1x128x128_S128x128)

theorem cell_at (V : FVec Ideal S128x128 .bf16) (W : FVec Ideal S1x128x128 .bf16) (B : FVec Ideal S1x128x128 .f32) (i e : Fin 128) :
    cell V W B (ix2 (n0 := 128) (n1 := 128) i e)
      = (∑ x : Fin 128, W (ix3 (n0 := 1) (n1 := 128) (n2 := 128) 0 i x) * V (ix2 (n0 := 128) (n1 := 128) x e) : EReal) + B (ix3 (n0 := 1) (n1 := 128) (n2 := 128) 0 i e) := by
  pointwise [cell]

/-- The sixteen squares of the value rows. -/
def square (V : FVec Ideal S512x512 .bf16) : Fin 4 → Fin 4 → FVec Ideal S128x128 .bf16
  | 0, 0 => extractStridedSlice S128x128 ![0, 0] V slices_S512x512_o0_0_S128x128
  | 0, 1 => extractStridedSlice S128x128 ![0, 128] V slices_S512x512_o0_128_S128x128
  | 0, 2 => extractStridedSlice S128x128 ![0, 256] V slices_S512x512_o0_256_S128x128
  | 0, 3 => extractStridedSlice S128x128 ![0, 384] V slices_S512x512_o0_384_S128x128
  | 1, 0 => extractStridedSlice S128x128 ![128, 0] V slices_S512x512_o128_0_S128x128
  | 1, 1 => extractStridedSlice S128x128 ![128, 128] V slices_S512x512_o128_128_S128x128
  | 1, 2 => extractStridedSlice S128x128 ![128, 256] V slices_S512x512_o128_256_S128x128
  | 1, 3 => extractStridedSlice S128x128 ![128, 384] V slices_S512x512_o128_384_S128x128
  | 2, 0 => extractStridedSlice S128x128 ![256, 0] V slices_S512x512_o256_0_S128x128
  | 2, 1 => extractStridedSlice S128x128 ![256, 128] V slices_S512x512_o256_128_S128x128
  | 2, 2 => extractStridedSlice S128x128 ![256, 256] V slices_S512x512_o256_256_S128x128
  | 2, 3 => extractStridedSlice S128x128 ![256, 384] V slices_S512x512_o256_384_S128x128
  | 3, 0 => extractStridedSlice S128x128 ![384, 0] V slices_S512x512_o384_0_S128x128
  | 3, 1 => extractStridedSlice S128x128 ![384, 128] V slices_S512x512_o384_128_S128x128
  | 3, 2 => extractStridedSlice S128x128 ![384, 256] V slices_S512x512_o384_256_S128x128
  | 3, 3 => extractStridedSlice S128x128 ![384, 384] V slices_S512x512_o384_384_S128x128

theorem square_at (V : FVec Ideal S512x512 .bf16) (c g : Fin 4) (x e : Fin 128) :
    square V c g (ix2 (n0 := 128) (n1 := 128) x e) = V (ix2 (n0 := 512) (n1 := 512) ⟨128 * c.val + x.val, by omega⟩ ⟨128 * g.val + e.val, by omega⟩) := by
  fin_cases c <;> fin_cases g <;> pointwise [square]

/-- The four groups of one chunk. -/
def chunk (V : Fin 4 → FVec Ideal S128x128 .bf16) (W : Fin 4 → FVec Ideal S1x128x128 .bf16) (B : Fin 4 → FVec Ideal S1x128x128 .f32) : FVec Ideal S128x512 .f32 :=
  concatenate S128x512 1 [⟨S128x128, cell (V 0) (W 0) (B 0)⟩, ⟨S128x128, cell (V 1) (W 1) (B 1)⟩, ⟨S128x128, cell (V 2) (W 2) (B 2)⟩, ⟨S128x128, cell (V 3) (W 3) (B 3)⟩]
      concatenates_S128x128_S128x128_S128x128_S128x128_S128x512_d1

/-- The four chunks of a block. -/
def gates (V : FVec Ideal S512x512 .bf16) (W : Fin 4 → FVec Ideal S1x128x128 .bf16) (B : Fin 4 → FVec Ideal S1x128x128 .f32) : FVec Ideal S512x512 .f32 :=
  concatenate S512x512 0 [⟨S128x512, chunk (square V 0) W B⟩, ⟨S128x512, chunk (square V 1) W B⟩, ⟨S128x512, chunk (square V 2) W B⟩, ⟨S128x512, chunk (square V 3) W B⟩]
      concatenates_S128x512_S128x512_S128x512_S128x512_S512x512_d0

theorem gates_at (V : FVec Ideal S512x512 .bf16) (W : Fin 4 → FVec Ideal S1x128x128 .bf16) (B : Fin 4 → FVec Ideal S1x128x128 .f32) (r j : Fin 512)
    (b : Fin 4 → Fin 128 → EReal) (hb : ∀ g i e, B g (ix3 (n0 := 1) (n1 := 128) (n2 := 128) 0 i e) = b g i) :
    gates V W B (ix2 (n0 := 512) (n1 := 512) r j)
      = Cert.Merge.spatial (fun g x => W g (ix3 (n0 := 1) (n1 := 128) (n2 := 128) 0 ⟨r.val % 128, Nat.mod_lt _ (by decide)⟩ x))
          (fun x j => V (ix2 (n0 := 512) (n1 := 512) ⟨128 * (r.val / 128) + x.val, by omega⟩ j)) (fun g => b g ⟨r.val % 128, Nat.mod_lt _ (by decide)⟩) j := by
  have er : r = ⟨128 * (⟨r.val / 128, by omega⟩ : Fin 4).val + (⟨r.val % 128, by omega⟩ : Fin 128).val, by dsimp only; omega⟩ := Fin.ext (by dsimp only; omega)
  have ej : j = ⟨128 * (⟨j.val / 128, by omega⟩ : Fin 4).val + (⟨j.val % 128, by omega⟩ : Fin 128).val, by dsimp only; omega⟩ := Fin.ext (by dsimp only; omega)
  have w := cat4r_at (fun c => chunk (square V c) W B) ⟨r.val / 128, by omega⟩ ⟨r.val % 128, by omega⟩ j
  rw [← er] at w
  have w2 := cat4c_at (fun g => cell (square V ⟨r.val / 128, by omega⟩ g) (W g) (B g)) ⟨j.val / 128, by omega⟩ ⟨r.val % 128, by omega⟩ ⟨j.val % 128, by omega⟩
  rw [← ej] at w2
  refine w.trans (w2.trans ((cell_at _ _ _ _ _).trans ?_))
  unfold Cert.Merge.spatial
  refine congrArg₂ (fun a b : EReal => a + b) (Finset.sum_congr rfl fun x _ => congrArg (fun z : EReal => _ * z) ?_) (hb _ _ _)
  refine (square_at _ _ _ _ _).trans (congrArg V ?_)
  refine congrArg (ix2 (n0 := 512) (n1 := 512) _) ?_
  exact ej.symm

/-- The projected spatial gating of a block. -/
def yB (U : FVec Ideal S512x512 .bf16) (S : FVec Ideal S512x512 .f32) (p : FVec Ideal S512x1024 .bf16) : FVec Ideal S512x1024 .f32 :=
  matmul dot_S512x512_S512x1024_S512x1024_1_0_0_1_n_n none
    (truncf .bf16 (mulf (extf .f32 U bitsLt_bf16_f32) S) bitsLt_bf16_f32) p (constant S512x1024 .f32 0x00000000#32)

theorem yB_at (U : FVec Ideal S512x512 .bf16) (S : FVec Ideal S512x512 .f32) (p : FVec Ideal S512x1024 .bf16) (r : Fin 512) (col : Fin 1024) :
    yB U S p (ix2 (n0 := 512) (n1 := 1024) r col)
      = ∑ j : Fin 512, (U (ix2 (n0 := 512) (n1 := 512) r j) : EReal) * S (ix2 (n0 := 512) (n1 := 512) r j) * p (ix2 (n0 := 512) (n1 := 1024) j col) := by
  pointwise [yB]

end Cert.Kernel2Ideal.Merge
-- ==== Proof.Blend.lean ====
module

public import proofs.«01_k».proof.Proof.Merge
public import proofs.«01_k».proof.Proof.Out
public import proofs.«01_k».proof.Proof.Gen.Kernel2Ideal.Frame
public import Idealize.ShloMosaic.Lib.Pipeline.ValueKit

@[expose] public section

set_option maxRecDepth 16384

noncomputable section

namespace Cert.Kernel2Ideal.Merge

open Idealize.ShloMosaic Idealize.ShloMosaic.TcCoe Idealize.ShloMosaic.Pointwise
open Cert.Kernel2Ideal Cert.Kernel2Ideal.Gen
open Cert.Merge (heads spatial merged)
open Cert.Moe (normed)

/-- The value up-projection's matrix of a head. -/
def upV (x : Vec Ideal S8x64x128 .bf16) : Fin 8 → FVec Ideal S1x64x128 .bf16
  | 0 => View.ld x r0_0 | 1 => View.ld x r0_2 | 2 => View.ld x r0_4 | 3 => View.ld x r0_6
  | 4 => View.ld x r0_8 | 5 => View.ld x r0_10 | 6 => View.ld x r0_12 | 7 => View.ld x r0_14
theorem upV_at (x : Vec Ideal S8x64x128 .bf16) (h : Fin 8) (i : Fin 64) (k : Fin 128) :
    upV x h (ix3 (n0 := 1) (n1 := 64) (n2 := 128) 0 i k) = x (ix3 (n0 := 8) (n1 := 64) (n2 := 128) h i k) := by
  fin_cases h <;> refine congrArg x (funext fun a => Fin.ext ?_) <;> fin_cases a <;>
    first | rfl | (show 0 + 1 * i.val = i.val; omega) | (show 0 + 1 * k.val = k.val; omega)

/-- A head's latents of the first 256 tokens. -/
def latA (x : Vec Ideal S128x4096 .bf16) : Fin 8 → FVec Ideal S128x256 .bf16
  | 0 => View.ld x r0_1 | 1 => View.ld x r0_3 | 2 => View.ld x r0_5 | 3 => View.ld x r0_7
  | 4 => View.ld x r0_9 | 5 => View.ld x r0_11 | 6 => View.ld x r0_13 | 7 => View.ld x r0_15
/-- A head's latents of the last 256 tokens. -/
def latB (x : Vec Ideal S128x4096 .bf16) : Fin 8 → FVec Ideal S128x256 .bf16
  | 0 => View.ld x r0_16 | 1 => View.ld x r0_17 | 2 => View.ld x r0_18 | 3 => View.ld x r0_19
  | 4 => View.ld x r0_20 | 5 => View.ld x r0_21 | 6 => View.ld x r0_22 | 7 => View.ld x r0_23
theorem latA_at (x : Vec Ideal S128x4096 .bf16) (h : Fin 8) (k : Fin 128) (q : Fin 256) :
    latA x h (ix2 (n0 := 128) (n1 := 256) k q) = x (ix2 (n0 := 128) (n1 := 4096) k ⟨256 * h.val + q.val, by omega⟩) := by
  fin_cases h <;> refine congrArg x (funext fun a => Fin.ext ?_) <;> fin_cases a <;>
    first | rfl | (show 0 + 1 * k.val = k.val; omega) | (show _ + 1 * q.val = 256 * _ + q.val; dsimp; omega)
theorem latB_at (x : Vec Ideal S128x4096 .bf16) (h : Fin 8) (k : Fin 128) (q : Fin 256) :
    latB x h (ix2 (n0 := 128) (n1 := 256) k q) = x (ix2 (n0 := 128) (n1 := 4096) k ⟨2048 + 256 * h.val + q.val, by omega⟩) := by
  fin_cases h <;> refine congrArg x (funext fun a => Fin.ext ?_) <;> fin_cases a <;>
    first | rfl | (show 0 + 1 * k.val = k.val; omega) | (show _ + 1 * q.val = 2048 + 256 * _ + q.val; dsimp; omega)

/-- A group's matrix of the spatial gate. -/
def mixW (x : Vec Ideal S4x128x128 .bf16) : Fin 4 → FVec Ideal S1x128x128 .bf16
  | 0 => View.ld x r0_26 | 1 => View.ld x r0_27 | 2 => View.ld x r0_28 | 3 => View.ld x r0_29
/-- A group's bias of the spatial gate. -/
def mixB (x : Vec Ideal S4x128x128 .f32) : Fin 4 → FVec Ideal S1x128x128 .f32
  | 0 => View.ld x r0_26 | 1 => View.ld x r0_27 | 2 => View.ld x r0_28 | 3 => View.ld x r0_29
theorem mixW_at (x : Vec Ideal S4x128x128 .bf16) (h : Fin 4) (i k : Fin 128) :
    mixW x h (ix3 (n0 := 1) (n1 := 128) (n2 := 128) 0 i k) = x (ix3 (n0 := 4) (n1 := 128) (n2 := 128) h i k) := by
  fin_cases h <;> refine congrArg x (funext fun a => Fin.ext ?_) <;> fin_cases a <;>
    first | rfl | (show 0 + 1 * i.val = i.val; omega) | (show 0 + 1 * k.val = k.val; omega)
theorem mixB_at (x : Vec Ideal S4x128x128 .f32) (h : Fin 4) (i k : Fin 128) :
    mixB x h (ix3 (n0 := 1) (n1 := 128) (n2 := 128) 0 i k) = x (ix3 (n0 := 4) (n1 := 128) (n2 := 128) h i k) := by
  fin_cases h <;> refine congrArg x (funext fun a => Fin.ext ?_) <;> fin_cases a <;>
    first | rfl | (show 0 + 1 * i.val = i.val; omega) | (show 0 + 1 * k.val = k.val; omega)

theorem full1024 (t : EltTy) (x : Vec Ideal S512x1024 t) : View.ld x r0_24 = x := by
  funext y
  refine congrArg x (funext fun a => Fin.ext ?_)
  fin_cases a <;> first | (show 0 + 1 * (y 0).val = (y 0).val; omega) | (show 0 + 1 * (y 1).val = (y 1).val; omega)
theorem full512 (t : EltTy) (x : Vec Ideal S512x512 t) : View.ld x r0_25 = x := by
  funext y
  refine congrArg x (funext fun a => Fin.ext ?_)
  fin_cases a <;> first | (show 0 + 1 * (y 0).val = (y 0).val; omega) | (show 0 + 1 * (y 1).val = (y 1).val; omega)
theorem fullOut (t : EltTy) (x : Vec Ideal S1024x1024 t) : View.ld x r0_30 = x := by
  funext y
  refine congrArg x (funext fun a => Fin.ext ?_)
  fin_cases a <;> first | (show 0 + 1 * (y 0).val = (y 0).val; omega) | (show 0 + 1 * (y 1).val = (y 1).val; omega)
theorem fullRow (t : EltTy) (x : Vec Ideal S1x1024 t) : View.ld x r0_31 = x := by
  funext y
  refine congrArg x (funext fun a => Fin.ext ?_)
  fin_cases a <;> first | (show 0 + 1 * (y 0).val = (y 0).val; omega) | (show 0 + 1 * (y 1).val = (y 1).val; omega)

variable (x0 : Vec Ideal S512x1024 .f32) (x1 : Vec Ideal S128x4096 .bf16) (x2 : Vec Ideal S512x512 .bf16) (x3 : Vec Ideal S512x512 .bf16)
variable (x4 : Vec Ideal S512x1024 .bf16) (x5 : Vec Ideal S512x1024 .bf16) (x6 : Vec Ideal S8x64x128 .bf16) (x7 : Vec Ideal S512x1024 .bf16)
variable (x8 : Vec Ideal S4x128x128 .bf16) (x9 : Vec Ideal S4x128x128 .f32) (x10 : Vec Ideal S512x1024 .bf16) (x11 : Vec Ideal S1024x1024 .bf16)
variable (x12 : Vec Ideal S1x1024 .f32) (x13 : Vec Ideal S2x1024x128 .bf16) (x14 : Vec Ideal S1x128 .f32)

theorem second_eq : k0_pay46 x0 x1 x2 x3 x4 x5 x6 x7 x8 x9 x10 x11 x12 x13 x14
    = yB (View.ld x2 r0_25) (gates (View.ld x3 r0_25) (mixW x8) (mixB x9)) (View.ld x10 r0_24) := rfl
theorem first_eq : k0_pay47 x0 x1 x2 x3 x4 x5 x6 x7 x8 x9 x10 x11 x12 x13 x14
    = k0_pay24 (yA (block8 (upV x6) (latA x1)) (block8 (upV x6) (latB x1)) (View.ld x7 r0_24)) (View.ld x4 r0_24) := rfl

/-- A token of a block: its attention latents. -/
def lat (r : Fin 512) (h : Fin 8) (k : Fin 128) : EReal :=
  x1 (ix2 (n0 := 128) (n1 := 4096) k ⟨2048 * (r.val / 256) + 256 * h.val + r.val % 256, by omega⟩)

/-- A token's row after the block's merge. -/
def rowOut (b : Fin 4 → Fin 128 → EReal) (r : Fin 512) (d : Fin 1024) : EReal :=
  x0 (ix2 (n0 := 512) (n1 := 1024) r d) + ∑ e : Fin 1024,
    merged (heads (fun h i k => x6 (ix3 (n0 := 8) (n1 := 64) (n2 := 128) h i k)) (lat x1 r))
      (spatial (fun g x => x8 (ix3 (n0 := 4) (n1 := 128) (n2 := 128) g ⟨r.val % 128, Nat.mod_lt _ (by decide)⟩ x))
          (fun x j => x3 (ix2 (n0 := 512) (n1 := 512) ⟨128 * (r.val / 128) + x.val, by omega⟩ j)) (fun g => b g ⟨r.val % 128, Nat.mod_lt _ (by decide)⟩))
      (fun j => x2 (ix2 (n0 := 512) (n1 := 512) r j))
      (fun j => x7 (ix2 (n0 := 512) (n1 := 1024) j e)) (fun j => x10 (ix2 (n0 := 512) (n1 := 1024) j e))
      (x4 (ix2 (n0 := 512) (n1 := 1024) r e)) (x5 (ix2 (n0 := 512) (n1 := 1024) r e)) * x11 (ix2 (n0 := 1024) (n1 := 1024) e d)

variable (b : Fin 4 → Fin 128 → EReal) (hb : ∀ g i e, x9 (ix3 (n0 := 4) (n1 := 128) (n2 := 128) g i e) = b g i)

include hb in
theorem second_at (r : Fin 512) (e : Fin 1024) :
    k0_pay46 x0 x1 x2 x3 x4 x5 x6 x7 x8 x9 x10 x11 x12 x13 x14 (ix2 (n0 := 512) (n1 := 1024) r e)
      = ∑ j : Fin 512, (x2 (ix2 (n0 := 512) (n1 := 512) r j) : EReal)
        * spatial (fun g x => x8 (ix3 (n0 := 4) (n1 := 128) (n2 := 128) g ⟨r.val % 128, Nat.mod_lt _ (by decide)⟩ x))
          (fun x j => x3 (ix2 (n0 := 512) (n1 := 512) ⟨128 * (r.val / 128) + x.val, by omega⟩ j)) (fun g => b g ⟨r.val % 128, Nat.mod_lt _ (by decide)⟩) j
        * x10 (ix2 (n0 := 512) (n1 := 1024) j e) := by
  rw [second_eq, full512, full512, full1024]
  refine (yB_at _ _ _ _ _).trans (Finset.sum_congr rfl fun j _ => ?_)
  have w := gates_at x3 (mixW x8) (mixB x9) r j b (fun g i e => (mixB_at x9 g i e).trans (hb g i e))
  simp only [mixW_at] at w
  rw [w]

theorem first_at (r : Fin 512) (e : Fin 1024) :
    k0_pay47 x0 x1 x2 x3 x4 x5 x6 x7 x8 x9 x10 x11 x12 x13 x14 (ix2 (n0 := 512) (n1 := 1024) r e)
      = (x4 (ix2 (n0 := 512) (n1 := 1024) r e) : EReal) * ∑ j : Fin 512,
          heads (fun h i k => x6 (ix3 (n0 := 8) (n1 := 64) (n2 := 128) h i k)) (lat x1 r) j * x7 (ix2 (n0 := 512) (n1 := 1024) j e) := by
  rw [first_eq, full1024, full1024]
  refine Eq.trans (b := (x4 (ix2 (n0 := 512) (n1 := 1024) r e) : EReal)
    * yA (block8 (upV x6) (latA x1)) (block8 (upV x6) (latB x1)) x7 (ix2 (n0 := 512) (n1 := 1024) r e)) (by pointwise [k0_pay24]) ?_
  rw [yA_at]
  refine congrArg (fun z : EReal => _ * z) (Finset.sum_congr rfl fun j _ => congrArg (fun z : EReal => z * _) ?_)
  rw [block8_at, block8_at]
  simp only [upV_at, latA_at, latB_at]
  unfold heads lat
  by_cases h : r.val < 256
  · rw [if_pos h]
    refine Finset.sum_congr rfl fun k _ => congrArg (fun z : EReal => _ * z) (congrArg x1 (congrArg (ix2 (n0 := 128) (n1 := 4096) k) (Fin.ext ?_)))
    dsimp only
    omega
  · rw [if_neg h]
    refine Finset.sum_congr rfl fun k _ => congrArg (fun z : EReal => _ * z) (congrArg x1 (congrArg (ix2 (n0 := 128) (n1 := 4096) k) (Fin.ext ?_)))
    dsimp only
    omega

theorem sum_at (A B : FVec Ideal S512x1024 .f32) (r : Fin 512) (d : Fin 1024) :
    k0_pay25 B A x5 x0 x11 (ix2 (n0 := 512) (n1 := 1024) r d)
      = (x0 (ix2 (n0 := 512) (n1 := 1024) r d) : EReal) + ∑ e : Fin 1024,
        (A (ix2 (n0 := 512) (n1 := 1024) r e) + x5 (ix2 (n0 := 512) (n1 := 1024) r e) * B (ix2 (n0 := 512) (n1 := 1024) r e) : EReal)
          * x11 (ix2 (n0 := 1024) (n1 := 1024) e d) := by
  pointwise [k0_pay25]
theorem norm_at (A B : FVec Ideal S512x1024 .f32) (r : Fin 512) (d : Fin 1024) :
    k0_pay27 B A x5 x0 x11 x12 (ix2 (n0 := 512) (n1 := 1024) r d)
      = normed (fun d => k0_pay25 B A x5 x0 x11 (ix2 (n0 := 512) (n1 := 1024) r d)) (x12 (ix2 (n0 := 1) (n1 := 1024) 0 d)) d := by
  unfold k0_pay27 k0_pay26
  generalize k0_pay25 B A x5 x0 x11 = Z
  pointwise []
  rfl

include hb in
theorem pay_at (r : Fin 512) (d : Fin 1024) :
    k0_pay25 (k0_pay46 x0 x1 x2 x3 x4 x5 x6 x7 x8 x9 x10 x11 x12 x13 x14) (k0_pay47 x0 x1 x2 x3 x4 x5 x6 x7 x8 x9 x10 x11 x12 x13 x14) x5 x0 x11
        (ix2 (n0 := 512) (n1 := 1024) r d) = rowOut x0 x1 x2 x3 x4 x5 x6 x7 x8 x10 x11 b r d := by
  refine (sum_at x0 x5 x11 _ _ r d).trans ?_
  unfold rowOut merged
  refine congrArg (fun z : EReal => _ + z) (Finset.sum_congr rfl fun e _ => congrArg (fun z : EReal => z * _) ?_)
  rw [first_at, second_at x0 x1 x2 x3 x4 x5 x6 x7 x8 x9 x10 x11 x12 x13 x14 b hb]

include hb in
theorem out15_at (r : Fin 512) (d : Fin 1024) :
    out0_15 x0 x1 x2 x3 x4 x5 x6 x7 x8 x9 x10 x11 x12 x13 x14 (ix2 (n0 := 512) (n1 := 1024) r d)
      = rowOut x0 x1 x2 x3 x4 x5 x6 x7 x8 x10 x11 b r d := by
  unfold out0_15
  rw [full1024, full1024, fullOut]
  refine Eq.trans (congrFun (View.canon_cons_unit_lit _ _ _ ?_) _) (pay_at x0 x1 x2 x3 x4 x5 x6 x7 x8 x9 x10 x11 x12 x13 x14 b hb r d)
  intro a
  fin_cases a <;> rfl

include hb in
theorem out16_at (r : Fin 512) (d : Fin 1024) :
    out0_16 x0 x1 x2 x3 x4 x5 x6 x7 x8 x9 x10 x11 x12 x13 x14 (ix2 (n0 := 512) (n1 := 1024) r d)
      = normed (rowOut x0 x1 x2 x3 x4 x5 x6 x7 x8 x10 x11 b r) (x12 (ix2 (n0 := 1) (n1 := 1024) 0 d)) d := by
  unfold out0_16
  rw [full1024, full1024, fullOut, fullRow]
  refine Eq.trans (congrFun (View.canon_cons_unit_lit _ _ _ ?_) _) ((norm_at x0 x5 x11 x12 _ _ r d).trans (congrArg (normed · _ _)
    (funext fun d => pay_at x0 x1 x2 x3 x4 x5 x6 x7 x8 x9 x10 x11 x12 x13 x14 b hb r d)))
  intro a
  fin_cases a <;> rfl

end Cert.Kernel2Ideal.Merge
-- ==== Proof.Mix.lean ====
module

public import proofs.«01_k».proof.Proof.Blend
public import proofs.«01_k».proof.Proof.Gen.Kernel2Ideal.Value

@[expose] public section

set_option maxRecDepth 16384

noncomputable section

namespace Cert.Kernel2Ideal.Merge

open Idealize.ShloMosaic Idealize.ShloMosaic.TcCoe Idealize.ShloMosaic.Pointwise Idealize.SL.Sem
open Cert.Kernel2Ideal Cert.Kernel2Ideal.Gen
open Cert.Merge (heads spatial merged)
open Cert.Moe (normed)

variable (m : (ℓ : Loc nD τ sig) → Buf (Elt Ideal) ℓ)

/-- A token of a block as a row of the whole arrays. -/
def tok (t : Fin cfg0.N) (r : Fin 512) : Fin 32768 := ⟨512 * t.val + r.val, by
  have ht : t.val < 64 := Nat.lt_of_lt_of_eq t.isLt N_0
  omega⟩

theorem idx0 : ∀ t : Fin cfg0.N, win0_0.index t = ![t.val, 0] := by decide +kernel
theorem read0 (c : Dev nD) (t : Fin cfg0.N) (r : Fin 512) (j : Fin 1024) :
    iblk m c 0 t (ix2 (n0 := 512) (n1 := 1024) r j) = m ((c : Thread nD τ).loc main_arg0) (ix2 (n0 := 32768) (n1 := 1024) (tok t r) j) := by
  blk_ext [iblk, V, idx0 t, tok]
theorem idx1 : ∀ t : Fin cfg0.N, win0_1.index t = ![0, t.val] := by decide +kernel
theorem read1 (c : Dev nD) (t : Fin cfg0.N) (k : Fin 128) (q : Fin 4096) :
    iblk m c 1 t (ix2 (n0 := 128) (n1 := 4096) k q) = m ((c : Thread nD τ).loc main_arg1) (ix2 (n0 := 128) (n1 := 262144) k ⟨4096 * t.val + q.val, by
      have ht : t.val < 64 := Nat.lt_of_lt_of_eq t.isLt N_0
      omega⟩) := by
  blk_ext [iblk, V, idx1 t, tok]
theorem idx2 : ∀ t : Fin cfg0.N, win0_2.index t = ![t.val, 0] := by decide +kernel
theorem read2 (c : Dev nD) (t : Fin cfg0.N) (r : Fin 512) (j : Fin 512) :
    iblk m c 2 t (ix2 (n0 := 512) (n1 := 512) r j) = m ((c : Thread nD τ).loc main_arg2) (ix2 (n0 := 32768) (n1 := 512) (tok t r) j) := by
  blk_ext [iblk, V, idx2 t, tok]
theorem idx3 : ∀ t : Fin cfg0.N, win0_3.index t = ![t.val, 0] := by decide +kernel
theorem read3 (c : Dev nD) (t : Fin cfg0.N) (r : Fin 512) (j : Fin 512) :
    iblk m c 3 t (ix2 (n0 := 512) (n1 := 512) r j) = m ((c : Thread nD τ).loc main_arg3) (ix2 (n0 := 32768) (n1 := 512) (tok t r) j) := by
  blk_ext [iblk, V, idx3 t, tok]
theorem idx4 : ∀ t : Fin cfg0.N, win0_4.index t = ![t.val, 0] := by decide +kernel
theorem read4 (c : Dev nD) (t : Fin cfg0.N) (r : Fin 512) (j : Fin 1024) :
    iblk m c 4 t (ix2 (n0 := 512) (n1 := 1024) r j) = m ((c : Thread nD τ).loc main_arg4) (ix2 (n0 := 32768) (n1 := 1024) (tok t r) j) := by
  blk_ext [iblk, V, idx4 t, tok]
theorem idx5 : ∀ t : Fin cfg0.N, win0_5.index t = ![t.val, 0] := by decide +kernel
theorem read5 (c : Dev nD) (t : Fin cfg0.N) (r : Fin 512) (j : Fin 1024) :
    iblk m c 5 t (ix2 (n0 := 512) (n1 := 1024) r j) = m ((c : Thread nD τ).loc main_arg5) (ix2 (n0 := 32768) (n1 := 1024) (tok t r) j) := by
  blk_ext [iblk, V, idx5 t, tok]
theorem idx6 : ∀ t : Fin cfg0.N, win0_6.index t = ![0, 0, 0] := by decide +kernel
theorem read6 (c : Dev nD) (t : Fin cfg0.N) (h : Fin 8) (i : Fin 64) (k : Fin 128) :
    iblk m c 6 t (ix3 (n0 := 8) (n1 := 64) (n2 := 128) h i k) = m ((c : Thread nD τ).loc main_arg6) (ix3 (n0 := 8) (n1 := 64) (n2 := 128) h i k) := by
  blk_ext [iblk, V, idx6 t, tok]
theorem idx7 : ∀ t : Fin cfg0.N, win0_7.index t = ![0, 0] := by decide +kernel
theorem read7 (c : Dev nD) (t : Fin cfg0.N) (r : Fin 512) (j : Fin 1024) :
    iblk m c 7 t (ix2 (n0 := 512) (n1 := 1024) r j) = m ((c : Thread nD τ).loc main_arg7) (ix2 (n0 := 512) (n1 := 1024) r j) := by
  blk_ext [iblk, V, idx7 t, tok]
theorem idx8 : ∀ t : Fin cfg0.N, win0_8.index t = ![0, 0, 0] := by decide +kernel
theorem idx9 : ∀ t : Fin cfg0.N, win0_9.index t = ![0, 0, 0] := by decide +kernel
theorem idx10 : ∀ t : Fin cfg0.N, win0_10.index t = ![0, 0] := by decide +kernel
theorem read10 (c : Dev nD) (t : Fin cfg0.N) (r : Fin 512) (j : Fin 1024) :
    iblk m c 10 t (ix2 (n0 := 512) (n1 := 1024) r j) = m ((c : Thread nD τ).loc main_arg10) (ix2 (n0 := 512) (n1 := 1024) r j) := by
  blk_ext [iblk, V, idx10 t, tok]
theorem idx11 : ∀ t : Fin cfg0.N, win0_11.index t = ![0, 0] := by decide +kernel
theorem read11 (c : Dev nD) (t : Fin cfg0.N) (r : Fin 1024) (j : Fin 1024) :
    iblk m c 11 t (ix2 (n0 := 1024) (n1 := 1024) r j) = m ((c : Thread nD τ).loc main_arg11) (ix2 (n0 := 1024) (n1 := 1024) r j) := by
  blk_ext [iblk, V, idx11 t, tok]
theorem idx12 : ∀ t : Fin cfg0.N, win0_12.index t = ![0, 0] := by decide +kernel
theorem read12 (c : Dev nD) (t : Fin cfg0.N) (r : Fin 1) (j : Fin 1024) :
    iblk m c 12 t (ix2 (n0 := 1) (n1 := 1024) r j) = m ((c : Thread nD τ).loc main_arg12) (ix2 (n0 := 1) (n1 := 1024) r j) := by
  blk_ext [iblk, V, idx12 t, tok]

theorem read9 (c : Dev nD) (t : Fin cfg0.N) (g : Fin 4) (i e : Fin 128) :
    iblk m c 9 t (ix3 (n0 := 4) (n1 := 128) (n2 := 128) g i e) = m ((c : Thread nD τ).loc main_arg9) (ix2 (n0 := 4) (n1 := 128) g i) := by
  have hi : ((cfg0.win 9).blk t).view.emb (ix3 (n0 := 4) (n1 := 128) (n2 := 128) g i e) = ix3 (n0 := 4) (n1 := 128) (n2 := 128) g i e := by
    blk_ext [idx9 t]
  show V m c main_v6 (((cfg0.win 9).blk t).view.emb (ix3 (n0 := 4) (n1 := 128) (n2 := 128) g i e)) = _
  rw [hi]
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise []

theorem read8 (c : Dev nD) (t : Fin cfg0.N) (g : Fin 4) (i e : Fin 128) :
    iblk m c 8 t (ix3 (n0 := 4) (n1 := 128) (n2 := 128) g i e) = Cert.Merge.masked (m ((c : Thread nD τ).loc main_arg8) (ix3 (n0 := 4) (n1 := 128) (n2 := 128) g i e)) i e := by
  have hi : ((cfg0.win 8).blk t).view.emb (ix3 (n0 := 4) (n1 := 128) (n2 := 128) g i e) = ix3 (n0 := 4) (n1 := 128) (n2 := 128) g i e := by
    blk_ext [idx8 t]
  show V m c main_v4 (((cfg0.win 8).blk t).view.emb (ix3 (n0 := 4) (n1 := 128) (n2 := 128) g i e)) = _
  rw [hi]
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise []
  rfl

/-- A token's row after the merge. -/
def x1At (c : Dev nD) (j : Fin 32768) (d : Fin 1024) : EReal :=
  Cert.Merge.mergedRow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) j d

/-- The rows after the merge. -/
def res1 (c : Dev nD) : Vec Ideal S32768x1024 .f32 := fun y => x1At m c (y 0) (y 1)
/-- The rows' second norm. -/
def res2 (c : Dev nD) : Vec Ideal S32768x1024 .bf16 := fun y =>
  normed (x1At m c (y 0)) (m ((c : Thread nD τ).loc main_arg12) (ix2 (n0 := 1) (n1 := 1024) 0 (y 1))) (y 1)

/-- A block's row is the token's row. -/
theorem row_eq (c : Dev nD) (t : Fin cfg0.N) (r : Fin 512) (d : Fin 1024) :
    rowOut (iblk m c 0 t) (iblk m c 1 t) (iblk m c 2 t) (iblk m c 3 t) (iblk m c 4 t) (iblk m c 5 t) (iblk m c 6 t) (iblk m c 7 t) (iblk m c 8 t)
        (iblk m c 10 t) (iblk m c 11 t) (fun g i => m ((c : Thread nD τ).loc main_arg9) (ix2 (n0 := 4) (n1 := 128) g i)) r d = x1At m c (tok t r) d := by
  have ht : t.val < 64 := Nat.lt_of_lt_of_eq t.isLt N_0
  unfold rowOut x1At Cert.Merge.mergedRow lat
  simp only [read0 m c t, read1 m c t, read2 m c t, read3 m c t, read4 m c t, read5 m c t, read6 m c t, read7 m c t, read8 m c t, read10 m c t, read11 m c t]
  have e1 (h : Fin 8) : (⟨4096 * t.val + (2048 * (r.val / 256) + 256 * h.val + r.val % 256), by omega⟩ : Fin 262144)
      = ⟨2048 * ((tok t r).val / 256) + 256 * h.val + (tok t r).val % 256, by have := (tok t r).isLt; omega⟩ := Fin.ext (by dsimp only [tok]; omega)
  have e2 (x : Fin 128) : tok t ⟨128 * (r.val / 128) + x.val, by omega⟩ = ⟨128 * ((tok t r).val / 128) + x.val, by have := (tok t r).isLt; omega⟩ :=
    Fin.ext (by dsimp only [tok]; omega)
  have e3 : (⟨r.val % 128, Nat.mod_lt _ (by decide)⟩ : Fin 128) = ⟨(tok t r).val % 128, Nat.mod_lt _ (by decide)⟩ := Fin.ext (by dsimp only [tok]; omega)
  simp only [e1, e2, e3]

theorem block15 (c : Dev nD) (t : Fin cfg0.N) (r : Fin 512) (d : Fin 1024) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
        (ix2 (n0 := 512) (n1 := 1024) r d) = x1At m c (tok t r) d :=
  (out15_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (fun g i => m ((c : Thread nD τ).loc main_arg9) (ix2 (n0 := 4) (n1 := 128) g i)) (read9 m c t) r d).trans (row_eq m c t r d)

theorem block16 (c : Dev nD) (t : Fin cfg0.N) (r : Fin 512) (d : Fin 1024) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
        (ix2 (n0 := 512) (n1 := 1024) r d) = normed (x1At m c (tok t r)) (m ((c : Thread nD τ).loc main_arg12) (ix2 (n0 := 1) (n1 := 1024) 0 d)) d :=
  (out16_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (fun g i => m ((c : Thread nD τ).loc main_arg9) (ix2 (n0 := 4) (n1 := 128) g i)) (read9 m c t) r d).trans
    ((congrArg (fun f => normed f _ _) (funext fun d => row_eq m c t r d)).trans (congrArg (fun z => normed _ z _) (read12 m c t 0 d)))

theorem idx15 : ∀ t : Fin cfg0.N, win0_15.index t = ![t.val, 0] := by decide +kernel
theorem idx16 : ∀ t : Fin cfg0.N, win0_16.index t = ![t.val, 0] := by decide +kernel

theorem array1 (c : Dev nD) : (dats m 0 c).arrAt 15 (cfg0.N) = res1 m c := by
  refine (dats m 0 c).arrAt_eq_of_covers 15 (res1 m c) (by decide +kernel) fun t hf y => ?_
  have e : ((cfg0.win 15).blk t).view.emb y = ix2 (n0 := 32768) (n1 := 1024) (tok t ⟨(y 0).val, (y 0).isLt⟩) ⟨(y 1).val, (y 1).isLt⟩ := by
    funext a
    refine Fin.ext ?_
    fin_cases a
    · blk_simp [idx15 t]
      show t.val * 512 + (y 0).val = 512 * t.val + (y 0).val
      omega
    · blk_simp [idx15 t]
      rfl
  refine Eq.trans ?_ ((block15 m c t _ _).trans (congrArg (res1 m c) e).symm)
  rw [after0_15]
  blk_simp
  refine congrArg (out0_15 _ _ _ _ _ _ _ _ _ _ _ _ _ _ _) ?_
  funext a
  fin_cases a <;> rfl

theorem array2 (c : Dev nD) : (dats m 0 c).arrAt 16 (cfg0.N) = res2 m c := by
  refine (dats m 0 c).arrAt_eq_of_covers 16 (res2 m c) (by decide +kernel) fun t hf y => ?_
  have e : ((cfg0.win 16).blk t).view.emb y = ix2 (n0 := 32768) (n1 := 1024) (tok t ⟨(y 0).val, (y 0).isLt⟩) ⟨(y 1).val, (y 1).isLt⟩ := by
    funext a
    refine Fin.ext ?_
    fin_cases a
    · blk_simp [idx16 t]
      show t.val * 512 + (y 0).val = 512 * t.val + (y 0).val
      omega
    · blk_simp [idx16 t]
      rfl
  refine Eq.trans ?_ ((block16 m c t _ _).trans (congrArg (res2 m c) e).symm)
  rw [after0_16]
  blk_simp
  refine congrArg (out0_16 _ _ _ _ _ _ _ _ _ _ _ _ _ _ _) ?_
  funext a
  fin_cases a <;> rfl

end Cert.Kernel2Ideal.Merge
-- ==== Proof.MixRef.lean ====
module

public import proofs.«01_k».proof.Proof.Merge
public import proofs.«01_k».proof.Proof.Out
public import proofs.«01_k».proof.Proof.Gen.Reference2Ideal.Run

@[expose] public section

set_option maxRecDepth 16384

noncomputable section

namespace Cert.Reference2Ideal.Merge

open Idealize.ShloMosaic Idealize.ShloMosaic.TcCoe Idealize.ShloMosaic.Pointwise Idealize.SL.Sem
open Cert.Reference2Ideal Cert.Reference2Ideal.Gen
open Cert.Moe (normed)
open Cert.Merge (heads spatial merged)

/-- The attention output's features: the value up-projection of the latents. -/
def values (w : FVec Ideal S8x64x128 .bf16) (o : FVec Ideal S128x262144 .bf16) : FVec Ideal S32768x512 .f32 :=
  shapeCast _ (transpose S32768x8x64 [2, 0, 1] (Host.dotGeneral dot_S8x64x128_S32768x8x128_S8x64x32768_2_2_1_0_0_1 none (extf .f32 w bitsLt_bf16_f32)
    (extf .f32 (shapeCast _ (transpose S128x256x8x128 [1, 3, 2, 0] (shapeCast _ o shapeCasts_S128x262144_S128x128x8x256) transposes_S128x128x8x256_S128x256x8x128_1_3_2_0)
      shapeCasts_S128x256x8x128_S32768x8x128) bitsLt_bf16_f32)) transposes_S8x64x32768_S32768x8x64_2_0_1) shapeCasts_S32768x8x64_S32768x512

theorem values_at (w : FVec Ideal S8x64x128 .bf16) (o : FVec Ideal S128x262144 .bf16) (j : Fin 32768) (q : Fin 512) :
    values w o (ix2 (n0 := 32768) (n1 := 512) j q)
      = heads (fun h i k => w (ix3 (n0 := 8) (n1 := 64) (n2 := 128) h i k))
          (fun h k => o (ix2 (n0 := 128) (n1 := 262144) k ⟨2048 * (j.val / 256) + 256 * h.val + j.val % 256, by omega⟩)) q := by
  pointwise [values]
  unfold heads
  refine Finset.sum_congr rfl fun k _ => congrArg (fun z : EReal => _ * z) (congrArg o (congrArg (ix2 (n0 := 128) (n1 := 262144) k) (Fin.ext ?_)))
  dsimp only
  omega

/-- The masked matrices of the spatial gate. -/
def lower (w : FVec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constantI S_ 1 1#1)) (broadcastInDim S128x128 ![] bcast_S_S128x128 (constantI S_ 1 0#1)))))
    w (broadcastInDim S4x128x128 ![] bcast_S_S4x128x128 (id (constant S_ .f32 0x00000000#32)))

theorem lower_at (w : FVec Ideal S4x128x128 .f32) (g : Fin 4) (i x : Fin 128) :
    lower w (ix3 (n0 := 4) (n1 := 128) (n2 := 128) g i x) = Cert.Merge.masked (w (ix3 (n0 := 4) (n1 := 128) (n2 := 128) g i x)) i x := by
  pointwise [lower]
  rfl

/-- The spatial gate of every token. -/
def gate (v : FVec Ideal S32768x512 .bf16) (w : FVec Ideal S4x128x128 .f32) (b : FVec Ideal S4x128 .f32) : FVec Ideal S32768x512 .f32 :=
  shapeCast _ (addf (transpose S256x128x4x128 [1, 3, 0, 2] (Host.dotGeneral dot_S256x128x4x128_S4x128x128_S4x256x128x128_1_2_03_1_2_0 none
    (shapeCast _ (extf .f32 v bitsLt_bf16_f32) shapeCasts_S32768x512_S256x128x4x128) w) transposes_S4x256x128x128_S256x128x4x128_1_3_0_2)
    (broadcastInDim S256x128x4x128 ![0, 1, 2, 3] bcast_S1x128x4x1_S256x128x4x128_0_1_2_3 (broadcastInDim S1x128x4x1 ![1, 2] bcast_S128x4_S1x128x4x1_1_2
      (transpose S128x4 [1, 0] b transposes_S4x128_S128x4_1_0)))) shapeCasts_S256x128x4x128_S32768x512

theorem gate_at (v : FVec Ideal S32768x512 .bf16) (w : FVec Ideal S4x128x128 .f32) (b : FVec Ideal S4x128 .f32) (j : Fin 32768) (q : Fin 512) :
    gate v w b (ix2 (n0 := 32768) (n1 := 512) j q)
      = spatial (fun g x => w (ix3 (n0 := 4) (n1 := 128) (n2 := 128) g ⟨j.val % 128, Nat.mod_lt _ (by decide)⟩ x))
          (fun x q => v (ix2 (n0 := 32768) (n1 := 512) ⟨128 * (j.val / 128) + x.val, by omega⟩ q))
          (fun g => b (ix2 (n0 := 4) (n1 := 128) g ⟨j.val % 128, Nat.mod_lt _ (by decide)⟩)) q := by
  pointwise [gate]
  unfold spatial
  refine congrArg (fun z : EReal => z + _) (Finset.sum_congr rfl fun x _ => (mul_comm _ _).trans (congrArg (fun z : EReal => _ * z) ?_))
  refine congrArg v (congrArg (fun z => ix2 (n0 := 32768) (n1 := 512) z q) (Fin.ext ?_))
  dsimp only
  omega

/-- The merged rows after the output projection. -/
def outer (x : FVec Ideal S32768x1024 .f32) (a s u : FVec Ideal S32768x512 .f32) (ga gb : FVec Ideal S32768x1024 .bf16)
    (pa pb : FVec Ideal S512x1024 .bf16) (o : FVec Ideal S1024x1024 .bf16) : FVec Ideal S32768x1024 .f32 :=
  addf x (Host.dotGeneral dot_S32768x1024_S1024x1024_S32768x1024_1_0_0_1_n_n none
    (addf (mulf (extf .f32 ga bitsLt_bf16_f32) (Host.dotGeneral dot_S32768x512_S512x1024_S32768x1024_1_0_0_1_n_n none a (extf .f32 pa bitsLt_bf16_f32)))
      (mulf (extf .f32 gb bitsLt_bf16_f32) (Host.dotGeneral dot_S32768x512_S512x1024_S32768x1024_1_0_0_1_n_n none (mulf u s) (extf .f32 pb bitsLt_bf16_f32))))
    (extf .f32 o bitsLt_bf16_f32))

theorem outer_at (x : FVec Ideal S32768x1024 .f32) (a s u : FVec Ideal S32768x512 .f32) (ga gb : FVec Ideal S32768x1024 .bf16)
    (pa pb : FVec Ideal S512x1024 .bf16) (o : FVec Ideal S1024x1024 .bf16) (j : Fin 32768) (d : Fin 1024) :
    outer x a s u ga gb pa pb o (ix2 (n0 := 32768) (n1 := 1024) j d)
      = (x (ix2 (n0 := 32768) (n1 := 1024) j d) : EReal) + ∑ e : Fin 1024,
        merged (fun q => a (ix2 (n0 := 32768) (n1 := 512) j q)) (fun q => s (ix2 (n0 := 32768) (n1 := 512) j q)) (fun q => u (ix2 (n0 := 32768) (n1 := 512) j q))
          (fun q => pa (ix2 (n0 := 512) (n1 := 1024) q e)) (fun q => pb (ix2 (n0 := 512) (n1 := 1024) q e))
          (ga (ix2 (n0 := 32768) (n1 := 1024) j e)) (gb (ix2 (n0 := 32768) (n1 := 1024) j e)) * o (ix2 (n0 := 1024) (n1 := 1024) e d) := by
  pointwise [outer]
  rfl

/-- The second norm of every row. -/
def norms (z : FVec Ideal S32768x1024 .f32) (g : FVec Ideal S1x1024 .f32) : FVec Ideal S32768x1024 .bf16 :=
  truncf .bf16 (mulf (mulf z (broadcastInDim S32768x1024 ![0, 1] bcast_S32768x1_S32768x1024_0_1 (Host.rsqrt (addf (Host.divf
    (broadcastInDim S32768x1 ![0] bcast_S32768_S32768x1_0 (Host.reduceAdd (mulf z z) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 g)) bitsLt_bf16_f32

theorem norms_at (z : FVec Ideal S32768x1024 .f32) (g : FVec Ideal S1x1024 .f32) (j : Fin 32768) (d : Fin 1024) :
    norms z g (ix2 (n0 := 32768) (n1 := 1024) j d)
      = normed (fun d => z (ix2 (n0 := 32768) (n1 := 1024) j d)) (g (ix2 (n0 := 1) (n1 := 1024) 0 d)) d := by
  pointwise [norms]
  rfl

/-- The merge's output rows. -/
def x1R (m : (ℓ : Loc nD τ sig) → Buf (Elt Ideal) ℓ) (c : Dev nD) : FVec Ideal S32768x1024 .f32 :=
  outer (m ((c.tc : Thread nD τ).loc main_arg0)) (values (m ((c.tc : Thread nD τ).loc main_arg6)) (m ((c.tc : Thread nD τ).loc main_arg1)))
    (gate (m ((c.tc : Thread nD τ).loc main_arg3)) (lower (m ((c.tc : Thread nD τ).loc main_arg8))) (m ((c.tc : Thread nD τ).loc main_arg9)))
    (extf .f32 (m ((c.tc : Thread nD τ).loc main_arg2)) bitsLt_bf16_f32) (m ((c.tc : Thread nD τ).loc main_arg4)) (m ((c.tc : Thread nD τ).loc main_arg5))
    (m ((c.tc : Thread nD τ).loc main_arg7)) (m ((c.tc : Thread nD τ).loc main_arg10)) (m ((c.tc : Thread nD τ).loc main_arg11))

theorem x1R_at (m : (ℓ : Loc nD τ sig) → Buf (Elt Ideal) ℓ) (c : Dev nD) (j : Fin 32768) (d : Fin 1024) :
    x1R m c (ix2 (n0 := 32768) (n1 := 1024) j d)
      = Cert.Merge.mergedRow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) j d := by
  unfold x1R Cert.Merge.mergedRow
  rw [outer_at]
  simp only [values_at, gate_at, lower_at]
  rfl

/-- The run ends with the merge's rows and their norm, the arguments unchanged. -/
theorem run_merge (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = x1R m c
      ∧ r.2.mem ((c.tc : Thread nD τ).loc main_v47) = norms (x1R m c) (m ((c.tc : Thread nD τ).loc main_arg12)) :=
  (θ_run _ _ _).mono (fun _ h c => ⟨(h c).1, (h c).2.1⟩) (Cert.Reference2Ideal.Value.run m ρ)

end Cert.Reference2Ideal.Merge
-- ==== Proof.MixSame.lean ====
module

public import proofs.«01_k».proof.Defs
public import proofs.«01_k».proof.Proof.Mix
public import proofs.«01_k».proof.Proof.MixRef
public import proofs.«01_k».proof.Proof.Gen.Kernel2.Frame
public import Idealize.ShloMosaic.Lib.Quiescent

@[expose] public section

set_option maxRecDepth 16384

noncomputable section

namespace Cert.Proof

open Idealize.ShloMosaic Idealize.SL.Sem

/-- The merge's kernel runs and leaves its arguments. -/
theorem frame_merge : Cert.quiescent_Kernel2 := fun m g _ => Cert.Kernel2.Gen.frame m g
theorem frame_merge_ideal : Cert.quiescent_Kernel2Ideal := fun m g _ => Cert.Kernel2Ideal.Gen.frame m g

/-- The merge's reference runs and leaves its arguments. -/
theorem frame_merge_reference : Cert.quiescent_Reference2Ideal := fun m g _ =>
  (θ_run _ _ _).mono (fun r h => ⟨fun c => (h c).2.2, sem_eq_zero_of_no_sems (by decide) r.2⟩) (Cert.Reference2Ideal.Value.run m g)

/-- The merge's kernel and reference end with equal rows and equal norms. -/
theorem same_merge : Cert.algebraic_Kernel2Ideal_Reference2Ideal := fun m g m' g' _ hargs => by
  refine ⟨Cert.Kernel2Ideal.Merge.res1 m, Cert.Kernel2Ideal.Merge.res2 m, ?_, ?_⟩
  · refine (θ_run _ _ _).mono (fun r h c => ⟨(h c).1.trans (Cert.Kernel2Ideal.Merge.array1 m c), (h c).2.1.trans (Cert.Kernel2Ideal.Merge.array2 m c), (h c).2.2.2.2⟩)
      (Cert.Kernel2Ideal.Value.run_blocks m g)
  · refine (θ_run _ _ _).mono (fun r h c => ⟨(h.1 c).1.trans ?_, (h.1 c).2.trans ?_, (h.2 c).2.2⟩)
      (θ_run_and (Cert.Reference2Ideal.Merge.run_merge m' g') (Cert.Reference2Ideal.Value.run m' g'))
    all_goals
      obtain ⟨h0, h1, h2, h3, h4, h5, h6, h7, h8, h9, h10, h11, h12, h13, h14⟩ := hargs c
      have hx (j : Fin 32768) (d : Fin 1024) := Cert.Reference2Ideal.Merge.x1R_at m' c j d
      simp only [h0, h1, h2, h3, h4, h5, h6, h7, h8, h9, h10, h11] at hx
      funext y
    · exact (congrArg _ (eq_ix2 y)).trans (hx _ _)
    · refine (congrArg _ (eq_ix2 y)).trans ((Cert.Reference2Ideal.Merge.norms_at _ _ _ _).trans ?_)
      rw [h12]
      exact congrArg (fun f => Cert.Moe.normed f _ _) (funext fun d => hx _ d)

end Cert.Proof
-- ==== Proof.Proj.lean ====
module

public import proofs.«01_k».proof.Proof.Out
public import proofs.«01_k».proof.Proof.Gen.Kernel3Ideal.Frame
public import Idealize.ShloMosaic.Lib.Pipeline.ValueKit

@[expose] public section

set_option maxRecDepth 16384

noncomputable section

namespace Cert.Proj

open Idealize.ShloMosaic Idealize.ShloMosaic.Pointwise

/-- A normed row times a column of a matrix. -/
def dot (h w : Fin 1024 → EReal) : EReal := ∑ k, h k * w k

/-- The first norm of a token's row. -/
def hid (x g : Fin 1024 → EReal) (k : Fin 1024) : EReal := Cert.Moe.normed x (g k) k

/-- A token's latents divided by their root mean square and scaled, at one rank. -/
def latent (c : Fin 128 → EReal) (g : EReal) (r : Fin 128) : EReal :=
  c r * Ideal.rsqrt (Ideal.div (∑ k, c k * c k) (Ideal.ofBits FTy.f32 0x43000000#32) + Ideal.ofBits FTy.f32 0x358637BD#32) * g

/-- The latents followed by a one and zeros. -/
def padded (c : Fin 128 → EReal) (i : Fin 144) : EReal :=
  if h : i.val < 128 then c ⟨i.val, h⟩ else if i.val < 129 then 1 else 0

/-- The tanh form of GELU. -/
def gelu (z : EReal) : EReal :=
  z * (Ideal.ofBits FTy.f32 0x3F000000#32 * (1
    + Ideal.tanh (Ideal.ofBits FTy.f32 0x3F4C422A#32 * (z + Ideal.ofBits FTy.f32 0x3D372713#32 * (z * (z * z))))))

/-- The mean of a row of 512. -/
def mean (v : Fin 512 → EReal) : EReal := Ideal.div (∑ k, v k) (Ideal.ofBits FTy.f32 0x44000000#32)

/-- A row's layer norm at one column. -/
def layerNorm (v : Fin 512 → EReal) (g b : EReal) (q : Fin 512) : EReal :=
  (v q - mean v) * Ideal.rsqrt (mean (fun k => (v k - mean v) * (v k - mean v)) + Ideal.ofBits FTy.f32 0x358637BD#32) * g + b

/-- A token's projection at one column: its normed row times the matrix. -/
def proj (x : (⟨2, ![32768, 1024]⟩ : Shape).Idx → EReal) (g : (⟨2, ![1, 1024]⟩ : Shape).Idx → EReal) (w : (⟨2, ![1024, 4296]⟩ : Shape).Idx → EReal)
    (j : Fin 32768) (o : Fin 4296) : EReal :=
  dot (hid (fun k => x (ix2 (n0 := 32768) (n1 := 1024) j k)) (fun k => g (ix2 (n0 := 1) (n1 := 1024) 0 k))) (fun k => w (ix2 (n0 := 1024) (n1 := 4296) k o))

/-- The token of a column in the layout by blocks of 256 tokens and heads. -/
def tokOf (q : Fin 262144) : Fin 32768 := ⟨256 * (q.val / 2048) + q.val % 256, by omega⟩
/-- The head of such a column. -/
def headOf (q : Fin 262144) : Fin 8 := ⟨q.val / 256 % 8, by omega⟩

/-- A token's scaled query in the latent space, of one head and rank. -/
def qlat (u : (⟨3, ![128, 8, 64]⟩ : Shape).Idx → EReal) (p : Fin 4296 → EReal) (h : Fin 8) (r : Fin 128) : EReal :=
  (∑ d : Fin 64, u (ix3 (n0 := 128) (n1 := 8) (n2 := 64) r h d) * p ⟨64 * h.val + d.val, by omega⟩) * Ideal.ofBits FTy.f32 0x3E38AA3B#32

/-- A token's latents from its projection. -/
def lat (g : (⟨2, ![1, 128]⟩ : Shape).Idx → EReal) (p : Fin 4296 → EReal) (r : Fin 128) : EReal :=
  latent (fun r => p ⟨512 + r.val, by omega⟩) (g (ix2 (n0 := 1) (n1 := 128) 0 r)) r

section
variable (p : Fin 32768 → Fin 4296 → EReal)

/-- The ten results, each from the tokens' projections. -/
def R0 (u : (⟨3, ![128, 8, 64]⟩ : Shape).Idx → EReal) : (⟨2, ![128, 262144]⟩ : Shape).Idx → EReal := fun y => qlat u (p (tokOf (y 1))) (headOf (y 1)) (y 0)
def R1 : (⟨2, ![64, 262144]⟩ : Shape).Idx → EReal := fun y => p (tokOf (y 1)) ⟨640 + (64 * (headOf (y 1)).val + (y 0).val), by
  have h0 : (y 0).val < 64 := (y 0).isLt
  have := (headOf (y 1)).isLt
  omega⟩
def R2 : (⟨2, ![1, 262144]⟩ : Shape).Idx → EReal := fun y => p (tokOf (y 1)) ⟨1216 + (headOf (y 1)).val, by omega⟩ * Ideal.ofBits FTy.f32 0x3D3504F3#32
def R3 (g : (⟨2, ![1, 128]⟩ : Shape).Idx → EReal) : (⟨2, ![144, 32768]⟩ : Shape).Idx → EReal := fun y => padded (lat g (p (y 1))) (y 0)
def R4 (g : (⟨2, ![1, 128]⟩ : Shape).Idx → EReal) : (⟨2, ![32768, 128]⟩ : Shape).Idx → EReal := fun y => lat g (p (y 0)) (y 1)
def R5 : (⟨2, ![32768, 64]⟩ : Shape).Idx → EReal := fun y => p (y 0) ⟨1152 + (y 1).val, by have h : (y 1).val < 64 := (y 1).isLt; omega⟩
def R6 : (⟨2, ![32768, 512]⟩ : Shape).Idx → EReal := fun y => gelu (p (y 0) ⟨1224 + (y 1).val, by have h : (y 1).val < 512 := (y 1).isLt; omega⟩)
def R7 (g b : (⟨2, ![1, 512]⟩ : Shape).Idx → EReal) : (⟨2, ![32768, 512]⟩ : Shape).Idx → EReal := fun y =>
  layerNorm (fun k => gelu (p (y 0) ⟨1736 + k.val, by omega⟩)) (g (ix2 (n0 := 1) (n1 := 512) 0 (y 1))) (b (ix2 (n0 := 1) (n1 := 512) 0 (y 1))) (y 1)
def R8 : (⟨2, ![32768, 1024]⟩ : Shape).Idx → EReal := fun y => Ideal.logistic (p (y 0) ⟨2248 + (y 1).val, by have h : (y 1).val < 1024 := (y 1).isLt; omega⟩)
def R9 : (⟨2, ![32768, 1024]⟩ : Shape).Idx → EReal := fun y => Ideal.logistic (p (y 0) ⟨3272 + (y 1).val, by have h : (y 1).val < 1024 := (y 1).isLt; omega⟩)
end

end Cert.Proj

namespace Cert.Kernel3Ideal.Proj

open Idealize.ShloMosaic Idealize.ShloMosaic.TcCoe Idealize.ShloMosaic.Pointwise
open Cert.Kernel3Ideal Cert.Kernel3Ideal.Gen
open Cert.Proj

theorem pay2_at (x : FVec Ideal S512x1024 .f32) (g : FVec Ideal S1x1024 .f32) (n : Fin 512) (k : Fin 1024) :
    k0_pay2 (F := Ideal) x g (ix2 (n0 := 512) (n1 := 1024) n k)
      = hid (fun k => x (ix2 (n0 := 512) (n1 := 1024) n k)) (fun k => g (ix2 (n0 := 1) (n1 := 1024) 0 k)) k := by
  pointwise [k0_pay2]
  rfl

theorem pay3_at (x : FVec Ideal S512x1024 .f32) (g : FVec Ideal S1x1024 .f32) (w : FVec Ideal S1160x1024 .bf16) (o : Fin 1160) (n : Fin 512) :
    k0_pay3 (F := Ideal) x g w (ix2 (n0 := 1160) (n1 := 512) o n)
      = dot (hid (fun k => x (ix2 (n0 := 512) (n1 := 1024) n k)) (fun k => g (ix2 (n0 := 1) (n1 := 1024) 0 k)))
          (fun k => w (ix2 (n0 := 1160) (n1 := 1024) o k)) := by
  pointwise [k0_pay3]
  unfold dot
  refine Finset.sum_congr rfl fun k _ => (mul_comm _ _).trans (congrArg (fun z : EReal => z * _) (pay2_at x g n k))

theorem pay4_at (x : FVec Ideal S512x1024 .f32) (g : FVec Ideal S1x1024 .f32) (w : FVec Ideal S1160x1024 .bf16) (o : Fin 512) (n : Fin 512) :
    k0_pay4 (F := Ideal) x g w (ix2 (n0 := 512) (n1 := 512) o n) = k0_pay3 (F := Ideal) x g w (ix2 (n0 := 1160) (n1 := 512) ⟨512 + o.val, by omega⟩ n) := by
  pointwise [k0_pay4]

theorem pay5_at (x : FVec Ideal S512x1024 .f32) (g : FVec Ideal S1x1024 .f32) (w : FVec Ideal S1160x1024 .bf16) (o : Fin 128) (n : Fin 512) :
    k0_pay5 (F := Ideal) x g w (ix2 (n0 := 128) (n1 := 512) o n) = k0_pay3 (F := Ideal) x g w (ix2 (n0 := 1160) (n1 := 512) ⟨1024 + o.val, by omega⟩ n) := by
  pointwise [k0_pay5]

theorem pay7_at (x : FVec Ideal S512x1024 .f32) (g : FVec Ideal S1x1024 .f32) (w : FVec Ideal S1160x1024 .bf16) (o : Fin 8) (n : Fin 512) :
    k0_pay7 (F := Ideal) x g w (ix2 (n0 := 8) (n1 := 512) o n)
      = (k0_pay3 (F := Ideal) x g w (ix2 (n0 := 1160) (n1 := 512) ⟨1152 + o.val, by omega⟩ n) : EReal) * Ideal.ofBits FTy.f32 0x3D3504F3#32 := by
  pointwise [k0_pay7]

theorem pay6_at (x : FVec Ideal S512x1024 .f32) (g : FVec Ideal S1x1024 .f32) (w : FVec Ideal S1160x1024 .bf16) (u : FVec Ideal S1024x512 .bf16)
    (o : Fin 1024) (n : Fin 512) :
    k0_pay6 (F := Ideal) x g w u (ix2 (n0 := 1024) (n1 := 512) o n)
      = (∑ e : Fin 512, (u (ix2 (n0 := 1024) (n1 := 512) o e) : EReal) * k0_pay3 (F := Ideal) x g w (ix2 (n0 := 1160) (n1 := 512) ⟨e.val, by omega⟩ n))
        * Ideal.ofBits FTy.f32 0x3E38AA3B#32 := by
  pointwise [k0_pay6]

theorem pay56_at (c : FVec Ideal S128x512 .f32) (g : FVec Ideal S128x1 .f32) (i : Fin 144) (n : Fin 512) :
    k0_pay56 (F := Ideal) c g (ix2 (n0 := 144) (n1 := 512) i n)
      = padded (fun r => latent (fun r => c (ix2 (n0 := 128) (n1 := 512) r n)) (g (ix2 (n0 := 128) (n1 := 1) r 0)) r) i := by
  pointwise [k0_pay56]
  unfold padded
  split_ifs <;> first | omega | rfl

theorem pay57_at (h : FVec Ideal S512x1024 .bf16) (w : FVec Ideal S1024x128 .bf16) (g : FVec Ideal S1x128 .f32) (n : Fin 512) (r : Fin 128) :
    k0_pay57 (F := Ideal) h w g (ix2 (n0 := 512) (n1 := 128) n r)
      = latent (fun r => dot (fun k => h (ix2 (n0 := 512) (n1 := 1024) n k)) (fun k => w (ix2 (n0 := 1024) (n1 := 128) k r)))
          (g (ix2 (n0 := 1) (n1 := 128) 0 r)) r := by
  pointwise [k0_pay57]
  rfl

theorem pay58_at (h : FVec Ideal S512x1024 .bf16) (w : FVec Ideal S1024x64 .bf16) (n : Fin 512) (r : Fin 64) :
    k0_pay58 (F := Ideal) h w (ix2 (n0 := 512) (n1 := 64) n r)
      = dot (fun k => h (ix2 (n0 := 512) (n1 := 1024) n k)) (fun k => w (ix2 (n0 := 1024) (n1 := 64) k r)) := by
  pointwise [k0_pay58]
  rfl

theorem pay59_at (h : FVec Ideal S512x1024 .bf16) (w : FVec Ideal S1024x512 .bf16) (n : Fin 512) (r : Fin 512) :
    k0_pay59 (F := Ideal) h w (ix2 (n0 := 512) (n1 := 512) n r)
      = gelu (dot (fun k => h (ix2 (n0 := 512) (n1 := 1024) n k)) (fun k => w (ix2 (n0 := 1024) (n1 := 512) k r))) := by
  pointwise [k0_pay59]
  rfl

theorem pay60_at (h : FVec Ideal S512x1024 .bf16) (w : FVec Ideal S1024x512 .bf16) (n : Fin 512) (r : Fin 512) :
    k0_pay60 (F := Ideal) h w (ix2 (n0 := 512) (n1 := 512) n r)
      = dot (fun k => h (ix2 (n0 := 512) (n1 := 1024) n k)) (fun k => w (ix2 (n0 := 1024) (n1 := 512) k r)) := by
  pointwise [k0_pay60]
  rfl

theorem pay62_at (h : FVec Ideal S512x1024 .bf16) (w : FVec Ideal S1024x512 .bf16) (g b : FVec Ideal S1x512 .f32) (n : Fin 512) (r : Fin 512) :
    k0_pay62 (F := Ideal) (k0_pay60 (F := Ideal) h w) (k0_pay61 (F := Ideal) h w) (Scalar.ofBits .f32 0x3F000000#32) g b (ix2 (n0 := 512) (n1 := 512) n r)
      = layerNorm (fun r => gelu (k0_pay60 (F := Ideal) h w (ix2 (n0 := 512) (n1 := 512) n r)))
          (g (ix2 (n0 := 1) (n1 := 512) 0 r)) (b (ix2 (n0 := 1) (n1 := 512) 0 r)) r := by
  pointwise [k0_pay62, k0_pay61]
  rfl

theorem pay63_at (h : FVec Ideal S512x1024 .bf16) (w : FVec Ideal S1024x1024 .bf16) (n : Fin 512) (r : Fin 1024) :
    k0_pay63 (F := Ideal) h w (ix2 (n0 := 512) (n1 := 1024) n r)
      = Ideal.logistic (dot (fun k => h (ix2 (n0 := 512) (n1 := 1024) n k)) (fun k => w (ix2 (n0 := 1024) (n1 := 1024) k r))) := by
  pointwise [k0_pay63]
  rfl

theorem pay64_at (h : FVec Ideal S512x1024 .bf16) (w : FVec Ideal S1024x1024 .bf16) (n : Fin 512) (r : Fin 1024) :
    k0_pay1 (F := Ideal) (k0_pay64 (F := Ideal) h w) (ix2 (n0 := 512) (n1 := 1024) n r)
      = Ideal.logistic (dot (fun k => h (ix2 (n0 := 512) (n1 := 1024) n k)) (fun k => w (ix2 (n0 := 1024) (n1 := 1024) k r))) := by
  pointwise [k0_pay1, k0_pay64]
  rfl

end Cert.Kernel3Ideal.Proj
-- ==== Proof.ProjOut.lean ====
module

public import proofs.«01_k».proof.Proof.Proj

@[expose] public section

set_option maxRecDepth 16384

noncomputable section

namespace Cert.Kernel3Ideal.Proj

open Idealize.ShloMosaic Idealize.ShloMosaic.TcCoe Idealize.ShloMosaic.Pointwise
open Cert.Kernel3Ideal Cert.Kernel3Ideal.Gen
open Cert.Proj

theorem full0 (t : EltTy) (x : Vec Ideal S512x1024 t) : View.ld x r0_0 = x := by
  funext y
  refine congrArg x (funext fun a => Fin.ext ?_)
  fin_cases a <;> first | (show 0 + 1 * (y 0).val = (y 0).val; omega) | (show 0 + 1 * (y 1).val = (y 1).val; omega)
theorem full1 (t : EltTy) (x : Vec Ideal S1x1024 t) : View.ld x r0_1 = x := by
  funext y
  refine congrArg x (funext fun a => Fin.ext ?_)
  fin_cases a <;> first | (show 0 + 1 * (y 0).val = (y 0).val; omega) | (show 0 + 1 * (y 1).val = (y 1).val; omega)
theorem full2 (t : EltTy) (x : Vec Ideal S1160x1024 t) : View.ld x r0_2 = x := by
  funext y
  refine congrArg x (funext fun a => Fin.ext ?_)
  fin_cases a <;> first | (show 0 + 1 * (y 0).val = (y 0).val; omega) | (show 0 + 1 * (y 1).val = (y 1).val; omega)
theorem full3 (t : EltTy) (x : Vec Ideal S1024x512 t) : View.ld x r0_3 = x := by
  funext y
  refine congrArg x (funext fun a => Fin.ext ?_)
  fin_cases a <;> first | (show 0 + 1 * (y 0).val = (y 0).val; omega) | (show 0 + 1 * (y 1).val = (y 1).val; omega)
theorem full52 (t : EltTy) (x : Vec Ideal S128x1 t) : View.ld x r0_52 = x := by
  funext y
  refine congrArg x (funext fun a => Fin.ext ?_)
  fin_cases a <;> first | (show 0 + 1 * (y 0).val = (y 0).val; omega) | (show 0 + 1 * (y 1).val = (y 1).val; omega)
theorem full54 (t : EltTy) (x : Vec Ideal S1024x128 t) : View.ld x r0_54 = x := by
  funext y
  refine congrArg x (funext fun a => Fin.ext ?_)
  fin_cases a <;> first | (show 0 + 1 * (y 0).val = (y 0).val; omega) | (show 0 + 1 * (y 1).val = (y 1).val; omega)
theorem full55 (t : EltTy) (x : Vec Ideal S1x128 t) : View.ld x r0_55 = x := by
  funext y
  refine congrArg x (funext fun a => Fin.ext ?_)
  fin_cases a <;> first | (show 0 + 1 * (y 0).val = (y 0).val; omega) | (show 0 + 1 * (y 1).val = (y 1).val; omega)
theorem full57 (t : EltTy) (x : Vec Ideal S1024x64 t) : View.ld x r0_57 = x := by
  funext y
  refine congrArg x (funext fun a => Fin.ext ?_)
  fin_cases a <;> first | (show 0 + 1 * (y 0).val = (y 0).val; omega) | (show 0 + 1 * (y 1).val = (y 1).val; omega)
theorem full60 (t : EltTy) (x : Vec Ideal S1x512 t) : View.ld x r0_60 = x := by
  funext y
  refine congrArg x (funext fun a => Fin.ext ?_)
  fin_cases a <;> first | (show 0 + 1 * (y 0).val = (y 0).val; omega) | (show 0 + 1 * (y 1).val = (y 1).val; omega)
theorem full61 (t : EltTy) (x : Vec Ideal S1024x1024 t) : View.ld x r0_61 = x := by
  funext y
  refine congrArg x (funext fun a => Fin.ext ?_)
  fin_cases a <;> first | (show 0 + 1 * (y 0).val = (y 0).val; omega) | (show 0 + 1 * (y 1).val = (y 1).val; omega)

variable (x0 : Vec Ideal S512x1024 .f32) (x1 : Vec Ideal S1x1024 .f32) (x2 : Vec Ideal S1160x1024 .bf16) (x3 : Vec Ideal S1024x512 .bf16)
  (x4 : Vec Ideal S128x1 .f32) (x5 : Vec Ideal S1024x128 .bf16) (x6 : Vec Ideal S1x128 .f32) (x7 : Vec Ideal S1024x64 .bf16)
  (x8 : Vec Ideal S1024x512 .bf16) (x9 : Vec Ideal S1024x512 .bf16) (x10 : Vec Ideal S1x512 .f32) (x11 : Vec Ideal S1x512 .f32)
  (x12 : Vec Ideal S1024x1024 .bf16) (x13 : Vec Ideal S1024x1024 .bf16)

set_option maxHeartbeats 2000000 in
theorem out14_at (r : Fin 128) (q : Fin 4096) :
    out0_14 x0 x1 x2 x3 x4 x5 x6 x7 x8 x9 x10 x11 x12 x13 (ix2 (n0 := 128) (n1 := 4096) r q)
      = k0_pay6 (F := Ideal) (View.ld x0 r0_0) (View.ld x1 r0_1) (View.ld x2 r0_2) (View.ld x3 r0_3)
          (ix2 (n0 := 1024) (n1 := 512) ⟨128 * (q.val / 256 % 8) + r.val, by omega⟩ ⟨256 * (q.val / 2048) + q.val % 256, by omega⟩) := by
  canon_tiles x h
  all_goals
    dsimp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay66, k0_pay67, k0_pay68]
    generalize k0_pay6 (F := Ideal) (View.ld x0 r0_0) (View.ld x1 r0_1) (View.ld x2 r0_2) (View.ld x3 r0_3) = V
    refine congrArg V (funext fun a => Fin.ext ?_)
    change r.val = _ at h0
    change q.val = _ at h1
    fin_cases a
    · show _ + (x 0).val = 128 * (q.val / 256 % 8) + r.val
      dsimp
      omega
    · show _ + (x 1).val = 256 * (q.val / 2048) + q.val % 256
      dsimp
      omega

set_option maxHeartbeats 2000000 in
theorem out15_at (i : Fin 64) (q : Fin 4096) :
    out0_15 x0 x1 x2 x3 x4 x5 x6 x7 x8 x9 x10 x11 x12 x13 (ix2 (n0 := 64) (n1 := 4096) i q)
      = k0_pay4 (F := Ideal) (View.ld x0 r0_0) (View.ld x1 r0_1) (View.ld x2 r0_2)
          (ix2 (n0 := 512) (n1 := 512) ⟨64 * (q.val / 256 % 8) + i.val, by omega⟩ ⟨256 * (q.val / 2048) + q.val % 256, by omega⟩) := by
  canon_tiles x h
  all_goals
    dsimp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay66, k0_pay67, k0_pay68]
    generalize k0_pay4 (F := Ideal) (View.ld x0 r0_0) (View.ld x1 r0_1) (View.ld x2 r0_2) = V
    refine congrArg V (funext fun a => Fin.ext ?_)
    change i.val = _ at h0
    change q.val = _ at h1
    fin_cases a
    · show _ + (x 0).val = 64 * (q.val / 256 % 8) + i.val
      dsimp
      omega
    · show _ + (x 1).val = 256 * (q.val / 2048) + q.val % 256
      dsimp
      omega

set_option maxHeartbeats 2000000 in
theorem out16_at (q : Fin 4096) :
    out0_16 x0 x1 x2 x3 x4 x5 x6 x7 x8 x9 x10 x11 x12 x13 (ix2 (n0 := 1) (n1 := 4096) 0 q)
      = k0_pay7 (F := Ideal) (View.ld x0 r0_0) (View.ld x1 r0_1) (View.ld x2 r0_2)
          (ix2 (n0 := 8) (n1 := 512) ⟨q.val / 256 % 8, by omega⟩ ⟨256 * (q.val / 2048) + q.val % 256, by omega⟩) := by
  canon_tiles x h
  all_goals
    dsimp only [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay66, k0_pay67, k0_pay68]
    generalize k0_pay7 (F := Ideal) (View.ld x0 r0_0) (View.ld x1 r0_1) (View.ld x2 r0_2) = V
    refine congrArg V (funext fun a => Fin.ext ?_)
    change q.val = _ at h1
    fin_cases a
    · show _ + (x 0).val = q.val / 256 % 8
      dsimp
      omega
    · show _ + (x 1).val = 256 * (q.val / 2048) + q.val % 256
      dsimp
      omega

theorem out17_at (i : Fin 144) (n : Fin 512) :
    out0_17 x0 x1 x2 x3 x4 x5 x6 x7 x8 x9 x10 x11 x12 x13 (ix2 (n0 := 144) (n1 := 512) i n)
      = padded (fun r => latent (fun r => k0_pay5 (F := Ideal) x0 x1 x2 (ix2 (n0 := 128) (n1 := 512) r n)) (x4 (ix2 (n0 := 128) (n1 := 1) r 0)) r) i := by
  refine (congrFun (View.canon_cons_unit_lit _ _ _ (by intro a; fin_cases a <;> rfl)) _).trans ?_
  simp only [k0_pay65, full0, full1, full2, full3, full52, full54, full55, full57, full60, full61]
  exact pay56_at _ _ _ _

theorem out18_at (n : Fin 512) (r : Fin 128) :
    out0_18 x0 x1 x2 x3 x4 x5 x6 x7 x8 x9 x10 x11 x12 x13 (ix2 (n0 := 512) (n1 := 128) n r)
      = latent (fun r => dot (hid (fun k => x0 (ix2 (n0 := 512) (n1 := 1024) n k)) (fun k => x1 (ix2 (n0 := 1) (n1 := 1024) 0 k))) (fun k => x5 (ix2 (n0 := 1024) (n1 := 128) k r))) (x6 (ix2 (n0 := 1) (n1 := 128) 0 r)) r := by
  refine (congrFun (View.canon_cons_unit_lit _ _ _ (by intro a; fin_cases a <;> rfl)) _).trans ?_
  simp only [k0_pay65, full0, full1, full2, full3, full52, full54, full55, full57, full60, full61]
  exact (pay57_at _ _ _ _ _).trans (by simp only [pay2_at])

theorem out19_at (n : Fin 512) (r : Fin 64) :
    out0_19 x0 x1 x2 x3 x4 x5 x6 x7 x8 x9 x10 x11 x12 x13 (ix2 (n0 := 512) (n1 := 64) n r)
      = dot (hid (fun k => x0 (ix2 (n0 := 512) (n1 := 1024) n k)) (fun k => x1 (ix2 (n0 := 1) (n1 := 1024) 0 k))) (fun k => x7 (ix2 (n0 := 1024) (n1 := 64) k r)) := by
  refine (congrFun (View.canon_cons_unit_lit _ _ _ (by intro a; fin_cases a <;> rfl)) _).trans ?_
  simp only [k0_pay65, full0, full1, full2, full3, full52, full54, full55, full57, full60, full61]
  exact (pay58_at _ _ _ _).trans (by simp only [pay2_at])

theorem out20_at (n : Fin 512) (r : Fin 512) :
    out0_20 x0 x1 x2 x3 x4 x5 x6 x7 x8 x9 x10 x11 x12 x13 (ix2 (n0 := 512) (n1 := 512) n r)
      = gelu (dot (hid (fun k => x0 (ix2 (n0 := 512) (n1 := 1024) n k)) (fun k => x1 (ix2 (n0 := 1) (n1 := 1024) 0 k))) (fun k => x8 (ix2 (n0 := 1024) (n1 := 512) k r))) := by
  refine (congrFun (View.canon_cons_unit_lit _ _ _ (by intro a; fin_cases a <;> rfl)) _).trans ?_
  simp only [k0_pay65, full0, full1, full2, full3, full52, full54, full55, full57, full60, full61]
  exact (pay59_at _ _ _ _).trans (by simp only [pay2_at])

theorem out21_at (n : Fin 512) (r : Fin 512) :
    out0_21 x0 x1 x2 x3 x4 x5 x6 x7 x8 x9 x10 x11 x12 x13 (ix2 (n0 := 512) (n1 := 512) n r)
      = layerNorm (fun r => gelu (dot (hid (fun k => x0 (ix2 (n0 := 512) (n1 := 1024) n k)) (fun k => x1 (ix2 (n0 := 1) (n1 := 1024) 0 k))) (fun k => x9 (ix2 (n0 := 1024) (n1 := 512) k r)))) (x10 (ix2 (n0 := 1) (n1 := 512) 0 r)) (x11 (ix2 (n0 := 1) (n1 := 512) 0 r)) r := by
  refine (congrFun (View.canon_cons_unit_lit _ _ _ (by intro a; fin_cases a <;> rfl)) _).trans ?_
  simp only [k0_pay65, full0, full1, full2, full3, full52, full54, full55, full57, full60, full61]
  exact (pay62_at _ _ _ _ _ _).trans (by simp only [pay60_at, pay2_at])

theorem out22_at (n : Fin 512) (r : Fin 1024) :
    out0_22 x0 x1 x2 x3 x4 x5 x6 x7 x8 x9 x10 x11 x12 x13 (ix2 (n0 := 512) (n1 := 1024) n r)
      = Ideal.logistic (dot (hid (fun k => x0 (ix2 (n0 := 512) (n1 := 1024) n k)) (fun k => x1 (ix2 (n0 := 1) (n1 := 1024) 0 k))) (fun k => x12 (ix2 (n0 := 1024) (n1 := 1024) k r))) := by
  refine (congrFun (View.canon_cons_unit_lit _ _ _ (by intro a; fin_cases a <;> rfl)) _).trans ?_
  simp only [k0_pay65, full0, full1, full2, full3, full52, full54, full55, full57, full60, full61]
  exact (pay63_at _ _ _ _).trans (by simp only [pay2_at])

theorem out23_at (n : Fin 512) (r : Fin 1024) :
    out0_23 x0 x1 x2 x3 x4 x5 x6 x7 x8 x9 x10 x11 x12 x13 (ix2 (n0 := 512) (n1 := 1024) n r)
      = Ideal.logistic (dot (hid (fun k => x0 (ix2 (n0 := 512) (n1 := 1024) n k)) (fun k => x1 (ix2 (n0 := 1) (n1 := 1024) 0 k))) (fun k => x13 (ix2 (n0 := 1024) (n1 := 1024) k r))) := by
  refine (congrFun (View.canon_cons_unit_lit _ _ _ (by intro a; fin_cases a <;> rfl)) _).trans ?_
  simp only [k0_pay65, full0, full1, full2, full3, full52, full54, full55, full57, full60, full61]
  exact (pay64_at _ _ _ _).trans (by simp only [pay2_at])

end Cert.Kernel3Ideal.Proj
-- ==== Proof.ProjIn.lean ====
module

public import proofs.«01_k».proof.Proof.ProjOut
public import proofs.«01_k».proof.Proof.Gen.Kernel3Ideal.Value

@[expose] public section

set_option maxRecDepth 16384

noncomputable section

namespace Cert.Kernel3Ideal.Proj

open Idealize.ShloMosaic Idealize.ShloMosaic.TcCoe Idealize.ShloMosaic.Pointwise Idealize.SL.Sem
open Cert.Kernel3Ideal Cert.Kernel3Ideal.Gen
open Cert.Proj

variable (m : (ℓ : Loc nD τ sig) → Buf (Elt Ideal) ℓ)

/-- A token of a block as a row of the whole arrays. -/
def tok (t : Fin cfg0.N) (r : Fin 512) : Fin 32768 := ⟨512 * t.val + r.val, by
  have ht : t.val < 64 := Nat.lt_of_lt_of_eq t.isLt N_0
  omega⟩

theorem idx0 : ∀ t : Fin cfg0.N, win0_0.index t = ![t.val, 0] := by decide +kernel
theorem read0 (c : Dev nD) (t : Fin cfg0.N) (r : Fin 512) (j : Fin 1024) :
    iblk m c 0 t (ix2 (n0 := 512) (n1 := 1024) r j) = m ((c : Thread nD τ).loc main_arg0) (ix2 (n0 := 32768) (n1 := 1024) (tok t r) j) := by
  blk_ext [iblk, V, idx0 t, tok]
theorem idx1 : ∀ t : Fin cfg0.N, win0_1.index t = ![0, 0] := by decide +kernel
theorem read1 (c : Dev nD) (t : Fin cfg0.N) (r : Fin 1) (j : Fin 1024) :
    iblk m c 1 t (ix2 (n0 := 1) (n1 := 1024) r j) = m ((c : Thread nD τ).loc main_arg1) (ix2 (n0 := 1) (n1 := 1024) r j) := by
  blk_ext [iblk, V, idx1 t, tok]
theorem idx6 : ∀ t : Fin cfg0.N, win0_6.index t = ![0, 0] := by decide +kernel
theorem read6 (c : Dev nD) (t : Fin cfg0.N) (r : Fin 1) (j : Fin 128) :
    iblk m c 6 t (ix2 (n0 := 1) (n1 := 128) r j) = m ((c : Thread nD τ).loc main_arg3) (ix2 (n0 := 1) (n1 := 128) r j) := by
  blk_ext [iblk, V, idx6 t, tok]
theorem idx10 : ∀ t : Fin cfg0.N, win0_10.index t = ![0, 0] := by decide +kernel
theorem read10 (c : Dev nD) (t : Fin cfg0.N) (r : Fin 1) (j : Fin 512) :
    iblk m c 10 t (ix2 (n0 := 1) (n1 := 512) r j) = m ((c : Thread nD τ).loc main_arg5) (ix2 (n0 := 1) (n1 := 512) r j) := by
  blk_ext [iblk, V, idx10 t, tok]
theorem idx11 : ∀ t : Fin cfg0.N, win0_11.index t = ![0, 0] := by decide +kernel
theorem read11 (c : Dev nD) (t : Fin cfg0.N) (r : Fin 1) (j : Fin 512) :
    iblk m c 11 t (ix2 (n0 := 1) (n1 := 512) r j) = m ((c : Thread nD τ).loc main_arg6) (ix2 (n0 := 1) (n1 := 512) r j) := by
  blk_ext [iblk, V, idx11 t, tok]

/-- The column of the projection's matrix in a row of the transposed part. -/
def col (o : Fin 1160) : Fin 4296 :=
  ⟨if o.val < 512 then o.val else if o.val < 1024 then o.val + 128 else if o.val < 1152 then o.val - 512 else o.val + 64, by split_ifs <;> omega⟩

/-- The block diagonal matrix of the key up-projection. -/
def diag (u : Vec Ideal S128x8x64 .f32) (r : Fin 1024) (j : Fin 512) : EReal :=
  (if r.val / 128 = j.val / 64 then 1 else 0) * u (ix3 (n0 := 128) (n1 := 8) (n2 := 64) ⟨r.val % 128, Nat.mod_lt _ (by decide)⟩ ⟨r.val / 128, by omega⟩ ⟨j.val % 64, Nat.mod_lt _ (by decide)⟩)

theorem eye_word : ∀ a b : Fin 8, IntOp.cmpi CmpIPredicate.eq (IntOp.addi (BitVec.ofNat 32 a.val) 0#32) (BitVec.ofNat 32 b.val) = if a.val = b.val then 1#1 else 0#1 := by
  decide +kernel
theorem one_word : (FloatOps.uitofp (F := Ideal) FTy.f32 (1#1 : BitVec 1) : EReal) = 1 := by
  show (((1#1 : BitVec 1).toNat : ℝ) : EReal) = 1
  norm_num
theorem zero_word : (FloatOps.uitofp (F := Ideal) FTy.f32 (0#1 : BitVec 1) : EReal) = 0 := by
  show (((0#1 : BitVec 1).toNat : ℝ) : EReal) = 0
  norm_num

theorem idx2 : ∀ t : Fin cfg0.N, win0_2.index t = ![0, 0] := by decide +kernel
theorem read2 (c : Dev nD) (t : Fin cfg0.N) (r : Fin 1160) (j : Fin 1024) :
    iblk m c 2 t (ix2 (n0 := 1160) (n1 := 1024) r j) = m ((c : Thread nD τ).loc main_arg2) (ix2 (n0 := 1024) (n1 := 4296) j (col r)) := by
  have hi : ((cfg0.win 2).blk t).view.emb (ix2 (n0 := 1160) (n1 := 1024) r j) = ix2 (n0 := 1160) (n1 := 1024) r j := by
    blk_ext [idx2 t]
  show V m c main_v11 (((cfg0.win 2).blk t).view.emb (ix2 (n0 := 1160) (n1 := 1024) r j)) = _
  rw [hi]
  show StableHlo.after hostOps0 _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise []
  split_ifs
  all_goals
    after_results_simp
    pointwise []
    refine congrArg (m (c, Proc.tc.devRef main_arg2)) (congrArg (ix2 (n0 := 1024) (n1 := 4296) j) (Fin.ext ?_))
    unfold col
    dsimp only
    split_ifs <;> omega
theorem idx3 : ∀ t : Fin cfg0.N, win0_3.index t = ![0, 0] := by decide +kernel
theorem read3 (c : Dev nD) (t : Fin cfg0.N) (r : Fin 1024) (j : Fin 512) :
    iblk m c 3 t (ix2 (n0 := 1024) (n1 := 512) r j) = diag (m ((c : Thread nD τ).loc main_arg4)) r j := by
  have hi : ((cfg0.win 3).blk t).view.emb (ix2 (n0 := 1024) (n1 := 512) r j) = ix2 (n0 := 1024) (n1 := 512) r j := by
    blk_ext [idx3 t]
  show V m c main_v25 (((cfg0.win 3).blk t).view.emb (ix2 (n0 := 1024) (n1 := 512) r j)) = _
  rw [hi]
  show StableHlo.after hostOps0 _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise []
  unfold diag
  refine congrArg (fun z : EReal => z * _) ?_
  refine (congrArg (fun w => (FloatOps.uitofp (F := Ideal) FTy.f32 w : EReal)) (eye_word ⟨r.val / 128, by omega⟩ ⟨j.val / 64, by omega⟩)).trans ?_
  dsimp only
  split_ifs
  · exact one_word
  · exact zero_word
theorem idx4 : ∀ t : Fin cfg0.N, win0_4.index t = ![0, 0] := by decide +kernel
theorem read4 (c : Dev nD) (t : Fin cfg0.N) (r : Fin 128) (j : Fin 1) :
    iblk m c 4 t (ix2 (n0 := 128) (n1 := 1) r j) = m ((c : Thread nD τ).loc main_arg3) (ix2 (n0 := 1) (n1 := 128) 0 r) := by
  have hi : ((cfg0.win 4).blk t).view.emb (ix2 (n0 := 128) (n1 := 1) r j) = ix2 (n0 := 128) (n1 := 1) r j := by
    blk_ext [idx4 t]
  show V m c main_v26 (((cfg0.win 4).blk t).view.emb (ix2 (n0 := 128) (n1 := 1) r j)) = _
  rw [hi]
  show StableHlo.after hostOps0 _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise []
theorem idx5 : ∀ t : Fin cfg0.N, win0_5.index t = ![0, 0] := by decide +kernel
theorem read5 (c : Dev nD) (t : Fin cfg0.N) (r : Fin 1024) (j : Fin 128) :
    iblk m c 5 t (ix2 (n0 := 1024) (n1 := 128) r j) = m ((c : Thread nD τ).loc main_arg2) (ix2 (n0 := 1024) (n1 := 4296) r ⟨512 + j.val, by omega⟩) := by
  have hi : ((cfg0.win 5).blk t).view.emb (ix2 (n0 := 1024) (n1 := 128) r j) = ix2 (n0 := 1024) (n1 := 128) r j := by
    blk_ext [idx5 t]
  show V m c main_v2 (((cfg0.win 5).blk t).view.emb (ix2 (n0 := 1024) (n1 := 128) r j)) = _
  rw [hi]
  show StableHlo.after hostOps0 _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise []
theorem idx7 : ∀ t : Fin cfg0.N, win0_7.index t = ![0, 0] := by decide +kernel
theorem read7 (c : Dev nD) (t : Fin cfg0.N) (r : Fin 1024) (j : Fin 64) :
    iblk m c 7 t (ix2 (n0 := 1024) (n1 := 64) r j) = m ((c : Thread nD τ).loc main_arg2) (ix2 (n0 := 1024) (n1 := 4296) r ⟨1152 + j.val, by omega⟩) := by
  have hi : ((cfg0.win 7).blk t).view.emb (ix2 (n0 := 1024) (n1 := 64) r j) = ix2 (n0 := 1024) (n1 := 64) r j := by
    blk_ext [idx7 t]
  show V m c main_v4 (((cfg0.win 7).blk t).view.emb (ix2 (n0 := 1024) (n1 := 64) r j)) = _
  rw [hi]
  show StableHlo.after hostOps0 _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise []
theorem idx8 : ∀ t : Fin cfg0.N, win0_8.index t = ![0, 0] := by decide +kernel
theorem read8 (c : Dev nD) (t : Fin cfg0.N) (r : Fin 1024) (j : Fin 512) :
    iblk m c 8 t (ix2 (n0 := 1024) (n1 := 512) r j) = m ((c : Thread nD τ).loc main_arg2) (ix2 (n0 := 1024) (n1 := 4296) r ⟨1224 + j.val, by omega⟩) := by
  have hi : ((cfg0.win 8).blk t).view.emb (ix2 (n0 := 1024) (n1 := 512) r j) = ix2 (n0 := 1024) (n1 := 512) r j := by
    blk_ext [idx8 t]
  show V m c main_v6 (((cfg0.win 8).blk t).view.emb (ix2 (n0 := 1024) (n1 := 512) r j)) = _
  rw [hi]
  show StableHlo.after hostOps0 _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise []
theorem idx9 : ∀ t : Fin cfg0.N, win0_9.index t = ![0, 0] := by decide +kernel
theorem read9 (c : Dev nD) (t : Fin cfg0.N) (r : Fin 1024) (j : Fin 512) :
    iblk m c 9 t (ix2 (n0 := 1024) (n1 := 512) r j) = m ((c : Thread nD τ).loc main_arg2) (ix2 (n0 := 1024) (n1 := 4296) r ⟨1736 + j.val, by omega⟩) := by
  have hi : ((cfg0.win 9).blk t).view.emb (ix2 (n0 := 1024) (n1 := 512) r j) = ix2 (n0 := 1024) (n1 := 512) r j := by
    blk_ext [idx9 t]
  show V m c main_v7 (((cfg0.win 9).blk t).view.emb (ix2 (n0 := 1024) (n1 := 512) r j)) = _
  rw [hi]
  show StableHlo.after hostOps0 _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise []
theorem idx12 : ∀ t : Fin cfg0.N, win0_12.index t = ![0, 0] := by decide +kernel
theorem read12 (c : Dev nD) (t : Fin cfg0.N) (r : Fin 1024) (j : Fin 1024) :
    iblk m c 12 t (ix2 (n0 := 1024) (n1 := 1024) r j) = m ((c : Thread nD τ).loc main_arg2) (ix2 (n0 := 1024) (n1 := 4296) r ⟨2248 + j.val, by omega⟩) := by
  have hi : ((cfg0.win 12).blk t).view.emb (ix2 (n0 := 1024) (n1 := 1024) r j) = ix2 (n0 := 1024) (n1 := 1024) r j := by
    blk_ext [idx12 t]
  show V m c main_v8 (((cfg0.win 12).blk t).view.emb (ix2 (n0 := 1024) (n1 := 1024) r j)) = _
  rw [hi]
  show StableHlo.after hostOps0 _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise []
theorem idx13 : ∀ t : Fin cfg0.N, win0_13.index t = ![0, 0] := by decide +kernel
theorem read13 (c : Dev nD) (t : Fin cfg0.N) (r : Fin 1024) (j : Fin 1024) :
    iblk m c 13 t (ix2 (n0 := 1024) (n1 := 1024) r j) = m ((c : Thread nD τ).loc main_arg2) (ix2 (n0 := 1024) (n1 := 4296) r ⟨3272 + j.val, by omega⟩) := by
  have hi : ((cfg0.win 13).blk t).view.emb (ix2 (n0 := 1024) (n1 := 1024) r j) = ix2 (n0 := 1024) (n1 := 1024) r j := by
    blk_ext [idx13 t]
  show V m c main_v9 (((cfg0.win 13).blk t).view.emb (ix2 (n0 := 1024) (n1 := 1024) r j)) = _
  rw [hi]
  show StableHlo.after hostOps0 _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise []

end Cert.Kernel3Ideal.Proj
-- ==== Proof.ProjArr.lean ====
module

public import proofs.«01_k».proof.Proof.ProjIn

@[expose] public section

set_option maxRecDepth 16384

noncomputable section

namespace Cert.Kernel3Ideal.Proj

open Idealize.ShloMosaic Idealize.ShloMosaic.TcCoe Idealize.ShloMosaic.Pointwise Idealize.SL.Sem
open Cert.Kernel3Ideal Cert.Kernel3Ideal.Gen
open Cert.Proj

/-- A sum against a row of a block diagonal matrix is the sum over its block. -/
theorem sum_diag (h : Fin 8) (a p : Fin 512 → EReal) :
    ∑ e : Fin 512, ((if h.val = e.val / 64 then 1 else 0) * a e) * p e = ∑ d : Fin 64, a ⟨64 * h.val + d.val, by omega⟩ * p ⟨64 * h.val + d.val, by omega⟩ := by
  refine (Finset.sum_of_injOn (fun d : Fin 64 => (⟨64 * h.val + d.val, by omega⟩ : Fin 512)) ?_ (fun _ _ => Finset.mem_coe.mpr (Finset.mem_univ _)) ?_ ?_).symm
  · intro d _ d' _ e
    have := congrArg Fin.val e
    dsimp only at this
    exact Fin.ext (by omega)
  · intro e _ he
    have hn : ¬ h.val = e.val / 64 := fun hq => he ⟨⟨e.val % 64, Nat.mod_lt _ (by decide)⟩, Finset.mem_coe.mpr (Finset.mem_univ _), Fin.ext (by dsimp only; omega)⟩
    rw [if_neg hn, zero_mul, zero_mul]
  · intro d _
    rw [if_pos (by dsimp only; omega), one_mul]

variable (m : (ℓ : Loc nD τ sig) → Buf (Elt Ideal) ℓ)

/-- A token's projection from the arguments. -/
def P (c : Dev nD) : Fin 32768 → Fin 4296 → EReal :=
  proj (m ((c : Thread nD τ).loc main_arg0)) (m ((c : Thread nD τ).loc main_arg1)) (m ((c : Thread nD τ).loc main_arg2))

theorem part_at (c : Dev nD) (t : Fin cfg0.N) (o : Fin 1160) (n : Fin 512) :
    k0_pay3 (F := Ideal) (iblk m c 0 t) (iblk m c 1 t) (iblk m c 2 t) (ix2 (n0 := 1160) (n1 := 512) o n) = P m c (tok t n) (col o) := by
  refine (pay3_at _ _ _ _ _).trans ?_
  simp only [read0 m c t, read1 m c t, read2 m c t]
  rfl

theorem hid_at (c : Dev nD) (t : Fin cfg0.N) (n : Fin 512) :
    hid (fun k => iblk m c 0 t (ix2 (n0 := 512) (n1 := 1024) n k)) (fun k => iblk m c 1 t (ix2 (n0 := 1) (n1 := 1024) 0 k))
      = hid (fun k => m ((c : Thread nD τ).loc main_arg0) (ix2 (n0 := 32768) (n1 := 1024) (tok t n) k)) (fun k => m ((c : Thread nD τ).loc main_arg1) (ix2 (n0 := 1) (n1 := 1024) 0 k)) := by
  simp only [read0 m c t, read1 m c t]

/-- A block's column as a column of the whole arrays. -/
def wide (t : Fin cfg0.N) (q : Fin 4096) : Fin 262144 := ⟨4096 * t.val + q.val, by
  have ht : t.val < 64 := Nat.lt_of_lt_of_eq t.isLt N_0
  omega⟩

theorem tok_wide (t : Fin cfg0.N) (q : Fin 4096) : tok t ⟨256 * (q.val / 2048) + q.val % 256, by omega⟩ = tokOf (wide t q) :=
  Fin.ext (by dsimp only [tok, tokOf, wide]; omega)

theorem block14 (c : Dev nD) (t : Fin cfg0.N) (r : Fin 128) (q : Fin 4096) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 (n0 := 128) (n1 := 4096) r q)
      = R0 (P m c) (m ((c : Thread nD τ).loc main_arg4)) (ix2 (n0 := 128) (n1 := 262144) r (wide t q)) := by
  refine (out14_at _ _ _ _ _ _ _ _ _ _ _ _ _ _ _ _).trans ?_
  simp only [full0, full1, full2, full3]
  refine (pay6_at _ _ _ _ _ _).trans ?_
  simp only [part_at m c t, read3 m c t, tok_wide]
  show _ = qlat _ (P m c (tokOf (wide t q))) (headOf (wide t q)) r
  unfold qlat
  refine congrArg (fun z : EReal => z * _) ?_
  refine Eq.trans (Finset.sum_congr rfl fun e _ => ?_) ((sum_diag (headOf (wide t q))
    (fun e => m ((c : Thread nD τ).loc main_arg4) (ix3 (n0 := 128) (n1 := 8) (n2 := 64) r (headOf (wide t q)) ⟨e.val % 64, Nat.mod_lt _ (by decide)⟩))
    (fun e => P m c (tokOf (wide t q)) ⟨e.val, by omega⟩)).trans (Finset.sum_congr rfl fun d _ => ?_))
  · have eh : (⟨(128 * (q.val / 256 % 8) + r.val) / 128, by omega⟩ : Fin 8) = headOf (wide t q) := Fin.ext (by dsimp only [headOf, wide]; omega)
    have er : (⟨(128 * (q.val / 256 % 8) + r.val) % 128, Nat.mod_lt _ (by decide)⟩ : Fin 128) = r := Fin.ext (by dsimp only; omega)
    have ev : (128 * (q.val / 256 % 8) + r.val) / 128 = (headOf (wide t q)).val := congrArg Fin.val eh
    have ec : col ⟨e.val, by omega⟩ = ⟨e.val, by omega⟩ := Fin.ext (if_pos e.isLt)
    unfold diag
    dsimp only
    rw [eh, er, ev, ec]
  · have ed : (⟨(64 * (headOf (wide t q)).val + d.val) % 64, Nat.mod_lt _ (by decide)⟩ : Fin 64) = d := Fin.ext (by dsimp only; omega)
    dsimp only
    rw [ed]

theorem idx14 : ∀ t : Fin cfg0.N, win0_14.index t = ![0, t.val] := by decide +kernel
theorem array14 (c : Dev nD) : (dats m 0 c).arrAt 14 (cfg0.N) = R0 (P m c) (m ((c : Thread nD τ).loc main_arg4)) := by
  refine (dats m 0 c).arrAt_eq_of_covers 14 (R0 (P m c) (m ((c : Thread nD τ).loc main_arg4))) (by decide +kernel) fun t hf y => ?_
  have e : ((cfg0.win 14).blk t).view.emb y = (ix2 (n0 := 128) (n1 := 262144) ⟨(y 0).val, (y 0).isLt⟩ (wide t ⟨(y 1).val, (y 1).isLt⟩)) := by
    funext a
    refine Fin.ext ?_
    fin_cases a
    · blk_simp [idx14 t]
      rfl
    · blk_simp [idx14 t]
      show t.val * 4096 + (y 1).val = 4096 * t.val + (y 1).val
      omega
  refine Eq.trans ?_ ((block14 m c t _ _).trans (congrArg (R0 (P m c) (m ((c : Thread nD τ).loc main_arg4))) e).symm)
  rw [after0_14]
  blk_simp
  refine congrArg (out0_14 _ _ _ _ _ _ _ _ _ _ _ _ _ _) ?_
  funext a
  fin_cases a <;> rfl

theorem block15 (c : Dev nD) (t : Fin cfg0.N) (r : Fin 64) (q : Fin 4096) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 (n0 := 64) (n1 := 4096) r q)
      = R1 (P m c) (ix2 (n0 := 64) (n1 := 262144) r (wide t q)) := by
  refine (out15_at _ _ _ _ _ _ _ _ _ _ _ _ _ _ _ _).trans ?_
  simp only [full0, full1, full2]
  refine (pay4_at _ _ _ _ _).trans ((part_at m c t _ _).trans ?_)
  rw [tok_wide]
  refine congrArg (P m c (tokOf (wide t q))) (Fin.ext ?_)
  dsimp only [col, headOf, wide, ix2]
  show _ = 640 + (64 * ((4096 * t.val + q.val) / 256 % 8) + r.val)
  split_ifs <;> omega

theorem idx15 : ∀ t : Fin cfg0.N, win0_15.index t = ![0, t.val] := by decide +kernel
theorem array15 (c : Dev nD) : (dats m 0 c).arrAt 15 (cfg0.N) = R1 (P m c) := by
  refine (dats m 0 c).arrAt_eq_of_covers 15 (R1 (P m c)) (by decide +kernel) fun t hf y => ?_
  have e : ((cfg0.win 15).blk t).view.emb y = (ix2 (n0 := 64) (n1 := 262144) ⟨(y 0).val, (y 0).isLt⟩ (wide t ⟨(y 1).val, (y 1).isLt⟩)) := by
    funext a
    refine Fin.ext ?_
    fin_cases a
    · blk_simp [idx15 t]
      rfl
    · blk_simp [idx15 t]
      show t.val * 4096 + (y 1).val = 4096 * t.val + (y 1).val
      omega
  refine Eq.trans ?_ ((block15 m c t _ _).trans (congrArg (R1 (P m c)) e).symm)
  rw [after0_15]
  blk_simp
  refine congrArg (out0_15 _ _ _ _ _ _ _ _ _ _ _ _ _ _) ?_
  funext a
  fin_cases a <;> rfl

theorem block16 (c : Dev nD) (t : Fin cfg0.N) (r : Fin 1) (q : Fin 4096) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 (n0 := 1) (n1 := 4096) r q)
      = R2 (P m c) (ix2 (n0 := 1) (n1 := 262144) r (wide t q)) := by
  obtain rfl : r = 0 := Subsingleton.elim _ _
  refine (out16_at _ _ _ _ _ _ _ _ _ _ _ _ _ _ _).trans ?_
  simp only [full0, full1, full2]
  refine (pay7_at _ _ _ _ _).trans ((congrArg (fun z : EReal => z * _) (part_at m c t _ _)).trans ?_)
  rw [tok_wide]
  refine congrArg (fun z : EReal => z * _) (congrArg (P m c (tokOf (wide t q))) (Fin.ext ?_))
  dsimp only [col, headOf, wide]
  show _ = 1216 + ((4096 * t.val + q.val) / 256 % 8)
  split_ifs <;> omega

theorem idx16 : ∀ t : Fin cfg0.N, win0_16.index t = ![0, t.val] := by decide +kernel
theorem array16 (c : Dev nD) : (dats m 0 c).arrAt 16 (cfg0.N) = R2 (P m c) := by
  refine (dats m 0 c).arrAt_eq_of_covers 16 (R2 (P m c)) (by decide +kernel) fun t hf y => ?_
  have e : ((cfg0.win 16).blk t).view.emb y = (ix2 (n0 := 1) (n1 := 262144) ⟨(y 0).val, (y 0).isLt⟩ (wide t ⟨(y 1).val, (y 1).isLt⟩)) := by
    funext a
    refine Fin.ext ?_
    fin_cases a
    · blk_simp [idx16 t]
    · blk_simp [idx16 t]
      show t.val * 4096 + (y 1).val = 4096 * t.val + (y 1).val
      omega
  refine Eq.trans ?_ ((block16 m c t _ _).trans (congrArg (R2 (P m c)) e).symm)
  rw [after0_16]
  blk_simp
  refine congrArg (out0_16 _ _ _ _ _ _ _ _ _ _ _ _ _ _) ?_
  funext a
  fin_cases a
  · have h : (y 0).val < 1 := (y 0).isLt
    exact Fin.ext (show (y 0).val = 0 by omega)
  · rfl

theorem block17 (c : Dev nD) (t : Fin cfg0.N) (r : Fin 144) (q : Fin 512) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 (n0 := 144) (n1 := 512) r q)
      = R3 (P m c) (m ((c : Thread nD τ).loc main_arg3)) (ix2 (n0 := 144) (n1 := 32768) r (tok t q)) := by
  refine (out17_at _ _ _ _ _ _ _ _ _ _ _ _ _ _ _ _).trans ?_
  show _ = padded (lat _ (P m c (tok t q))) r
  refine congrArg (fun f => padded f r) (funext fun r => ?_)
  unfold lat
  simp only [pay5_at, part_at m c t, read4 m c t]
  refine congrArg (fun f => latent f _ r) (funext fun k => congrArg (P m c (tok t q)) (Fin.ext ?_))
  dsimp only [col]
  split_ifs <;> omega

theorem idx17 : ∀ t : Fin cfg0.N, win0_17.index t = ![0, t.val] := by decide +kernel
theorem array17 (c : Dev nD) : (dats m 0 c).arrAt 17 (cfg0.N) = R3 (P m c) (m ((c : Thread nD τ).loc main_arg3)) := by
  refine (dats m 0 c).arrAt_eq_of_covers 17 (R3 (P m c) (m ((c : Thread nD τ).loc main_arg3))) (by decide +kernel) fun t hf y => ?_
  have e : ((cfg0.win 17).blk t).view.emb y = (ix2 (n0 := 144) (n1 := 32768) ⟨(y 0).val, (y 0).isLt⟩ (tok t ⟨(y 1).val, (y 1).isLt⟩)) := by
    funext a
    refine Fin.ext ?_
    fin_cases a
    · blk_simp [idx17 t]
      rfl
    · blk_simp [idx17 t]
      show t.val * 512 + (y 1).val = 512 * t.val + (y 1).val
      omega
  refine Eq.trans ?_ ((block17 m c t _ _).trans (congrArg (R3 (P m c) (m ((c : Thread nD τ).loc main_arg3))) e).symm)
  rw [after0_17]
  blk_simp
  refine congrArg (out0_17 _ _ _ _ _ _ _ _ _ _ _ _ _ _) ?_
  funext a
  fin_cases a <;> rfl

theorem block18 (c : Dev nD) (t : Fin cfg0.N) (r : Fin 512) (q : Fin 128) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 (n0 := 512) (n1 := 128) r q)
      = R4 (P m c) (m ((c : Thread nD τ).loc main_arg3)) (ix2 (n0 := 32768) (n1 := 128) (tok t r) q) := by
  refine (out18_at _ _ _ _ _ _ _ _ _ _ _ _ _ _ _ _).trans ?_
  rw [hid_at]
  simp only [read5 m c t, read6 m c t]
  rfl

theorem idx18 : ∀ t : Fin cfg0.N, win0_18.index t = ![t.val, 0] := by decide +kernel
theorem array18 (c : Dev nD) : (dats m 0 c).arrAt 18 (cfg0.N) = R4 (P m c) (m ((c : Thread nD τ).loc main_arg3)) := by
  refine (dats m 0 c).arrAt_eq_of_covers 18 (R4 (P m c) (m ((c : Thread nD τ).loc main_arg3))) (by decide +kernel) fun t hf y => ?_
  have e : ((cfg0.win 18).blk t).view.emb y = (ix2 (n0 := 32768) (n1 := 128) (tok t ⟨(y 0).val, (y 0).isLt⟩) ⟨(y 1).val, (y 1).isLt⟩) := by
    funext a
    refine Fin.ext ?_
    fin_cases a
    · blk_simp [idx18 t]
      show t.val * 512 + (y 0).val = 512 * t.val + (y 0).val
      omega
    · blk_simp [idx18 t]
      rfl
  refine Eq.trans ?_ ((block18 m c t _ _).trans (congrArg (R4 (P m c) (m ((c : Thread nD τ).loc main_arg3))) e).symm)
  rw [after0_18]
  blk_simp
  refine congrArg (out0_18 _ _ _ _ _ _ _ _ _ _ _ _ _ _) ?_
  funext a
  fin_cases a <;> rfl

theorem block19 (c : Dev nD) (t : Fin cfg0.N) (r : Fin 512) (q : Fin 64) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 (n0 := 512) (n1 := 64) r q)
      = R5 (P m c) (ix2 (n0 := 32768) (n1 := 64) (tok t r) q) := by
  refine (out19_at _ _ _ _ _ _ _ _ _ _ _ _ _ _ _ _).trans ?_
  rw [hid_at]
  simp only [read7 m c t]
  rfl

theorem idx19 : ∀ t : Fin cfg0.N, win0_19.index t = ![t.val, 0] := by decide +kernel
theorem array19 (c : Dev nD) : (dats m 0 c).arrAt 19 (cfg0.N) = R5 (P m c) := by
  refine (dats m 0 c).arrAt_eq_of_covers 19 (R5 (P m c)) (by decide +kernel) fun t hf y => ?_
  have e : ((cfg0.win 19).blk t).view.emb y = (ix2 (n0 := 32768) (n1 := 64) (tok t ⟨(y 0).val, (y 0).isLt⟩) ⟨(y 1).val, (y 1).isLt⟩) := by
    funext a
    refine Fin.ext ?_
    fin_cases a
    · blk_simp [idx19 t]
      show t.val * 512 + (y 0).val = 512 * t.val + (y 0).val
      omega
    · blk_simp [idx19 t]
      rfl
  refine Eq.trans ?_ ((block19 m c t _ _).trans (congrArg (R5 (P m c)) e).symm)
  rw [after0_19]
  blk_simp
  refine congrArg (out0_19 _ _ _ _ _ _ _ _ _ _ _ _ _ _) ?_
  funext a
  fin_cases a <;> rfl

theorem block20 (c : Dev nD) (t : Fin cfg0.N) (r : Fin 512) (q : Fin 512) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 (n0 := 512) (n1 := 512) r q)
      = R6 (P m c) (ix2 (n0 := 32768) (n1 := 512) (tok t r) q) := by
  refine (out20_at _ _ _ _ _ _ _ _ _ _ _ _ _ _ _ _).trans ?_
  rw [hid_at]
  simp only [read8 m c t]
  rfl

theorem idx20 : ∀ t : Fin cfg0.N, win0_20.index t = ![t.val, 0] := by decide +kernel
theorem array20 (c : Dev nD) : (dats m 0 c).arrAt 20 (cfg0.N) = R6 (P m c) := by
  refine (dats m 0 c).arrAt_eq_of_covers 20 (R6 (P m c)) (by decide +kernel) fun t hf y => ?_
  have e : ((cfg0.win 20).blk t).view.emb y = (ix2 (n0 := 32768) (n1 := 512) (tok t ⟨(y 0).val, (y 0).isLt⟩) ⟨(y 1).val, (y 1).isLt⟩) := by
    funext a
    refine Fin.ext ?_
    fin_cases a
    · blk_simp [idx20 t]
      show t.val * 512 + (y 0).val = 512 * t.val + (y 0).val
      omega
    · blk_simp [idx20 t]
      rfl
  refine Eq.trans ?_ ((block20 m c t _ _).trans (congrArg (R6 (P m c)) e).symm)
  rw [after0_20]
  blk_simp
  refine congrArg (out0_20 _ _ _ _ _ _ _ _ _ _ _ _ _ _) ?_
  funext a
  fin_cases a <;> rfl

theorem block21 (c : Dev nD) (t : Fin cfg0.N) (r : Fin 512) (q : Fin 512) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 (n0 := 512) (n1 := 512) r q)
      = R7 (P m c) (m ((c : Thread nD τ).loc main_arg5)) (m ((c : Thread nD τ).loc main_arg6)) (ix2 (n0 := 32768) (n1 := 512) (tok t r) q) := by
  refine (out21_at _ _ _ _ _ _ _ _ _ _ _ _ _ _ _ _).trans ?_
  rw [hid_at]
  simp only [read9 m c t, read10 m c t, read11 m c t]
  rfl

theorem idx21 : ∀ t : Fin cfg0.N, win0_21.index t = ![t.val, 0] := by decide +kernel
theorem array21 (c : Dev nD) : (dats m 0 c).arrAt 21 (cfg0.N) = R7 (P m c) (m ((c : Thread nD τ).loc main_arg5)) (m ((c : Thread nD τ).loc main_arg6)) := by
  refine (dats m 0 c).arrAt_eq_of_covers 21 (R7 (P m c) (m ((c : Thread nD τ).loc main_arg5)) (m ((c : Thread nD τ).loc main_arg6))) (by decide +kernel) fun t hf y => ?_
  have e : ((cfg0.win 21).blk t).view.emb y = (ix2 (n0 := 32768) (n1 := 512) (tok t ⟨(y 0).val, (y 0).isLt⟩) ⟨(y 1).val, (y 1).isLt⟩) := by
    funext a
    refine Fin.ext ?_
    fin_cases a
    · blk_simp [idx21 t]
      show t.val * 512 + (y 0).val = 512 * t.val + (y 0).val
      omega
    · blk_simp [idx21 t]
      rfl
  refine Eq.trans ?_ ((block21 m c t _ _).trans (congrArg (R7 (P m c) (m ((c : Thread nD τ).loc main_arg5)) (m ((c : Thread nD τ).loc main_arg6))) e).symm)
  rw [after0_21]
  blk_simp
  refine congrArg (out0_21 _ _ _ _ _ _ _ _ _ _ _ _ _ _) ?_
  funext a
  fin_cases a <;> rfl

theorem block22 (c : Dev nD) (t : Fin cfg0.N) (r : Fin 512) (q : Fin 1024) :
    out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 (n0 := 512) (n1 := 1024) r q)
      = R8 (P m c) (ix2 (n0 := 32768) (n1 := 1024) (tok t r) q) := by
  refine (out22_at _ _ _ _ _ _ _ _ _ _ _ _ _ _ _ _).trans ?_
  rw [hid_at]
  simp only [read12 m c t]
  rfl

theorem idx22 : ∀ t : Fin cfg0.N, win0_22.index t = ![t.val, 0] := by decide +kernel
theorem array22 (c : Dev nD) : (dats m 0 c).arrAt 22 (cfg0.N) = R8 (P m c) := by
  refine (dats m 0 c).arrAt_eq_of_covers 22 (R8 (P m c)) (by decide +kernel) fun t hf y => ?_
  have e : ((cfg0.win 22).blk t).view.emb y = (ix2 (n0 := 32768) (n1 := 1024) (tok t ⟨(y 0).val, (y 0).isLt⟩) ⟨(y 1).val, (y 1).isLt⟩) := by
    funext a
    refine Fin.ext ?_
    fin_cases a
    · blk_simp [idx22 t]
      show t.val * 512 + (y 0).val = 512 * t.val + (y 0).val
      omega
    · blk_simp [idx22 t]
      rfl
  refine Eq.trans ?_ ((block22 m c t _ _).trans (congrArg (R8 (P m c)) e).symm)
  rw [after0_22]
  blk_simp
  refine congrArg (out0_22 _ _ _ _ _ _ _ _ _ _ _ _ _ _) ?_
  funext a
  fin_cases a <;> rfl

theorem block23 (c : Dev nD) (t : Fin cfg0.N) (r : Fin 512) (q : Fin 1024) :
    out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 (n0 := 512) (n1 := 1024) r q)
      = R9 (P m c) (ix2 (n0 := 32768) (n1 := 1024) (tok t r) q) := by
  refine (out23_at _ _ _ _ _ _ _ _ _ _ _ _ _ _ _ _).trans ?_
  rw [hid_at]
  simp only [read13 m c t]
  rfl

theorem idx23 : ∀ t : Fin cfg0.N, win0_23.index t = ![t.val, 0] := by decide +kernel
theorem array23 (c : Dev nD) : (dats m 0 c).arrAt 23 (cfg0.N) = R9 (P m c) := by
  refine (dats m 0 c).arrAt_eq_of_covers 23 (R9 (P m c)) (by decide +kernel) fun t hf y => ?_
  have e : ((cfg0.win 23).blk t).view.emb y = (ix2 (n0 := 32768) (n1 := 1024) (tok t ⟨(y 0).val, (y 0).isLt⟩) ⟨(y 1).val, (y 1).isLt⟩) := by
    funext a
    refine Fin.ext ?_
    fin_cases a
    · blk_simp [idx23 t]
      show t.val * 512 + (y 0).val = 512 * t.val + (y 0).val
      omega
    · blk_simp [idx23 t]
      rfl
  refine Eq.trans ?_ ((block23 m c t _ _).trans (congrArg (R9 (P m c)) e).symm)
  rw [after0_23]
  blk_simp
  refine congrArg (out0_23 _ _ _ _ _ _ _ _ _ _ _ _ _ _) ?_
  funext a
  fin_cases a <;> rfl

end Cert.Kernel3Ideal.Proj
-- ==== Proof.ProjRef.lean ====
module

public import proofs.«01_k».proof.Proof.Proj
public import proofs.«01_k».proof.Proof.Gen.Reference3Ideal.Run

@[expose] public section

set_option maxRecDepth 16384

noncomputable section

namespace Cert.Reference3Ideal.Proj

open Idealize.ShloMosaic Idealize.ShloMosaic.TcCoe Idealize.ShloMosaic.Pointwise Idealize.SL.Sem
open Cert.Reference3Ideal Cert.Reference3Ideal.Gen
open Cert.Proj

/-- Every token's projection. -/
def rows (x : FVec Ideal S32768x1024 .f32) (g : FVec Ideal S1x1024 .f32) (w : FVec Ideal S1024x4296 .f32) : FVec Ideal S32768x4296 .f32 :=
  Host.dotGeneral dot_S32768x1024_S1024x4296_S32768x4296_1_0_0_1_n_n none (mulf (mulf x (broadcastInDim S32768x1024 ![0, 1] bcast_S32768x1_S32768x1024_0_1
    (Host.rsqrt (addf (Host.divf (broadcastInDim S32768x1 ![0] bcast_S32768_S32768x1_0 (Host.reduceAdd (mulf x x) (constant S_ .f32 0x00000000#32) reducesTo_S32768x1024_S32768_d1 h_S_))
      (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 g)) w

theorem rows_at (x : FVec Ideal S32768x1024 .f32) (g : FVec Ideal S1x1024 .f32) (w : FVec Ideal S1024x4296 .f32) (j : Fin 32768) (o : Fin 4296) :
    rows x g w (ix2 (n0 := 32768) (n1 := 4296) j o) = proj x g w j o := by
  pointwise [rows]
  rfl

variable (z : FVec Ideal S32768x4296 .f32)

/-- A token's projection read from the array. -/
def p : Fin 32768 → Fin 4296 → EReal := fun j o => z (ix2 (n0 := 32768) (n1 := 4296) j o)

/-- The scaled queries in the latent space, laid out by blocks and heads. -/
def f0 (u : FVec Ideal S128x8x64 .f32) : FVec Ideal S128x262144 .bf16 :=
  truncf .bf16 (shapeCast _ (transpose S128x128x8x256 [3, 0, 2, 1] (shapeCast _ (mulf (transpose S32768x8x128 [2, 0, 1]
    (Host.dotGeneral dot_S128x8x64_S32768x8x64_S8x128x32768_2_2_0_0_1_1 none u (shapeCast _ (extractStridedSlice S32768x512 ![0, 0] z slices_S32768x4296_S32768x512_0_0) shapeCasts_S32768x512_S32768x8x64))
    transposes_S8x128x32768_S32768x8x128_2_0_1) (broadcastInDim S32768x8x128 ![] bcast_S_S32768x8x128 (constant S_ .f32 0x3E38AA3B#32))) shapeCasts_S32768x8x128_S128x256x8x128)
    transposes_S128x256x8x128_S128x128x8x256_3_0_2_1) shapeCasts_S128x128x8x256_S128x262144) bitsLt_bf16_f32

theorem f0_at (u : FVec Ideal S128x8x64 .f32) (r : Fin 128) (q : Fin 262144) :
    f0 z u (ix2 (n0 := 128) (n1 := 262144) r q) = R0 (p z) u (ix2 (n0 := 128) (n1 := 262144) r q) := by
  pointwise [f0]
  show _ = qlat u (p z (tokOf q)) (headOf q) r
  unfold qlat p
  have e : (⟨q.val / 2048 * 256 + q.val % 256, by omega⟩ : Fin 32768) = tokOf q := Fin.ext (by dsimp only [tokOf]; omega)
  refine congrArg (fun z : EReal => z * _) (Finset.sum_congr rfl fun x _ => congrArg (fun z : EReal => _ * z) ?_)
  rw [e]
  refine congrArg z (congrArg (ix2 (n0 := 32768) (n1 := 4296) (tokOf q)) (Fin.ext ?_))
  dsimp only [headOf]
  omega

/-- The indexer's queries, laid out likewise. -/
def f1 : FVec Ideal S64x262144 .bf16 :=
  truncf .bf16 (shapeCast _ (transpose S64x128x8x256 [3, 0, 2, 1] (shapeCast _ (extractStridedSlice S32768x512 ![0, 640] z slices_S32768x4296_S32768x512_0_640) shapeCasts_S32768x512_S128x256x8x64)
    transposes_S128x256x8x64_S64x128x8x256_3_0_2_1) shapeCasts_S64x128x8x256_S64x262144) bitsLt_bf16_f32

theorem f1_at (r : Fin 64) (q : Fin 262144) :
    f1 z (ix2 (n0 := 64) (n1 := 262144) r q) = R1 (p z) (ix2 (n0 := 64) (n1 := 262144) r q) := by
  pointwise [f1]
  have e : (⟨q.val / 2048 * 256 + q.val % 256, by omega⟩ : Fin 32768) = tokOf q := Fin.ext (by dsimp only [tokOf]; omega)
  rw [e]
  refine congrArg z (congrArg (ix2 (n0 := 32768) (n1 := 4296) (tokOf q)) (Fin.ext ?_))
  show 640 + (q.val / 256 % 8 * 64 + r.val) = 640 + (64 * (q.val / 256 % 8) + r.val)
  omega

/-- The indexer's scaled weights, laid out likewise. -/
def f2 : FVec Ideal S1x262144 .f32 :=
  shapeCast _ (transpose S1x128x8x256 [3, 0, 2, 1] (shapeCast _ (mulf (extractStridedSlice S32768x8 ![0, 1216] z slices_S32768x4296_S32768x8_0_1216)
    (broadcastInDim S32768x8 ![] bcast_S_S32768x8 (constant S_ .f32 0x3D3504F3#32))) shapeCasts_S32768x8_S128x256x8x1) transposes_S128x256x8x1_S1x128x8x256_3_0_2_1) shapeCasts_S1x128x8x256_S1x262144

theorem f2_at (r : Fin 1) (q : Fin 262144) :
    f2 z (ix2 (n0 := 1) (n1 := 262144) r q) = R2 (p z) (ix2 (n0 := 1) (n1 := 262144) r q) := by
  pointwise [f2]
  have e : (⟨q.val / 2048 * 256 + q.val % 256, by omega⟩ : Fin 32768) = tokOf q := Fin.ext (by dsimp only [tokOf]; omega)
  rw [e]
  rfl

/-- The normed latents. -/
def lats (g : FVec Ideal S1x128 .f32) : FVec Ideal S32768x128 .f32 :=
  mulf (mulf (extractStridedSlice S32768x128 ![0, 512] z slices_S32768x4296_S32768x128_0_512) (broadcastInDim S32768x128 ![0, 1] bcast_S32768x1_S32768x128_0_1
    (Host.rsqrt (addf (Host.divf (broadcastInDim S32768x1 ![0] bcast_S32768_S32768x1_0 (Host.reduceAdd (mulf (extractStridedSlice S32768x128 ![0, 512] z slices_S32768x4296_S32768x128_0_512)
      (extractStridedSlice S32768x128 ![0, 512] z slices_S32768x4296_S32768x128_0_512)) (constant S_ .f32 0x00000000#32) reducesTo_S32768x128_S32768_d1 h_S_))
      (broadcastInDim S32768x1 ![] bcast_S_S32768x1 (constant S_ .f32 0x43000000#32))) (broadcastInDim S32768x1 ![] bcast_S_S32768x1 (constant S_ .f32 0x358637BD#32))))))
    (broadcastInDim S32768x128 ![0, 1] bcast_S1x128_S32768x128_0_1 g)

theorem lats_at (g : FVec Ideal S1x128 .f32) (j : Fin 32768) (r : Fin 128) :
    lats z g (ix2 (n0 := 32768) (n1 := 128) j r) = lat g (p z j) r := by
  pointwise [lats]
  rfl

/-- The normed latents by rank and token, with a row of ones and rows of zeros. -/
def f3 (g : FVec Ideal S1x128 .f32) : FVec Ideal S144x32768 .bf16 :=
  truncf .bf16 ((concatenate S144x32768 0 [⟨S128x32768, ((transpose S128x32768 [1, 0] (lats z g) transposes_S32768x128_S128x32768_1_0) : FVec Ideal S128x32768 .f32)⟩,
    ⟨S1x32768, ((broadcastInDim S1x32768 ![] bcast_S_S1x32768 (constant S_ .f32 0x3F800000#32)) : FVec Ideal S1x32768 .f32)⟩,
    ⟨S15x32768, ((broadcastInDim S15x32768 ![] bcast_S_S15x32768 (constant S_ .f32 0x00000000#32)) : FVec Ideal S15x32768 .f32)⟩]
    concatenates_S128x32768_S1x32768_S15x32768_S144x32768_d0 : FVec Ideal S144x32768 .f32)) bitsLt_bf16_f32

theorem f3_at (g : FVec Ideal S1x128 .f32) (i : Fin 144) (j : Fin 32768) :
    f3 z g (ix2 (n0 := 144) (n1 := 32768) i j) = R3 (p z) g (ix2 (n0 := 144) (n1 := 32768) i j) := by
  show _ = padded (lat g (p z j)) i
  pointwise [f3]
  unfold padded
  split_ifs <;> first | omega | exact lats_at z g j _ | rfl

def f4 (g : FVec Ideal S1x128 .f32) : FVec Ideal S32768x128 .bf16 := truncf .bf16 (lats z g) bitsLt_bf16_f32

theorem f4_at (g : FVec Ideal S1x128 .f32) (j : Fin 32768) (r : Fin 128) :
    f4 z g (ix2 (n0 := 32768) (n1 := 128) j r) = R4 (p z) g (ix2 (n0 := 32768) (n1 := 128) j r) :=
  lats_at z g j r

/-- The indexer's keys. -/
def f5 : FVec Ideal S32768x64 .bf16 := truncf .bf16 (extractStridedSlice S32768x64 ![0, 1152] z slices_S32768x4296_S32768x64_0_1152) bitsLt_bf16_f32

theorem f5_at (j : Fin 32768) (r : Fin 64) :
    f5 z (ix2 (n0 := 32768) (n1 := 64) j r) = R5 (p z) (ix2 (n0 := 32768) (n1 := 64) j r) := by
  pointwise [f5]
  rfl

/-- GELU of every entry. -/
def gel (v : FVec Ideal S32768x512 .f32) : FVec Ideal S32768x512 .f32 :=
  mulf v (mulf (broadcastInDim S32768x512 ![] bcast_S_S32768x512 (constant S_ .f32 0x3F000000#32)) (addf (broadcastInDim S32768x512 ![] bcast_S_S32768x512 (constant S_ .f32 0x3F800000#32))
    (Host.tanh (mulf (broadcastInDim S32768x512 ![] bcast_S_S32768x512 (constant S_ .f32 0x3F4C422A#32)) (addf v (mulf (broadcastInDim S32768x512 ![] bcast_S_S32768x512 (constant S_ .f32 0x3D372713#32))
      (mulf (mulf v v) v)))))))

theorem gel_at (v : FVec Ideal S32768x512 .f32) (j : Fin 32768) (q : Fin 512) :
    gel v (ix2 (n0 := 32768) (n1 := 512) j q) = gelu (v (ix2 (n0 := 32768) (n1 := 512) j q)) := by
  pointwise [gel]
  unfold gelu
  rw [mul_comm (_ * _ : EReal) (v (ix2 (n0 := 32768) (n1 := 512) j q))]

def f6 : FVec Ideal S32768x512 .bf16 := truncf .bf16 (gel (extractStridedSlice S32768x512 ![0, 1224] z slices_S32768x4296_S32768x512_0_1224)) bitsLt_bf16_f32

theorem f6_at (j : Fin 32768) (q : Fin 512) :
    f6 z (ix2 (n0 := 32768) (n1 := 512) j q) = R6 (p z) (ix2 (n0 := 32768) (n1 := 512) j q) := by
  refine (gel_at _ j q).trans (congrArg gelu ?_)
  pointwise []
  rfl

/-- The mean of every row. -/
def means (v : FVec Ideal S32768x512 .f32) : FVec Ideal S32768x1 .f32 :=
  Host.divf (broadcastInDim S32768x1 ![0] bcast_S32768_S32768x1_0 (Host.reduceAdd v (constant S_ .f32 0x00000000#32) reducesTo_S32768x512_S32768_d1 h_S_))
    (broadcastInDim S32768x1 ![] bcast_S_S32768x1 (constant S_ .f32 0x44000000#32))

/-- The rows less their means. -/
def centred (v : FVec Ideal S32768x512 .f32) : FVec Ideal S32768x512 .f32 :=
  subf v (broadcastInDim S32768x512 ![0, 1] bcast_S32768x1_S32768x512_0_1 (means v))

/-- The layer norm of every row. -/
def norms (v : FVec Ideal S32768x512 .f32) (g b : FVec Ideal S1x512 .f32) : FVec Ideal S32768x512 .f32 :=
  addf (mulf (mulf (centred v) (broadcastInDim S32768x512 ![0, 1] bcast_S32768x1_S32768x512_0_1
    (Host.rsqrt (addf (means (mulf (centred v) (centred v))) (broadcastInDim S32768x1 ![] bcast_S_S32768x1 (constant S_ .f32 0x358637BD#32))))))
    (broadcastInDim S32768x512 ![0, 1] bcast_S1x512_S32768x512_0_1 g)) (broadcastInDim S32768x512 ![0, 1] bcast_S1x512_S32768x512_0_1 b)

theorem norms_at (v : FVec Ideal S32768x512 .f32) (g b : FVec Ideal S1x512 .f32) (j : Fin 32768) (q : Fin 512) :
    norms v g b (ix2 (n0 := 32768) (n1 := 512) j q)
      = layerNorm (fun k => v (ix2 (n0 := 32768) (n1 := 512) j k)) (g (ix2 (n0 := 1) (n1 := 512) 0 q)) (b (ix2 (n0 := 1) (n1 := 512) 0 q)) q := by
  pointwise [norms, centred, means]
  rfl

def f7 (g b : FVec Ideal S1x512 .f32) : FVec Ideal S32768x512 .bf16 :=
  truncf .bf16 (norms (gel (extractStridedSlice S32768x512 ![0, 1736] z slices_S32768x4296_S32768x512_0_1736)) g b) bitsLt_bf16_f32

theorem f7_at (g b : FVec Ideal S1x512 .f32) (j : Fin 32768) (q : Fin 512) :
    f7 z g b (ix2 (n0 := 32768) (n1 := 512) j q) = R7 (p z) g b (ix2 (n0 := 32768) (n1 := 512) j q) := by
  refine (norms_at _ g b j q).trans (congrArg (fun f => layerNorm f _ _ q) (funext fun k => (gel_at _ j k).trans (congrArg gelu ?_)))
  pointwise []
  rfl

/-- The gates. -/
def gates (v : FVec Ideal S32768x1024 .f32) : FVec Ideal S32768x1024 .bf16 :=
  truncf .bf16 (Host.divf (broadcastInDim S32768x1024 ![] bcast_S_S32768x1024 (constant S_ .f32 0x3F800000#32)) (addf (broadcastInDim S32768x1024 ![] bcast_S_S32768x1024 (constant S_ .f32 0x3F800000#32))
    (Host.exp (Host.negf v)))) bitsLt_bf16_f32

theorem gates_at (v : FVec Ideal S32768x1024 .f32) (j : Fin 32768) (q : Fin 1024) :
    gates v (ix2 (n0 := 32768) (n1 := 1024) j q) = Ideal.logistic (v (ix2 (n0 := 32768) (n1 := 1024) j q)) := by
  pointwise [gates]
  rfl

def f8 : FVec Ideal S32768x1024 .bf16 := gates (extractStridedSlice S32768x1024 ![0, 2248] z slices_S32768x4296_S32768x1024_0_2248)
def f9 : FVec Ideal S32768x1024 .bf16 := gates (extractStridedSlice S32768x1024 ![0, 3272] z slices_S32768x4296_S32768x1024_0_3272)

theorem f8_at (j : Fin 32768) (q : Fin 1024) :
    f8 z (ix2 (n0 := 32768) (n1 := 1024) j q) = R8 (p z) (ix2 (n0 := 32768) (n1 := 1024) j q) := by
  refine (gates_at _ j q).trans (congrArg Ideal.logistic ?_)
  pointwise []
  rfl
theorem f9_at (j : Fin 32768) (q : Fin 1024) :
    f9 z (ix2 (n0 := 32768) (n1 := 1024) j q) = R9 (p z) (ix2 (n0 := 32768) (n1 := 1024) j q) := by
  refine (gates_at _ j q).trans (congrArg Ideal.logistic ?_)
  pointwise []
  rfl

/-- The projections of a run's arguments. -/
def Z (m : (ℓ : Loc nD τ sig) → Buf (Elt Ideal) ℓ) (c : Dev nD) : FVec Ideal S32768x4296 .f32 :=
  rows (m ((c.tc : Thread nD τ).loc main_arg0)) (m ((c.tc : Thread nD τ).loc main_arg1)) (m ((c.tc : Thread nD τ).loc main_arg2))

/-- The run ends with the ten results. -/
theorem run_projection (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83) = f0 (Z m c) (m ((c.tc : Thread nD τ).loc main_arg4))
      ∧ r.2.mem ((c.tc : Thread nD τ).loc main_v87) = f1 (Z m c)
      ∧ r.2.mem ((c.tc : Thread nD τ).loc main_v90) = f2 (Z m c)
      ∧ r.2.mem ((c.tc : Thread nD τ).loc main_v91) = f3 (Z m c) (m ((c.tc : Thread nD τ).loc main_arg3))
      ∧ r.2.mem ((c.tc : Thread nD τ).loc main_v92) = f4 (Z m c) (m ((c.tc : Thread nD τ).loc main_arg3))
      ∧ r.2.mem ((c.tc : Thread nD τ).loc main_v93) = f5 (Z m c)
      ∧ r.2.mem ((c.tc : Thread nD τ).loc main_v107) = f6 (Z m c)
      ∧ r.2.mem ((c.tc : Thread nD τ).loc main_v108) = f7 (Z m c) (m ((c.tc : Thread nD τ).loc main_arg5)) (m ((c.tc : Thread nD τ).loc main_arg6))
      ∧ r.2.mem ((c.tc : Thread nD τ).loc main_v115) = f8 (Z m c)
      ∧ r.2.mem ((c.tc : Thread nD τ).loc main_v122) = f9 (Z m c) :=
  (θ_run _ _ _).mono (fun _ h c => ⟨(h c).1, (h c).2.1, (h c).2.2.1, (h c).2.2.2.1, (h c).2.2.2.2.1, (h c).2.2.2.2.2.1, (h c).2.2.2.2.2.2.1, (h c).2.2.2.2.2.2.2.1,
    (h c).2.2.2.2.2.2.2.2.1, (h c).2.2.2.2.2.2.2.2.2.1⟩) (Cert.Reference3Ideal.Value.run m ρ)

end Cert.Reference3Ideal.Proj
-- ==== Proof.ProjSame.lean ====
module

public import proofs.«01_k».proof.Defs
public import proofs.«01_k».proof.Proof.ProjArr
public import proofs.«01_k».proof.Proof.ProjRef
public import proofs.«01_k».proof.Proof.Gen.Kernel3.Frame
public import Idealize.ShloMosaic.Lib.Quiescent

@[expose] public section

set_option maxRecDepth 16384

noncomputable section

namespace Cert.Proof

open Idealize.ShloMosaic Idealize.ShloMosaic.Pointwise Idealize.SL.Sem

/-- The input projection's kernel runs and leaves its arguments. -/
theorem frame_projection : Cert.quiescent_Kernel3 := fun m g _ => Cert.Kernel3.Gen.frame m g
theorem frame_projection_ideal : Cert.quiescent_Kernel3Ideal := fun m g _ => Cert.Kernel3Ideal.Gen.frame m g

/-- The input projection's reference runs and leaves its arguments. -/
theorem frame_projection_reference : Cert.quiescent_Reference3Ideal := fun m g _ =>
  (θ_run _ _ _).mono (fun r h => ⟨fun c => (h c).2.2.2.2.2.2.2.2.2.2, sem_eq_zero_of_no_sems (by decide) r.2⟩) (Cert.Reference3Ideal.Value.run m g)

/-- The input projection's kernel and reference end with ten equal results. -/
theorem same_projection : Cert.algebraic_Kernel3Ideal_Reference3Ideal := fun m g m' g' _ hargs => by
  refine ⟨fun c => Cert.Proj.R0 (Cert.Kernel3Ideal.Proj.P m c) (m ((c.tc : Thread Cert.Kernel3Ideal.nD Cert.Kernel3Ideal.τ).loc Cert.Kernel3Ideal.main_arg4)),
    fun c => Cert.Proj.R1 (Cert.Kernel3Ideal.Proj.P m c),
    fun c => Cert.Proj.R2 (Cert.Kernel3Ideal.Proj.P m c),
    fun c => Cert.Proj.R3 (Cert.Kernel3Ideal.Proj.P m c) (m ((c.tc : Thread Cert.Kernel3Ideal.nD Cert.Kernel3Ideal.τ).loc Cert.Kernel3Ideal.main_arg3)),
    fun c => Cert.Proj.R4 (Cert.Kernel3Ideal.Proj.P m c) (m ((c.tc : Thread Cert.Kernel3Ideal.nD Cert.Kernel3Ideal.τ).loc Cert.Kernel3Ideal.main_arg3)),
    fun c => Cert.Proj.R5 (Cert.Kernel3Ideal.Proj.P m c),
    fun c => Cert.Proj.R6 (Cert.Kernel3Ideal.Proj.P m c),
    fun c => Cert.Proj.R7 (Cert.Kernel3Ideal.Proj.P m c) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)),
    fun c => Cert.Proj.R8 (Cert.Kernel3Ideal.Proj.P m c),
    fun c => Cert.Proj.R9 (Cert.Kernel3Ideal.Proj.P m c), ?_, ?_⟩
  · refine (θ_run _ _ _).mono (fun r h c => ⟨(h c).1.trans (Cert.Kernel3Ideal.Proj.array14 m c), (h c).2.1.trans (Cert.Kernel3Ideal.Proj.array15 m c), (h c).2.2.1.trans (Cert.Kernel3Ideal.Proj.array16 m c), (h c).2.2.2.1.trans (Cert.Kernel3Ideal.Proj.array17 m c), (h c).2.2.2.2.1.trans (Cert.Kernel3Ideal.Proj.array18 m c), (h c).2.2.2.2.2.1.trans (Cert.Kernel3Ideal.Proj.array19 m c), (h c).2.2.2.2.2.2.1.trans (Cert.Kernel3Ideal.Proj.array20 m c), (h c).2.2.2.2.2.2.2.1.trans (Cert.Kernel3Ideal.Proj.array21 m c), (h c).2.2.2.2.2.2.2.2.1.trans (Cert.Kernel3Ideal.Proj.array22 m c), (h c).2.2.2.2.2.2.2.2.2.1.trans (Cert.Kernel3Ideal.Proj.array23 m c),
      (h c).2.2.2.2.2.2.2.2.2.2⟩) (Cert.Kernel3Ideal.Value.run_blocks m g)
  · refine (θ_run _ _ _).mono (fun r h c => ⟨(h.1 c).1.trans ?_, (h.1 c).2.1.trans ?_, (h.1 c).2.2.1.trans ?_, (h.1 c).2.2.2.1.trans ?_, (h.1 c).2.2.2.2.1.trans ?_, (h.1 c).2.2.2.2.2.1.trans ?_, (h.1 c).2.2.2.2.2.2.1.trans ?_, (h.1 c).2.2.2.2.2.2.2.1.trans ?_, (h.1 c).2.2.2.2.2.2.2.2.1.trans ?_, (h.1 c).2.2.2.2.2.2.2.2.2.trans ?_,
      (h.2 c).2.2.2.2.2.2.2.2.2.2⟩) (θ_run_and (Cert.Reference3Ideal.Proj.run_projection m' g') (Cert.Reference3Ideal.Value.run m' g'))
    all_goals
      obtain ⟨h0, h1, h2, h3, h4, h5, h6⟩ := hargs c
      have hp : Cert.Reference3Ideal.Proj.p (Cert.Reference3Ideal.Proj.Z m' c) = Cert.Kernel3Ideal.Proj.P m c := by
        funext j o
        refine (Cert.Reference3Ideal.Proj.rows_at _ _ _ j o).trans ?_
        rw [h0, h1, h2]
        rfl
      funext y
      refine (congrArg _ (eq_ix2 y)).trans (Eq.trans ?_ (congrArg _ (eq_ix2 y)).symm)
    · refine (Cert.Reference3Ideal.Proj.f0_at _ _ _ _).trans ?_
      rw [hp, h4]
    · refine (Cert.Reference3Ideal.Proj.f1_at _ _ _).trans ?_
      rw [hp]
    · refine (Cert.Reference3Ideal.Proj.f2_at _ _ _).trans ?_
      rw [hp]
    · refine (Cert.Reference3Ideal.Proj.f3_at _ _ _ _).trans ?_
      rw [hp, h3]
    · refine (Cert.Reference3Ideal.Proj.f4_at _ _ _ _).trans ?_
      rw [hp, h3]
    · refine (Cert.Reference3Ideal.Proj.f5_at _ _ _).trans ?_
      rw [hp]
    · refine (Cert.Reference3Ideal.Proj.f6_at _ _ _).trans ?_
      rw [hp]
    · refine (Cert.Reference3Ideal.Proj.f7_at _ _ _ _ _).trans ?_
      rw [hp, h5, h6]
    · refine (Cert.Reference3Ideal.Proj.f8_at _ _ _).trans ?_
      rw [hp]
    · refine (Cert.Reference3Ideal.Proj.f9_at _ _ _).trans ?_
      rw [hp]

end Cert.Proof
-- ==== Proof.Ref.lean ====
module

public import proofs.«01_k».proof.Proof.Gen.ReferenceIdeal.Run
public import proofs.«01_k».proof.Proof.Given
public import proofs.«01_k».proof.Proof.Out
public import Idealize.ShloMosaic.Lib.Pointwise

@[expose] public section

set_option maxRecDepth 16384

noncomputable section

namespace Cert.Moe

open Idealize.ShloMosaic

/-- A finite weight that is not negative goes into a sum. -/
theorem weight_sum {ι : Type*} (s : Finset ι) (w : EReal) (h0 : 0 ≤ w) (h1 : w ≠ ⊤) (f : ι → EReal) : w * ∑ i ∈ s, f i = ∑ i ∈ s, w * f i := by
  classical
  induction s using Finset.induction_on with
  | empty => simp
  | insert a s h ih => rw [Finset.sum_insert h, Finset.sum_insert h, EReal.left_distrib_of_nonneg_of_ne_top h0 h1, ih]

/-- An expert's output weighted behind the expert is the output weighted inside it. -/
theorem expert_weight (h : Fin 1024 → EReal) (g u : Fin 1024 → Fin 256 → EReal) (d : Fin 256 → EReal) (w : EReal) (h0 : 0 ≤ w) (h1 : w ≠ ⊤) :
    (w * ∑ f, ((∑ x, g x f * h x) * Ideal.div 1 (1 + Ideal.exp (-∑ x, g x f * h x)) * ∑ x, u x f * h x) * d f) = expert h g u d w := by
  rw [weight_sum _ _ h0 h1]
  unfold expert gated unit Ideal.logistic
  refine Finset.sum_congr rfl fun f _ => ?_
  have e (v : Fin 1024 → Fin 256 → EReal) : (∑ x, v x f * h x) = ∑ x, h x * v x f := Finset.sum_congr rfl fun x _ => mul_comm _ _
  rw [e g, e u, ← mul_assoc, mul_comm w]

end Cert.Moe

namespace Cert.ReferenceIdeal.Moe

open Idealize.ShloMosaic Idealize.ShloMosaic.TcCoe Idealize.ShloMosaic.Pointwise
open Cert.ReferenceIdeal Cert.ReferenceIdeal.Gen
open Cert.Moe (normed expert)

/-- The reference at a token and a column. -/
theorem ref_at (m : (ℓ : Loc nD τ sig) → Buf (Elt Ideal) ℓ) (c : Dev nD) (j : Fin 32768) (col : Fin 1024)
    (hw : ∀ e : Fin 32, (0 : EReal) ≤ m ((c : Thread nD τ).loc main_arg2) (ix2 (n0 := 32768) (n1 := 128) j ⟨e.val, by omega⟩)
      ∧ m ((c : Thread nD τ).loc main_arg2) (ix2 (n0 := 32768) (n1 := 128) j ⟨e.val, by omega⟩) ≠ (⊤ : EReal)) :
    Cert.ReferenceIdeal.Value.res_main_v29 m c (ix2 (n0 := 32768) (n1 := 1024) j col)
      = Cert.Moe.layer (m ((c : Thread nD τ).loc main_arg0)) (m ((c : Thread nD τ).loc main_arg1)) (m ((c : Thread nD τ).loc main_arg2))
          (m ((c : Thread nD τ).loc main_arg4)) (m ((c : Thread nD τ).loc main_arg5)) (m ((c : Thread nD τ).loc main_arg6)) (m ((c : Thread nD τ).loc main_arg7)) j col := by
  pointwise [Cert.ReferenceIdeal.Value.res_main_v29]
  unfold Cert.Moe.layer
  refine Eq.trans ?_ (congrArg (normed · _ _) (funext fun y => congrArg (fun z : EReal => _ + z)
    (Finset.sum_congr rfl fun e _ => Cert.Moe.expert_weight _ _ _ _ _ (hw e).1 (hw e).2)))
  rfl

end Cert.ReferenceIdeal.Moe
-- ==== Proof.lean ====
/- The proof of the claim: the kernel's and the reference's frames, and that they agree over the extended reals. The
   launch and its body are under Proof/Run… and Proof/Body…, the block words under Proof/Seg…, what the
   preconditions say under Proof/Given, the kernel's values under Proof/Place, Expert, Rows, Out and Result, the
   reference's under Proof/Ref. The merge is under Proof/Merge, Blend, Mix, MixRef and MixSame, the input projection under
   Proof/Proj, ProjOut, ProjIn, ProjArr, ProjRef and ProjSame. -/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_grouped
public import proofs.«01_k».proof.Proof.Gen.Pre_routed
public import proofs.«01_k».proof.Proof.Result
public import proofs.«01_k».proof.Proof.MixSame
public import proofs.«01_k».proof.Proof.ProjSame
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.SL.Sem

/-- Where every token has one group, the kernel runs and leaves its arguments. -/
theorem frame_grouped : Cert.quiescent_KernelIdeal := fun m g h =>
  Cert.KernelIdeal.Moe.frame_run m g
    (Cert.KernelIdeal.Moe.chk_of_groups fun c j => Cert.Moe.grouped_spec _ _ _ _ _ _ _ _ (h c) j)

theorem frame_routed : Cert.quiescent_KernelIdeal_pre_routed := fun m g h =>
  Cert.KernelIdeal.Moe.frame_run m g
    (Cert.KernelIdeal.Moe.chk_of_groups fun c j => (Cert.Moe.routed_spec _ _ _ _ _ _ _ _ (h c) j).imp fun _ h => h.1)

/-- The reference runs and leaves its arguments. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- Where every token has one group and its experts' weights are finite, not negative and of that group, the kernel and the
reference end with equal results. -/
theorem same_result : Cert.algebraic_KernelIdeal_ReferenceIdeal_pre_routed := fun m g m' g' hpre hargs => by
  have hr : ∀ (c : Dev Cert.KernelIdeal.nD) (j : Fin 32768), ∃ k : Fin 4, Cert.Moe.InGroup (m ((c.tc : Thread Cert.KernelIdeal.nD Cert.KernelIdeal.τ).loc Cert.KernelIdeal.main_arg3)) j k
      ∧ Cert.Moe.Routed (m ((c.tc : Thread Cert.KernelIdeal.nD Cert.KernelIdeal.τ).loc Cert.KernelIdeal.main_arg2)) j k :=
    fun c j => Cert.Moe.routed_spec _ _ _ _ _ _ _ _ (hpre c) j
  refine ⟨Cert.KernelIdeal.Moe.res m, Cert.KernelIdeal.Moe.value_run m g hr, ?_⟩
  refine (θ_run _ _ _).mono (fun r h c => ⟨(h c).1.trans ?_, (h c).2⟩) (Cert.ReferenceIdeal.Value.run m' g')
  obtain ⟨h0, h1, h2, h3, h4, h5, h6, h7⟩ := hargs c
  funext y
  obtain ⟨k, _, hk⟩ := hr c (y 0)
  have hw := Cert.ReferenceIdeal.Moe.ref_at m' c (y 0) (y 1) (fun e => by rw [h2]; exact ⟨(hk e).1, (hk e).2.1⟩)
  rw [h0, h1, h2, h4, h5, h6, h7] at hw
  refine Eq.trans (congrArg _ (eq_ix2 y)) hw

theorem claim : Cert.Claim := ⟨Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Pre_grouped.Gen.facts,
  Cert.Pre_routed.Gen.facts, frame_grouped, frame_routed, frame_reference, fun m g h => frame_reference m g trivial,
  frame_merge, frame_merge_ideal, frame_merge_reference, frame_projection, frame_projection_ideal,
  frame_projection_reference, same_result, trivial, same_merge, trivial, same_projection⟩

end Cert.Proof

end
